-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel12_Kernel12Ideal : Prop :=
  IdealRules.named_const.Statement Cert.Kernel12Ideal.κ "log2e_over_8" .f32 0x3E38AA3B#32 (((1 / 8) * (Real.log 2)⁻¹ : ℝ) : EReal)

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v44) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel12 : Cert.Kernel12.Facts) (hKernel12Ideal : Cert.Kernel12Ideal.Facts) (hReference12Ideal : Cert.Reference12Ideal.Facts) (hPre_finite_qkv : Cert.Pre_finite_qkv.Facts) (hPre_finite12 : Cert.Pre_finite12.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
-- ==== Pre_finite12.lean ====
abbrev S16x4096x3072 : Shape := ⟨3, ![16, 4096, 3072]⟩
abbrev S16x4096x16 : Shape := ⟨3, ![16, 4096, 16]⟩
abbrev S16x4096x2048 : Shape := ⟨3, ![16, 4096, 2048]⟩
abbrev S16x4096x2064 : Shape := ⟨3, ![16, 4096, 2064]⟩
abbrev S_ : Shape := ⟨0, ![]⟩

class Facts : Prop where
  slices_S16x4096x3072_S16x4096x2048_0_0_0 : S16x4096x3072.Slices ![0, 0, 0] S16x4096x2048
  bitsLt_bf16_f32 : FTy.bits .bf16 < FTy.bits .f32
  concatenates_S16x4096x2048_S16x4096x16_S16x4096x2064_d2 : Shape.Concatenates [S16x4096x2048, S16x4096x16] S16x4096x2064 2
  bcast_S_S16x4096x2064 : S_.BroadcastsInDim S16x4096x2064 (![] : Fin 0 → Fin S16x4096x2064.rank)

variable [Facts]

def fn {F : FTy → Type} [FloatOps F] (main_arg0 : FVec F S16x4096x3072 .bf16) (main_arg1 : FVec F S16x4096x16 .f32) : IVec S16x4096x2064 1 :=
  let main_v0 : FVec F S16x4096x2048 .bf16 := (extractStridedSlice S16x4096x2048 ![0, 0, 0] · slices_S16x4096x3072_S16x4096x2048_0_0_0) main_arg0
  let main_v1 : FVec F S16x4096x2048 .f32 := (extf .f32 · bitsLt_bf16_f32) main_v0
  let main_v2 : FVec F S16x4096x2064 .f32 := (fun a b => concatenate S16x4096x2064 2 [⟨S16x4096x2048, a⟩, ⟨S16x4096x16, b⟩] concatenates_S16x4096x2048_S16x4096x16_S16x4096x2064_d2) main_v1 main_arg1
  let main_v3 : FVec F S16x4096x2064 .f32 := Host.absf main_v2
  let main_cst : FVec F S_ .f32 := constant S_ .f32 0x7F800000#32
  let main_v4 : FVec F S16x4096x2064 .f32 := broadcastInDim S16x4096x2064 ![] bcast_S_S16x4096x2064 main_cst
  let main_v5 : IVec S16x4096x2064 1 := cmpf .olt main_v3 main_v4
  main_v5
-- ==== Pre_finite_qkv.lean ====
abbrev S16x4096x6144 : Shape := ⟨3, ![16, 4096, 6144]⟩
abbrev S2048 : Shape := ⟨1, ![2048]⟩
abbrev S16x4096x4096 : Shape := ⟨3, ![16, 4096, 4096]⟩
abbrev S_ : Shape := ⟨0, ![]⟩

class Facts : Prop where
  slices_S16x4096x6144_S16x4096x4096_0_0_0 : S16x4096x6144.Slices ![0, 0, 0] S16x4096x4096
  bitsLt_bf16_f32 : FTy.bits .bf16 < FTy.bits .f32
  bcast_S_S16x4096x4096 : S_.BroadcastsInDim S16x4096x4096 (![] : Fin 0 → Fin S16x4096x4096.rank)

variable [Facts]

def fn {F : FTy → Type} [FloatOps F] (main_arg0 : FVec F S16x4096x6144 .bf16) (main_arg1 : FVec F S2048 .f32) : IVec S16x4096x4096 1 :=
  let main_v0 : FVec F S16x4096x4096 .bf16 := (extractStridedSlice S16x4096x4096 ![0, 0, 0] · slices_S16x4096x6144_S16x4096x4096_0_0_0) main_arg0
  let main_v1 : FVec F S16x4096x4096 .f32 := (extf .f32 · bitsLt_bf16_f32) main_v0
  let main_v2 : FVec F S16x4096x4096 .f32 := Host.absf main_v1
  let main_cst : FVec F S_ .f32 := constant S_ .f32 0x7F800000#32
  let main_v3 : FVec F S16x4096x4096 .f32 := broadcastInDim S16x4096x4096 ![] bcast_S_S16x4096x4096 main_cst
  let main_v4 : IVec S16x4096x4096 1 := cmpf .olt main_v2 main_v3
  main_v4
-- ==== Kernel.lean ====
abbrev S16x4096x6144 : Shape := ⟨3, ![16, 4096, 6144]⟩
abbrev S2048 : Shape := ⟨1, ![2048]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4 : Shape := ⟨1, ![4]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x1x512 : Shape := ⟨3, ![4, 1, 512]⟩
abbrev S16x4096x2048 : Shape := ⟨3, ![16, 4096, 2048]⟩
abbrev S1x256x512 : Shape := ⟨3, ![1, 256, 512]⟩
abbrev S256x128 : Shape := ⟨2, ![256, 128]⟩
abbrev S1x256x1 : Shape := ⟨3, ![1, 256, 1]⟩
abbrev S1x1x1 : Shape := ⟨3, ![1, 1, 1]⟩
abbrev S1x1x512 : Shape := ⟨3, ![1, 1, 512]⟩
abbrev S256x512 : Shape := ⟨2, ![256, 512]⟩
abbrev S1x1 : Shape := ⟨2, ![1, 1]⟩
abbrev S1x512 : Shape := ⟨2, ![1, 512]⟩

abbrev nBuf : Space → Nat
  | .hbm => 125
  | .vmem => 25
  | .smem => 0
  | _ => 0

abbrev bufTy : (tb : Table) → Fin (tcTables nBuf tb) → BufTy
  | .hbm, ⟨0, _⟩ => ⟨S16x4096x6144, .bf16⟩
  | .hbm, ⟨1, _⟩ => ⟨S2048, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S4096, .f32⟩
  | .hbm, ⟨19, _⟩ => ⟨S4096x1, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S256, .f32⟩
  | .hbm, ⟨35, _⟩ => ⟨S256, .i32⟩
  | .hbm, ⟨36, _⟩ => ⟨S1x256, .i32⟩
  | .hbm, ⟨37, _⟩ => ⟨S_, .i32⟩
  | .hbm, ⟨38, _⟩ => ⟨S_, .i32⟩
  | .hbm, ⟨39, _⟩ => ⟨S1x256, .i32⟩
  | .hbm, ⟨40, _⟩ => ⟨S1x256, .i32⟩
  | .hbm, ⟨41, _⟩ => ⟨S1x256, .i32⟩
  | .hbm, ⟨42, _⟩ => ⟨S_, .i32⟩
  | .hbm, ⟨43, _⟩ => ⟨S1x256, .i32⟩
  | .hbm, ⟨44, _⟩ => ⟨S1x256, .i1⟩
  | .hbm, ⟨45, _⟩ => ⟨S1x256, .i32⟩
  | .hbm, ⟨46, _⟩ => ⟨S1x256, .i32⟩
  | .hbm, ⟨47, _⟩ => ⟨S_, .i32⟩
  | .hbm, ⟨48, _⟩ => ⟨S1x256, .i32⟩
  | .hbm, ⟨49, _⟩ => ⟨S1x256, .i1⟩
  | .hbm, ⟨50, _⟩ => ⟨S1x256, .i1⟩
  | .hbm, ⟨51, _⟩ => ⟨S_, .i32⟩
  | .hbm, ⟨52, _⟩ => ⟨S1x256, .i32⟩
  | .hbm, ⟨53, _⟩ => ⟨S1x256, .i32⟩
  | .hbm, ⟨54, _⟩ => ⟨S1x256, .i32⟩
  | .hbm, ⟨55, _⟩ => ⟨S256, .i32⟩
  | .hbm, ⟨56, _⟩ => ⟨S256x1, .i32⟩
  | .hbm, ⟨57, _⟩ => ⟨S_, .i32⟩
  | .hbm, ⟨58, _⟩ => ⟨S_, .i32⟩
  | .hbm, ⟨59, _⟩ => ⟨S256x1, .i32⟩
  | .hbm, ⟨60, _⟩ => ⟨S256x1, .i32⟩
  | .hbm, ⟨61, _⟩ => ⟨S256x1, .i32⟩
  | .hbm, ⟨62, _⟩ => ⟨S_, .i32⟩
  | .hbm, ⟨63, _⟩ => ⟨S256x1, .i32⟩
  | .hbm, ⟨64, _⟩ => ⟨S256x1, .i1⟩
  | .hbm, ⟨65, _⟩ => ⟨S256x1, .i32⟩
  | .hbm, ⟨66, _⟩ => ⟨S256x1, .i32⟩
  | .hbm, ⟨67, _⟩ => ⟨S_, .i32⟩
  | .hbm, ⟨68, _⟩ => ⟨S256x1, .i32⟩
  | .hbm, ⟨69, _⟩ => ⟨S256x1, .i1⟩
  | .hbm, ⟨70, _⟩ => ⟨S256x1, .i1⟩
  | .hbm, ⟨71, _⟩ => ⟨S_, .i32⟩
  | .hbm, ⟨72, _⟩ => ⟨S256x1, .i32⟩
  | .hbm, ⟨73, _⟩ => ⟨S256x1, .i32⟩
  | .hbm, ⟨74, _⟩ => ⟨S256x1, .i32⟩
  | .hbm, ⟨75, _⟩ => ⟨S256x256, .i32⟩
  | .hbm, ⟨76, _⟩ => ⟨S256x256, .i32⟩
  | .hbm, ⟨77, _⟩ => ⟨S256x256, .i1⟩
  | .hbm, ⟨78, _⟩ => ⟨S1x256x256, .i1⟩
  | .hbm, ⟨79, _⟩ => ⟨S4x1x1, .f32⟩
  | .hbm, ⟨80, _⟩ => ⟨S256x1, .f32⟩
  | .hbm, ⟨81, _⟩ => ⟨S1x256, .f32⟩
  | .hbm, ⟨82, _⟩ => ⟨S256x256, .f32⟩
  | .hbm, ⟨83, _⟩ => ⟨S256x256, .f32⟩
  | .hbm, ⟨84, _⟩ => ⟨S256x256, .f32⟩
  | .hbm, ⟨85, _⟩ => ⟨S256x256, .f32⟩
  | .hbm, ⟨86, _⟩ => ⟨S1x256x256, .f32⟩
  | .hbm, ⟨87, _⟩ => ⟨S4x256x256, .f32⟩
  | .hbm, ⟨88, _⟩ => ⟨S4x256x256, .f32⟩
  | .hbm, ⟨89, _⟩ => ⟨S4x256x256, .f32⟩
  | .hbm, ⟨90, _⟩ => ⟨S4x256x256, .f32⟩
  | .hbm, ⟨91, _⟩ => ⟨S_, .f32⟩
  | .hbm, ⟨92, _⟩ => ⟨S_, .f32⟩
  | .hbm, ⟨93, _⟩ => ⟨S4x256x256, .i1⟩
  | .hbm, ⟨94, _⟩ => ⟨S4x256x256, .f32⟩
  | .hbm, ⟨95, _⟩ => ⟨S4x256x256, .f32⟩
  | .hbm, ⟨96, _⟩ => ⟨S4x1, .f32⟩
  | .hbm, ⟨97, _⟩ => ⟨S1x256, .f32⟩
  | .hbm, ⟨98, _⟩ => ⟨S_, .f32⟩
  | .hbm, ⟨99, _⟩ => ⟨S1x256, .f32⟩
  | .hbm, ⟨100, _⟩ => ⟨S1x256, .f32⟩
  | .hbm, ⟨101, _⟩ => ⟨S4x256, .f32⟩
  | .hbm, ⟨102, _⟩ => ⟨S4x256, .f32⟩
  | .hbm, ⟨103, _⟩ => ⟨S4x256, .f32⟩
  | .hbm, ⟨104, _⟩ => ⟨S4x256, .f32⟩
  | .hbm, ⟨105, _⟩ => ⟨S4x256x1, .f32⟩
  | .hbm, ⟨106, _⟩ => ⟨S4x1, .f32⟩
  | .hbm, ⟨107, _⟩ => ⟨S1x256, .f32⟩
  | .hbm, ⟨108, _⟩ => ⟨S_, .f32⟩
  | .hbm, ⟨109, _⟩ => ⟨S1x256, .f32⟩
  | .hbm, ⟨110, _⟩ => ⟨S1x256, .f32⟩
  | .hbm, ⟨111, _⟩ => ⟨S4x256, .f32⟩
  | .hbm, ⟨112, _⟩ => ⟨S4x256, .f32⟩
  | .hbm, ⟨113, _⟩ => ⟨S4x256, .f32⟩
  | .hbm, ⟨114, _⟩ => ⟨S4x256, .f32⟩
  | .hbm, ⟨115, _⟩ => ⟨S4x256x1, .f32⟩
  | .hbm, ⟨116, _⟩ => ⟨S_, .f32⟩
  | .hbm, ⟨117, _⟩ => ⟨S4, .f32⟩
  | .hbm, ⟨118, _⟩ => ⟨S4, .f32⟩
  | .hbm, ⟨119, _⟩ => ⟨S4, .f32⟩
  | .hbm, ⟨120, _⟩ => ⟨S4x1x1, .f32⟩
  | .hbm, ⟨121, _⟩ => ⟨S4096x128, .f32⟩
  | .hbm, ⟨122, _⟩ => ⟨S4096x128, .f32⟩
  | .hbm, ⟨123, _⟩ => ⟨S4x1x512, .f32⟩
  | .hbm, ⟨124, _⟩ => ⟨S16x4096x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x256, .f32⟩
  | .local _ .vmem, ⟨13, _⟩ => ⟨S1x256x256, .f32⟩
  | .local _ .vmem, ⟨14, _⟩ => ⟨S1x256x1, .f32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S1x1x1, .f32⟩
  | .local _ .vmem, ⟨19, _⟩ => ⟨S1x1x1, .f32⟩
  | .local _ .vmem, ⟨20, _⟩ => ⟨S1x1x512, .f32⟩
  | .local _ .vmem, ⟨21, _⟩ => ⟨S1x1x512, .f32⟩
  | .local _ .vmem, ⟨22, _⟩ => ⟨S1x256x512, .bf16⟩
  | .local _ .vmem, ⟨23, _⟩ => ⟨S1x256x512, .bf16⟩
  | .local _ .vmem, ⟨24, _⟩ => ⟨S256x512, .f32⟩
  | _, _ => ⟨S16x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_7 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_8 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_9 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_10 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![16, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S16x4096x6144 : Shape := ⟨3, ![16, 4096, 6144]⟩
abbrev S2048 : Shape := ⟨1, ![2048]⟩
abbrev S16x4096x1024 : Shape := ⟨3, ![16, 4096, 1024]⟩
abbrev S16x4096x4x256 : Shape := ⟨4, ![16, 4096, 4, 256]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S16x4096x4x128 : Shape := ⟨4, ![16, 4096, 4, 128]⟩
abbrev S16x4096x2048 : Shape := ⟨3, ![16, 4096, 2048]⟩
abbrev S16x4096x4x512 : Shape := ⟨4, ![16, 4096, 4, 512]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S16x4x256x512 : Shape := ⟨4, ![16, 4, 256, 512]⟩
abbrev S16x64x64x4x256 : Shape := ⟨5, ![16, 64, 64, 4, 256]⟩
abbrev S64x16x64x4x256 : Shape := ⟨5, ![64, 16, 64, 4, 256]⟩
abbrev S16x64x64x4x512 : Shape := ⟨5, ![16, 64, 64, 4, 512]⟩
abbrev S64x16x64x4x512 : Shape := ⟨5, ![64, 16, 64, 4, 512]⟩
abbrev S1x16x64x4x256 : Shape := ⟨5, ![1, 16, 64, 4, 256]⟩
abbrev S16x64x4x256 : Shape := ⟨4, ![16, 64, 4, 256]⟩
abbrev S1x16x64x4x512 : Shape := ⟨5, ![1, 16, 64, 4, 512]⟩
abbrev S16x64x4x512 : Shape := ⟨4, ![16, 64, 4, 512]⟩
abbrev S16x4x64x64 : Shape := ⟨4, ![16, 4, 64, 64]⟩
abbrev S1x4x64x64 : Shape := ⟨4, ![1, 4, 64, 64]⟩
abbrev S16x4x512x64 : Shape := ⟨4, ![16, 4, 512, 64]⟩
abbrev S1x64x4x1 : Shape := ⟨4, ![1, 64, 4, 1]⟩
abbrev S1x4x1x1 : Shape := ⟨4, ![1, 4, 1, 1]⟩
abbrev S4x512 : Shape := ⟨2, ![4, 512]⟩
abbrev S16x4096x4 : Shape := ⟨3, ![16, 4096, 4]⟩
abbrev S16x4096x4x1 : Shape := ⟨4, ![16, 4096, 4, 1]⟩
abbrev S1x1x4x512 : Shape := ⟨4, ![1, 1, 4, 512]⟩

abbrev nBuf : Space → Nat
  | .hbm => 237
  | .vmem => 0
  | .smem => 0
  | _ => 0

abbrev hbmTy0_0 (i : Nat) : BufTy := match i % 128 with
  | 0 => ⟨S16x4096x6144, .bf16⟩
  | 1 => ⟨S2048, .f32⟩
  | 2 => ⟨S16x4096x6144, .f32⟩
  | 3 => ⟨S16x4096x1024, .f32⟩
  | 4 => ⟨S16x4096x4x256, .f32⟩
  | 5 => ⟨S128, .f32⟩
  | 6 => ⟨S_, .f32⟩
  | 7 => ⟨S128, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S_, .f32⟩
  | 16 => ⟨S128, .f32⟩
  | 17 => ⟨S128, .f32⟩
  | 18 => ⟨S_, .f32⟩
  | 19 => ⟨S128, .f32⟩
  | 20 => ⟨S128, .f32⟩
  | 21 => ⟨S4096, .f32⟩
  | 22 => ⟨S4096x1, .f32⟩
  | 23 => ⟨S1x128, .f32⟩
  | 24 => ⟨S4096x128, .f32⟩
  | 25 => ⟨S4096x128, .f32⟩
  | 26 => ⟨S4096x128, .f32⟩
  | 27 => ⟨S4096x128, .f32⟩
  | 28 => ⟨S1x4096x1x128, .f32⟩
  | 29 => ⟨S4096x128, .f32⟩
  | 30 => ⟨S1x4096x1x128, .f32⟩
  | 31 => ⟨S16x4096x4x128, .f32⟩
  | 32 => ⟨S16x4096x4x128, .f32⟩
  | 33 => ⟨S16x4096x4x128, .f32⟩
  | 34 => ⟨S16x4096x4x128, .f32⟩
  | 35 => ⟨S16x4096x4x128, .f32⟩
  | 36 => ⟨S16x4096x4x128, .f32⟩
  | 37 => ⟨S16x4096x4x128, .f32⟩
  | 38 => ⟨S16x4096x4x128, .f32⟩
  | 39 => ⟨S16x4096x4x128, .f32⟩
  | 40 => ⟨S16x4096x4x128, .f32⟩
  | 41 => ⟨S16x4096x4x128, .f32⟩
  | 42 => ⟨S16x4096x4x128, .f32⟩
  | 43 => ⟨S16x4096x4x256, .f32⟩
  | 44 => ⟨S16x4096x1024, .f32⟩
  | 45 => ⟨S16x4096x4x256, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S_, .f32⟩
  | 57 => ⟨S128, .f32⟩
  | 58 => ⟨S128, .f32⟩
  | 59 => ⟨S_, .f32⟩
  | 60 => ⟨S128, .f32⟩
  | 61 => ⟨S128, .f32⟩
  | 62 => ⟨S4096, .f32⟩
  | 63 => ⟨S4096x1, .f32⟩
  | 64 => ⟨S1x128, .f32⟩
  | 65 => ⟨S4096x128, .f32⟩
  | 66 => ⟨S4096x128, .f32⟩
  | 67 => ⟨S4096x128, .f32⟩
  | 68 => ⟨S4096x128, .f32⟩
  | 69 => ⟨S1x4096x1x128, .f32⟩
  | 70 => ⟨S4096x128, .f32⟩
  | 71 => ⟨S1x4096x1x128, .f32⟩
  | 72 => ⟨S16x4096x4x128, .f32⟩
  | 73 => ⟨S16x4096x4x128, .f32⟩
  | 74 => ⟨S16x4096x4x128, .f32⟩
  | 75 => ⟨S16x4096x4x128, .f32⟩
  | 76 => ⟨S16x4096x4x128, .f32⟩
  | 77 => ⟨S16x4096x4x128, .f32⟩
  | 78 => ⟨S16x4096x4x128, .f32⟩
  | 79 => ⟨S16x4096x4x128, .f32⟩
  | 80 => ⟨S16x4096x4x128, .f32⟩
  | 81 => ⟨S16x4096x4x128, .f32⟩
  | 82 => ⟨S16x4096x4x128, .f32⟩
  | 83 => ⟨S16x4096x4x128, .f32⟩
  | 84 => ⟨S16x4096x4x256, .f32⟩
  | 85 => ⟨S_, .f32⟩
  | 86 => ⟨S16x4096x4x256, .f32⟩
  | 87 => ⟨S16x4096x4x256, .f32⟩
  | 88 => ⟨S16x4096x2048, .f32⟩
  | 89 => ⟨S16x4096x4x512, .f32⟩
  | 90 => ⟨S4, .f32⟩
  | 91 => ⟨S_, .f32⟩
  | 92 => ⟨S4, .f32⟩
  | 93 => ⟨S4, .f32⟩
  | 94 => ⟨S_, .f32⟩
  | 95 => ⟨S4, .f32⟩
  | 96 => ⟨S4, .f32⟩
  | 97 => ⟨S4, .f32⟩
  | 98 => ⟨S4, .f32⟩
  | 99 => ⟨S4, .f32⟩
  | 100 => ⟨S64, .f32⟩
  | 101 => ⟨S4x1x1, .f32⟩
  | 102 => ⟨S64x1, .f32⟩
  | 103 => ⟨S1x64, .f32⟩
  | 104 => ⟨S64x64, .f32⟩
  | 105 => ⟨S64x64, .f32⟩
  | 106 => ⟨S64x64, .f32⟩
  | 107 => ⟨S64x64, .f32⟩
  | 108 => ⟨S1x64x64, .f32⟩
  | 109 => ⟨S4x64x64, .f32⟩
  | 110 => ⟨S4x64x64, .f32⟩
  | 111 => ⟨S4x64x64, .f32⟩
  | 112 => ⟨S4x64x64, .f32⟩
  | 113 => ⟨S1x4, .f32⟩
  | 114 => ⟨S64x1, .f32⟩
  | 115 => ⟨S_, .f32⟩
  | 116 => ⟨S64x1, .f32⟩
  | 117 => ⟨S64x1, .f32⟩
  | 118 => ⟨S64x4, .f32⟩
  | 119 => ⟨S64x4, .f32⟩
  | 120 => ⟨S64x4, .f32⟩
  | 121 => ⟨S64x4, .f32⟩
  | 122 => ⟨S1x4, .f32⟩
  | 123 => ⟨S64x1, .f32⟩
  | 124 => ⟨S_, .f32⟩
  | 125 => ⟨S64x1, .f32⟩
  | 126 => ⟨S64x1, .f32⟩
  | 127 => ⟨S64x4, .f32⟩
  | _ => ⟨S16x4096x6144, .bf16⟩

abbrev hbmTy0_1 (i : Nat) : BufTy := match i % 128 with
  | 0 => ⟨S64x4, .f32⟩
  | 1 => ⟨S64x4, .f32⟩
  | 2 => ⟨S64x4, .f32⟩
  | 3 => ⟨S_, .f32⟩
  | 4 => ⟨S4, .f32⟩
  | 5 => ⟨S4, .f32⟩
  | 6 => ⟨S4, .f32⟩
  | 7 => ⟨S_, .f32⟩
  | 8 => ⟨S16x4x256x512, .f32⟩
  | 9 => ⟨S16x64x64x4x256, .f32⟩
  | 10 => ⟨S64x16x64x4x256, .f32⟩
  | 11 => ⟨S16x64x64x4x256, .f32⟩
  | 12 => ⟨S64x16x64x4x256, .f32⟩
  | 13 => ⟨S16x64x64x4x512, .f32⟩
  | 14 => ⟨S64x16x64x4x512, .f32⟩
  | 15 => ⟨S_, .f32⟩
  | 16 => ⟨S64x16x64x4x512, .f32⟩
  | 17 => ⟨S_, .i32⟩
  | 18 => ⟨S64x16x64x4x256, .f32⟩
  | 19 => ⟨S64x16x64x4x256, .f32⟩
  | 20 => ⟨S64x16x64x4x512, .f32⟩
  | 21 => ⟨S4x64x64, .f32⟩
  | 22 => ⟨S64x4, .f32⟩
  | 23 => ⟨S4, .f32⟩
  | 24 => ⟨S64x4, .f32⟩
  | 25 => ⟨S_, .i32⟩
  | 26 => ⟨S16x4x256x512, .f32⟩
  | 27 => ⟨S64x16x64x4x512, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S1x16x64x4x256, .f32⟩
  | 35 => ⟨S16x64x4x256, .f32⟩
  | 36 => ⟨S_, .i32⟩
  | 37 => ⟨S_, .i32⟩
  | 38 => ⟨S_, .i32⟩
  | 39 => ⟨S_, .i32⟩
  | 40 => ⟨S1x16x64x4x256, .f32⟩
  | 41 => ⟨S16x64x4x256, .f32⟩
  | 42 => ⟨S_, .i32⟩
  | 43 => ⟨S_, .i32⟩
  | 44 => ⟨S_, .i32⟩
  | 45 => ⟨S_, .i32⟩
  | 46 => ⟨S1x16x64x4x512, .f32⟩
  | 47 => ⟨S16x64x4x512, .f32⟩
  | 48 => ⟨S16x4x64x64, .f32⟩
  | 49 => ⟨S1x4x64x64, .f32⟩
  | 50 => ⟨S16x4x64x64, .f32⟩
  | 51 => ⟨S16x4x64x64, .f32⟩
  | 52 => ⟨S16x4x512x64, .f32⟩
  | 53 => ⟨S16x64x4x512, .f32⟩
  | 54 => ⟨S16x4x512x64, .f32⟩
  | 55 => ⟨S16x64x4x512, .f32⟩
  | 56 => ⟨S1x64x4x1, .f32⟩
  | 57 => ⟨S16x64x4x512, .f32⟩
  | 58 => ⟨S16x64x4x512, .f32⟩
  | 59 => ⟨S16x64x4x512, .f32⟩
  | 60 => ⟨S1x4x1x1, .f32⟩
  | 61 => ⟨S16x4x256x512, .f32⟩
  | 62 => ⟨S16x4x256x512, .f32⟩
  | 63 => ⟨S1x64x4x1, .f32⟩
  | 64 => ⟨S16x64x4x256, .f32⟩
  | 65 => ⟨S16x64x4x256, .f32⟩
  | 66 => ⟨S16x4x256x512, .f32⟩
  | 67 => ⟨S16x4x256x512, .f32⟩
  | 68 => ⟨S1x16x64x4x512, .f32⟩
  | 69 => ⟨S_, .i32⟩
  | 70 => ⟨S_, .i32⟩
  | 71 => ⟨S_, .i32⟩
  | 72 => ⟨S_, .i32⟩
  | 73 => ⟨S64x16x64x4x512, .f32⟩
  | 74 => ⟨S_, .i32⟩
  | 75 => ⟨S_, .i32⟩
  | 76 => ⟨S16x64x64x4x512, .f32⟩
  | 77 => ⟨S16x4096x4x512, .f32⟩
  | 78 => ⟨S4x512, .f32⟩
  | 79 => ⟨S16x4096x4x512, .f32⟩
  | 80 => ⟨S_, .f32⟩
  | 81 => ⟨S16x4096x4, .f32⟩
  | 82 => ⟨S16x4096x4x1, .f32⟩
  | 83 => ⟨S_, .f32⟩
  | 84 => ⟨S16x4096x4x1, .f32⟩
  | 85 => ⟨S16x4096x4x1, .f32⟩
  | 86 => ⟨S_, .f32⟩
  | 87 => ⟨S16x4096x4x1, .f32⟩
  | 88 => ⟨S16x4096x4x1, .f32⟩
  | 89 => ⟨S16x4096x4x1, .f32⟩
  | 90 => ⟨S16x4096x4x512, .f32⟩
  | 91 => ⟨S16x4096x4x512, .f32⟩
  | 92 => ⟨S1x1x4x512, .f32⟩
  | 93 => ⟨S16x4096x4x512, .f32⟩
  | 94 => ⟨S16x4096x4x512, .f32⟩
  | 95 => ⟨S16x4096x2048, .bf16⟩
  | 96 => ⟨S16x4096x2048, .f32⟩
  | 97 => ⟨S16x4096x2048, .f32⟩
  | 98 => ⟨S16x4096x2048, .f32⟩
  | 99 => ⟨S16x4096x2048, .f32⟩
  | 100 => ⟨S_, .f32⟩
  | 101 => ⟨S16x4096x2048, .f32⟩
  | 102 => ⟨S16x4096x2048, .f32⟩
  | 103 => ⟨S_, .f32⟩
  | 104 => ⟨S16x4096x2048, .f32⟩
  | 105 => ⟨S16x4096x2048, .f32⟩
  | 106 => ⟨S16x4096x2048, .f32⟩
  | 107 => ⟨S16x4096x2048, .f32⟩
  | 108 => ⟨S16x4096x2048, .bf16⟩
  | _ => ⟨S16x4096x6144, .bf16⟩

abbrev hbmTy (i : Nat) : BufTy := match i / 128 with
  | 0 => hbmTy0_0 i
  | 1 => hbmTy0_1 i
  | _ => ⟨S16x4096x6144, .bf16⟩

abbrev bufTy : (tb : Table) → Fin (tcTables nBuf tb) → BufTy
  | .hbm, ⟨i, _⟩ => hbmTy i
  | _, _ => ⟨S16x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_v44 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_v47 : Ref sig .tc := ⟨.hbm, 58, rfl⟩
abbrev main_cst_8 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_9 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_10 : Ref sig .tc := ⟨.hbm, 91, rfl⟩
abbrev main_v78 : Ref sig .tc := ⟨.hbm, 92, rfl⟩
abbrev main_v79 : Ref sig .tc := ⟨.hbm, 93, rfl⟩
abbrev main_cst_11 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_cst_12 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_cst_13 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_cst_14 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_15 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_cst_16 : Ref sig .tc := ⟨.hbm, 143, rfl⟩
abbrev main_v124 : Ref sig .tc := ⟨.hbm, 144, rfl⟩
abbrev main_c : Ref sig .tc := ⟨.hbm, 145, rfl⟩
abbrev main_v125_0 : Ref sig .tc := ⟨.hbm, 146, rfl⟩
abbrev main_v125_1 : Ref sig .tc := ⟨.hbm, 147, rfl⟩
abbrev main_v125_2 : Ref sig .tc := ⟨.hbm, 148, rfl⟩
abbrev main_v125_3 : Ref sig .tc := ⟨.hbm, 149, rfl⟩
abbrev main_v125_4 : Ref sig .tc := ⟨.hbm, 150, rfl⟩
abbrev main_v125_5 : Ref sig .tc := ⟨.hbm, 151, rfl⟩
abbrev main_v125_6 : Ref sig .tc := ⟨.hbm, 152, rfl⟩
abbrev main_v125_7 : Ref sig .tc := ⟨.hbm, 153, rfl⟩
abbrev main_v125_8 : Ref sig .tc := ⟨.hbm, 154, rfl⟩
abbrev main_v125_9 : Ref sig .tc := ⟨.hbm, 155, rfl⟩
abbrev main_while0c_c_29 : Ref sig .tc := ⟨.hbm, 156, rfl⟩
abbrev main_while0c_v148 : Ref sig .tc := ⟨.hbm, 157, rfl⟩
abbrev main_while0b_call0_c : Ref sig .tc := ⟨.hbm, 158, rfl⟩
abbrev main_while0b_call0_c_0 : Ref sig .tc := ⟨.hbm, 159, rfl⟩
abbrev main_while0b_call0_c_1 : Ref sig .tc := ⟨.hbm, 160, rfl⟩
abbrev main_while0b_call0_c_2 : Ref sig .tc := ⟨.hbm, 161, rfl⟩
abbrev main_while0b_call0_v0 : Ref sig .tc := ⟨.hbm, 162, rfl⟩
abbrev main_while0b_v148 : Ref sig .tc := ⟨.hbm, 163, rfl⟩
abbrev main_while0b_call1_c : Ref sig .tc := ⟨.hbm, 164, rfl⟩
abbrev main_while0b_call1_c_0 : Ref sig .tc := ⟨.hbm, 165, rfl⟩
abbrev main_while0b_call1_c_1 : Ref sig .tc := ⟨.hbm, 166, rfl⟩
abbrev main_while0b_call1_c_2 : Ref sig .tc := ⟨.hbm, 167, rfl⟩
abbrev main_while0b_call1_v0 : Ref sig .tc := ⟨.hbm, 168, rfl⟩
abbrev main_while0b_v149 : Ref sig .tc := ⟨.hbm, 169, rfl⟩
abbrev main_while0b_call2_c : Ref sig .tc := ⟨.hbm, 170, rfl⟩
abbrev main_while0b_call2_c_0 : Ref sig .tc := ⟨.hbm, 171, rfl⟩
abbrev main_while0b_call2_c_1 : Ref sig .tc := ⟨.hbm, 172, rfl⟩
abbrev main_while0b_call2_c_2 : Ref sig .tc := ⟨.hbm, 173, rfl⟩
abbrev main_while0b_call2_v0 : Ref sig .tc := ⟨.hbm, 174, rfl⟩
abbrev main_while0b_v150 : Ref sig .tc := ⟨.hbm, 175, rfl⟩
abbrev main_while0b_v151 : Ref sig .tc := ⟨.hbm, 176, rfl⟩
abbrev main_while0b_v152 : Ref sig .tc := ⟨.hbm, 177, rfl⟩
abbrev main_while0b_v153 : Ref sig .tc := ⟨.hbm, 178, rfl⟩
abbrev main_while0b_v154 : Ref sig .tc := ⟨.hbm, 179, rfl⟩
abbrev main_while0b_v155 : Ref sig .tc := ⟨.hbm, 180, rfl⟩
abbrev main_while0b_v156 : Ref sig .tc := ⟨.hbm, 181, rfl⟩
abbrev main_while0b_v157 : Ref sig .tc := ⟨.hbm, 182, rfl⟩
abbrev main_while0b_v158 : Ref sig .tc := ⟨.hbm, 183, rfl⟩
abbrev main_while0b_v159 : Ref sig .tc := ⟨.hbm, 184, rfl⟩
abbrev main_while0b_v160 : Ref sig .tc := ⟨.hbm, 185, rfl⟩
abbrev main_while0b_v161 : Ref sig .tc := ⟨.hbm, 186, rfl⟩
abbrev main_while0b_v162 : Ref sig .tc := ⟨.hbm, 187, rfl⟩
abbrev main_while0b_v163 : Ref sig .tc := ⟨.hbm, 188, rfl⟩
abbrev main_while0b_v164 : Ref sig .tc := ⟨.hbm, 189, rfl⟩
abbrev main_while0b_v165 : Ref sig .tc := ⟨.hbm, 190, rfl⟩
abbrev main_while0b_v166 : Ref sig .tc := ⟨.hbm, 191, rfl⟩
abbrev main_while0b_v167 : Ref sig .tc := ⟨.hbm, 192, rfl⟩
abbrev main_while0b_v168 : Ref sig .tc := ⟨.hbm, 193, rfl⟩
abbrev main_while0b_v169 : Ref sig .tc := ⟨.hbm, 194, rfl⟩
abbrev main_while0b_v170 : Ref sig .tc := ⟨.hbm, 195, rfl⟩
abbrev main_while0b_call3_v0 : Ref sig .tc := ⟨.hbm, 196, rfl⟩
abbrev main_while0b_call3_c : Ref sig .tc := ⟨.hbm, 197, rfl⟩
abbrev main_while0b_call3_c_0 : Ref sig .tc := ⟨.hbm, 198, rfl⟩
abbrev main_while0b_call3_c_1 : Ref sig .tc := ⟨.hbm, 199, rfl⟩
abbrev main_while0b_call3_c_2 : Ref sig .tc := ⟨.hbm, 200, rfl⟩
abbrev main_while0b_v171 : Ref sig .tc := ⟨.hbm, 201, rfl⟩
abbrev main_while0b_c_29 : Ref sig .tc := ⟨.hbm, 202, rfl⟩
abbrev main_while0b_v172 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_cst_17 : Ref sig .tc := ⟨.hbm, 208, rfl⟩
abbrev main_v130 : Ref sig .tc := ⟨.hbm, 209, rfl⟩
abbrev main_v131 : Ref sig .tc := ⟨.hbm, 210, rfl⟩
abbrev main_cst_18 : Ref sig .tc := ⟨.hbm, 211, rfl⟩
abbrev main_v132 : Ref sig .tc := ⟨.hbm, 212, rfl⟩
abbrev main_v133 : Ref sig .tc := ⟨.hbm, 213, rfl⟩
abbrev main_cst_19 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_call4_v0 : Ref sig .tc := ⟨.hbm, 226, rfl⟩
abbrev main_call4_v1 : Ref sig .tc := ⟨.hbm, 227, rfl⟩
abbrev main_call4_cst : Ref sig .tc := ⟨.hbm, 228, rfl⟩
abbrev main_call4_v2 : Ref sig .tc := ⟨.hbm, 229, rfl⟩
abbrev main_call4_v3 : Ref sig .tc := ⟨.hbm, 230, rfl⟩
abbrev main_call4_cst_0 : Ref sig .tc := ⟨.hbm, 231, rfl⟩
abbrev main_call4_v4 : Ref sig .tc := ⟨.hbm, 232, rfl⟩
abbrev main_call4_v5 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S65536x1024 : Shape := ⟨2, ![65536, 1024]⟩
abbrev S1024 : Shape := ⟨1, ![1024]⟩
abbrev S1024x6144 : Shape := ⟨2, ![1024, 6144]⟩
abbrev S1x1024 : Shape := ⟨2, ![1, 1024]⟩
abbrev S65536x6144 : Shape := ⟨2, ![65536, 6144]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6144, .f32⟩
  | .hbm, ⟨3, _⟩ => ⟨S1024x6144, .bf16⟩
  | .hbm, ⟨4, _⟩ => ⟨S1x1024, .f32⟩
  | .hbm, ⟨5, _⟩ => ⟨S65536x6144, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S65536x1024 : Shape := ⟨2, ![65536, 1024]⟩
abbrev S1024 : Shape := ⟨1, ![1024]⟩
abbrev S1024x6144 : Shape := ⟨2, ![1024, 6144]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x6144 : Shape := ⟨2, ![65536, 6144]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6144, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x6144, .f32⟩
  | .hbm, ⟨20, _⟩ => ⟨S65536x6144, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x3072 : Shape := ⟨2, ![1024, 3072]⟩
abbrev S1x1024 : Shape := ⟨2, ![1, 1024]⟩
abbrev S65536x3072 : Shape := ⟨2, ![65536, 3072]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S65536x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S65536x1024 : Shape := ⟨2, ![65536, 1024]⟩
abbrev S1024 : Shape := ⟨1, ![1024]⟩
abbrev S1024x3072 : Shape := ⟨2, ![1024, 3072]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3072, .f32⟩
  | .hbm, ⟨20, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x5152 : Shape := ⟨2, ![1024, 5152]⟩
abbrev S1024x5120 : Shape := ⟨2, ![1024, 5120]⟩
abbrev S1024x32 : Shape := ⟨2, ![1024, 32]⟩
abbrev S_ : Shape := ⟨0, ![]⟩
abbrev S1024x128 : Shape := ⟨2, ![1024, 128]⟩
abbrev S1x1024 : Shape := ⟨2, ![1, 1024]⟩
abbrev S65536x5120 : Shape := ⟨2, ![65536, 5120]⟩
abbrev S65536x128 : Shape := ⟨2, ![65536, 128]⟩
abbrev S1024x1024 : Shape := ⟨2, ![1024, 1024]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5152, .f32⟩
  | .hbm, ⟨3, _⟩ => ⟨S1024x5120, .f32⟩
  | .hbm, ⟨4, _⟩ => ⟨S1024x5120, .bf16⟩
  | .hbm, ⟨5, _⟩ => ⟨S1024x32, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S1x1024, .f32⟩
  | .hbm, ⟨11, _⟩ => ⟨S65536x5120, .bf16⟩
  | .hbm, ⟨12, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S65536x1024 : Shape := ⟨2, ![65536, 1024]⟩
abbrev S1024 : Shape := ⟨1, ![1024]⟩
abbrev S1024x5152 : Shape := ⟨2, ![1024, 5152]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5152 : Shape := ⟨2, ![65536, 5152]⟩
abbrev S65536x32 : Shape := ⟨2, ![65536, 32]⟩
abbrev S65536x128 : Shape := ⟨2, ![65536, 128]⟩
abbrev S65536x5120 : Shape := ⟨2, ![65536, 5120]⟩

abbrev nBuf : Space → Nat
  | .hbm => 26
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5152, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x5152, .f32⟩
  | .hbm, ⟨20, _⟩ => ⟨S65536x32, .f32⟩
  | .hbm, ⟨21, _⟩ => ⟨S_, .i32⟩
  | .hbm, ⟨22, _⟩ => ⟨S_, .f32⟩
  | .hbm, ⟨23, _⟩ => ⟨S65536x128, .f32⟩
  | .hbm, ⟨24, _⟩ => ⟨S65536x5120, .f32⟩
  | .hbm, ⟨25, _⟩ => ⟨S65536x5120, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel5.lean ====
abbrev S65536x1024 : Shape := ⟨2, ![65536, 1024]⟩
abbrev S1024 : Shape := ⟨1, ![1024]⟩
abbrev S1024x2048 : Shape := ⟨2, ![1024, 2048]⟩
abbrev S1x1024 : Shape := ⟨2, ![1, 1024]⟩
abbrev S65536x2048 : Shape := ⟨2, ![65536, 2048]⟩
abbrev S128x1024x512 : Shape := ⟨3, ![128, 1024, 512]⟩
abbrev S1024x1024 : Shape := ⟨2, ![1024, 1024]⟩
abbrev S2x1024x512 : Shape := ⟨3, ![2, 1024, 512]⟩
abbrev S1024x1 : Shape := ⟨2, ![1024, 1]⟩
abbrev S512x1024 : Shape := ⟨2, ![512, 1024]⟩
abbrev S1024x512 : Shape := ⟨2, ![1024, 512]⟩
abbrev S1x1024x512 : Shape := ⟨3, ![1, 1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S65536x2048, .f32⟩
  | .hbm, ⟨6, _⟩ => ⟨S128x1024x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S2x1024x512, .bf16⟩
  | .local _ .vmem, ⟨8, _⟩ => ⟨S2x1024x512, .bf16⟩
  | .local _ .vmem, ⟨9, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S65536x1024 : Shape := ⟨2, ![65536, 1024]⟩
abbrev S1024 : Shape := ⟨1, ![1024]⟩
abbrev S1024x2048 : Shape := ⟨2, ![1024, 2048]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2048 : Shape := ⟨2, ![65536, 2048]⟩
abbrev S128x512x1024 : Shape := ⟨3, ![128, 512, 1024]⟩
abbrev S128x1024x512 : Shape := ⟨3, ![128, 1024, 512]⟩

abbrev nBuf : Space → Nat
  | .hbm => 23
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2048, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x2048, .f32⟩
  | .hbm, ⟨20, _⟩ => ⟨S128x512x1024, .f32⟩
  | .hbm, ⟨21, _⟩ => ⟨S128x1024x512, .f32⟩
  | .hbm, ⟨22, _⟩ => ⟨S128x1024x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S65536x2048 : Shape := ⟨2, ![65536, 2048]⟩
abbrev S2048x1024 : Shape := ⟨2, ![2048, 1024]⟩
abbrev S65536x1024 : Shape := ⟨2, ![65536, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S65536x2048, .bf16⟩
  | .hbm, ⟨1, _⟩ => ⟨S2048x1024, .f32⟩
  | .hbm, ⟨2, _⟩ => ⟨S65536x1024, .f32⟩
  | .hbm, ⟨3, _⟩ => ⟨S2048x1024, .bf16⟩
  | .hbm, ⟨4, _⟩ => ⟨S65536x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S65536x2048 : Shape := ⟨2, ![65536, 2048]⟩
abbrev S2048x1024 : Shape := ⟨2, ![2048, 1024]⟩
abbrev S65536x1024 : Shape := ⟨2, ![65536, 1024]⟩

abbrev nBuf : Space → Nat
  | .hbm => 6
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S2048x1024, .f32⟩
  | .hbm, ⟨2, _⟩ => ⟨S65536x1024, .f32⟩
  | .hbm, ⟨3, _⟩ => ⟨S65536x2048, .f32⟩
  | .hbm, ⟨4, _⟩ => ⟨S65536x1024, .f32⟩
  | .hbm, ⟨5, _⟩ => ⟨S65536x1024, .f32⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S65536x1024 : Shape := ⟨2, ![65536, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024x1024, .bf16⟩
  | .hbm, ⟨4, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S65536x1024 : Shape := ⟨2, ![65536, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S65536x1024, .f32⟩
  | .hbm, ⟨4, _⟩ => ⟨S65536x1024, .f32⟩
  | .hbm, ⟨5, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S65536x1024 : Shape := ⟨2, ![65536, 1024]⟩
abbrev S1024 : Shape := ⟨1, ![1024]⟩
abbrev S1024x1024 : Shape := ⟨2, ![1024, 1024]⟩
abbrev S4x65536x256 : Shape := ⟨3, ![4, 65536, 256]⟩
abbrev S256x1024 : Shape := ⟨2, ![256, 1024]⟩
abbrev S1x1024 : Shape := ⟨2, ![1, 1024]⟩
abbrev S1x1024x256 : Shape := ⟨3, ![1, 1024, 256]⟩
abbrev S1024x1 : Shape := ⟨2, ![1024, 1]⟩
abbrev S1024x256 : Shape := ⟨2, ![1024, 256]⟩

abbrev nBuf : Space → Nat
  | .hbm => 12
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024x1024, .f32⟩
  | .hbm, ⟨4, _⟩ => ⟨S4x65536x256, .f32⟩
  | .hbm, ⟨5, _⟩ => ⟨S256x1024, .f32⟩
  | .hbm, ⟨6, _⟩ => ⟨S1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024x256, .f32⟩
  | .local _ .vmem, ⟨7, _⟩ => ⟨S1x1024x256, .f32⟩
  | .local _ .vmem, ⟨8, _⟩ => ⟨S256x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S65536x1024 : Shape := ⟨2, ![65536, 1024]⟩
abbrev S1024 : Shape := ⟨1, ![1024]⟩
abbrev S1024x1024 : Shape := ⟨2, ![1024, 1024]⟩
abbrev S4x65536x256 : Shape := ⟨3, ![4, 65536, 256]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1x65536x256 : Shape := ⟨3, ![1, 65536, 256]⟩
abbrev S65536x256 : Shape := ⟨2, ![65536, 256]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024x1024, .f32⟩
  | .hbm, ⟨4, _⟩ => ⟨S4x65536x256, .f32⟩
  | .hbm, ⟨5, _⟩ => ⟨S256x1024, .f32⟩
  | .hbm, ⟨6, _⟩ => ⟨S1024, .f32⟩
  | .hbm, ⟨7, _⟩ => ⟨S65536x1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S1x65536x256, .f32⟩
  | .hbm, ⟨34, _⟩ => ⟨S65536x256, .f32⟩
  | .hbm, ⟨35, _⟩ => ⟨S65536x1024, .f32⟩
  | .hbm, ⟨36, _⟩ => ⟨S65536x1024, .f32⟩
  | .hbm, ⟨37, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel9.lean ====
abbrev S65536x1024 : Shape := ⟨2, ![65536, 1024]⟩
abbrev S1024 : Shape := ⟨1, ![1024]⟩
abbrev S1024x1024 : Shape := ⟨2, ![1024, 1024]⟩
abbrev S4x65536x256 : Shape := ⟨3, ![4, 65536, 256]⟩
abbrev S256x1024 : Shape := ⟨2, ![256, 1024]⟩
abbrev S1x1024 : Shape := ⟨2, ![1, 1024]⟩
abbrev S1x1024x256 : Shape := ⟨3, ![1, 1024, 256]⟩
abbrev S1024x1 : Shape := ⟨2, ![1024, 1]⟩
abbrev S1024x256 : Shape := ⟨2, ![1024, 256]⟩

abbrev nBuf : Space → Nat
  | .hbm => 12
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024x1024, .f32⟩
  | .hbm, ⟨4, _⟩ => ⟨S4x65536x256, .f32⟩
  | .hbm, ⟨5, _⟩ => ⟨S256x1024, .f32⟩
  | .hbm, ⟨6, _⟩ => ⟨S1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024x256, .f32⟩
  | .local _ .vmem, ⟨7, _⟩ => ⟨S1x1024x256, .f32⟩
  | .local _ .vmem, ⟨8, _⟩ => ⟨S256x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S65536x1024 : Shape := ⟨2, ![65536, 1024]⟩
abbrev S1024 : Shape := ⟨1, ![1024]⟩
abbrev S1024x1024 : Shape := ⟨2, ![1024, 1024]⟩
abbrev S4x65536x256 : Shape := ⟨3, ![4, 65536, 256]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1x65536x256 : Shape := ⟨3, ![1, 65536, 256]⟩
abbrev S65536x256 : Shape := ⟨2, ![65536, 256]⟩

abbrev nBuf : Space → Nat
  | .hbm => 54
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024, .f32⟩
  | .hbm, ⟨3, _⟩ => ⟨S1024x1024, .f32⟩
  | .hbm, ⟨4, _⟩ => ⟨S4x65536x256, .f32⟩
  | .hbm, ⟨5, _⟩ => ⟨S256x1024, .f32⟩
  | .hbm, ⟨6, _⟩ => ⟨S1024, .f32⟩
  | .hbm, ⟨7, _⟩ => ⟨S65536x1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S1x65536x256, .f32⟩
  | .hbm, ⟨34, _⟩ => ⟨S65536x256, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S1x1024, .f32⟩
  | .hbm, ⟨52, _⟩ => ⟨S65536x1024, .f32⟩
  | .hbm, ⟨53, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel12.lean ====
abbrev S16x4096x3072 : Shape := ⟨3, ![16, 4096, 3072]⟩
abbrev S16x4096x16 : Shape := ⟨3, ![16, 4096, 16]⟩
abbrev S16x16x4096 : Shape := ⟨3, ![16, 16, 4096]⟩
abbrev S16x8x2x8x512 : Shape := ⟨5, ![16, 8, 2, 8, 512]⟩
abbrev S16x8x8x2x512 : Shape := ⟨5, ![16, 8, 8, 2, 512]⟩
abbrev S16x4096x8x2 : Shape := ⟨4, ![16, 4096, 8, 2]⟩
abbrev S16x8x4096x2 : Shape := ⟨4, ![16, 8, 4096, 2]⟩
abbrev S16x4096x1024 : Shape := ⟨3, ![16, 4096, 1024]⟩
abbrev S1x2048x128 : Shape := ⟨3, ![1, 2048, 128]⟩
abbrev S1x4096x128 : Shape := ⟨3, ![1, 4096, 128]⟩
abbrev S1x1x8x2x512 : Shape := ⟨5, ![1, 1, 8, 2, 512]⟩
abbrev S1x1x2048x2 : Shape := ⟨4, ![1, 1, 2048, 2]⟩
abbrev S4x2x512x128 : Shape := ⟨4, ![4, 2, 512, 128]⟩
abbrev S4x2x512x512 : Shape := ⟨4, ![4, 2, 512, 512]⟩
abbrev S1x128 : Shape := ⟨2, ![1, 128]⟩
abbrev S1x512x128 : Shape := ⟨3, ![1, 512, 128]⟩
abbrev S512x128 : Shape := ⟨2, ![512, 128]⟩
abbrev S1x1x512x1 : Shape := ⟨4, ![1, 1, 512, 1]⟩
abbrev S512x1 : Shape := ⟨2, ![512, 1]⟩
abbrev S512x512 : Shape := ⟨2, ![512, 512]⟩
abbrev S1x1x512x512 : Shape := ⟨4, ![1, 1, 512, 512]⟩
abbrev S1x1x1x1x512 : Shape := ⟨5, ![1, 1, 1, 1, 512]⟩
abbrev S1x512 : Shape := ⟨2, ![1, 512]⟩
abbrev S1x1x512x128 : Shape := ⟨4, ![1, 1, 512, 128]⟩
abbrev S512 : Shape := ⟨1, ![512]⟩

abbrev nBuf : Space → Nat
  | .hbm => 8
  | .vmem => 15
  | .smem => 0
  | _ => 0

abbrev bufTy : (tb : Table) → Fin (tcTables nBuf tb) → BufTy
  | .hbm, ⟨0, _⟩ => ⟨S16x4096x3072, .bf16⟩
  | .hbm, ⟨1, _⟩ => ⟨S16x4096x16, .f32⟩
  | .hbm, ⟨2, _⟩ => ⟨S16x16x4096, .f32⟩
  | .hbm, ⟨3, _⟩ => ⟨S16x8x2x8x512, .f32⟩
  | .hbm, ⟨4, _⟩ => ⟨S16x8x8x2x512, .f32⟩
  | .hbm, ⟨5, _⟩ => ⟨S16x4096x8x2, .f32⟩
  | .hbm, ⟨6, _⟩ => ⟨S16x8x4096x2, .f32⟩
  | .hbm, ⟨7, _⟩ => ⟨S16x4096x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x8x2x512, .f32⟩
  | .local _ .vmem, ⟨7, _⟩ => ⟨S1x1x8x2x512, .f32⟩
  | .local _ .vmem, ⟨8, _⟩ => ⟨S1x1x2048x2, .f32⟩
  | .local _ .vmem, ⟨9, _⟩ => ⟨S1x1x2048x2, .f32⟩
  | .local _ .vmem, ⟨10, _⟩ => ⟨S1x2048x128, .bf16⟩
  | .local _ .vmem, ⟨11, _⟩ => ⟨S1x2048x128, .bf16⟩
  | .local _ .vmem, ⟨12, _⟩ => ⟨S4x2x512x128, .f32⟩
  | .local _ .vmem, ⟨13, _⟩ => ⟨S4x2x512x128, .f32⟩
  | .local _ .vmem, ⟨14, _⟩ => ⟨S4x2x512x512, .f32⟩
  | _, _ => ⟨S16x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 2], ![false, false, false]⟩

@[reducible] def k0_t1_loop (i : grid0.Coords) : Scf.Loop 32 :=
  let c0_i32_87 : BitVec 32 := 0#32
  let c4_i32 : BitVec 32 := 4#32
  let arg2 : BitVec 32 := BitVec.ofNat 32 (i 2).val
  let v120 : BitVec 32 := Scalar.muli c4_i32 arg2
  let v121 : BitVec 32 := Scalar.subi v120 c0_i32_87
  let c1_i32 : BitVec 32 := 1#32
  let v123 : BitVec 32 := Scalar.divsi v121 c1_i32
  let v124 : BitVec 32 := Scalar.muli v123 c1_i32
  let v125 : BitVec 32 := Scalar.addi c0_i32_87 v124
  let c1_i32_88 : BitVec 32 := 1#32
  ⟨c0_i32_87, v125, c1_i32_88⟩
def k0_mult1 (i : grid0.Coords) (k0_t1 : Fin (k0_t1_loop i).trips) : BitVec 32 :=
  let c0_i32_87 : BitVec 32 := 0#32
  let c1_i32_88 : BitVec 32 := 1#32
  let arg12 : BitVec 32 := Scf.iv c0_i32_87 c1_i32_88 k0_t1
  let c512_i32_719 : BitVec 32 := 512#32
  let v922 : BitVec 32 := Scalar.muli arg12 c512_i32_719
  v922
def k0_off1 (i : grid0.Coords) (k0_t1 : Fin (k0_t1_loop i).trips) : Fin 3 → Nat :=
  let c0_720 : Index := 0#32
  let c0_i32_87 : BitVec 32 := 0#32
  let c1_i32_88 : BitVec 32 := 1#32
  let arg12 : BitVec 32 := Scf.iv c0_i32_87 c1_i32_88 k0_t1
  let c512_i32_719 : BitVec 32 := 512#32
  let v922 : BitVec 32 := Scalar.muli arg12 c512_i32_719
  let v923 : BitVec 32 := v922
  let v924 : Index := Scalar.indexCast v923
  let c0_721 : Index := 0#32
  ![0, v924.toNat, 0]
def k0_off2 (i : grid0.Coords) (k0_t1 : Fin (k0_t1_loop i).trips) : Fin 5 → Nat :=
  let c0_726 : Index := 0#32
  let c0_727 : Index := 0#32
  let c0_i32_87 : BitVec 32 := 0#32
  let c1_i32_88 : BitVec 32 := 1#32
  let arg12 : BitVec 32 := Scf.iv c0_i32_87 c1_i32_88 k0_t1
  let v938 : Index := Scalar.indexCast arg12
  let c0_728 : Index := 0#32
  let c0_729 : Index := 0#32
  ![0, 0, v938.toNat, 0, 0]
def k0_off3 (i : grid0.Coords) (k0_t1 : Fin (k0_t1_loop i).trips) : Fin 5 → Nat :=
  let c0_753 : Index := 0#32
  let c0_754 : Index := 0#32
  let c0_i32_87 : BitVec 32 := 0#32
  let c1_i32_88 : BitVec 32 := 1#32
  let arg12 : BitVec 32 := Scf.iv c0_i32_87 c1_i32_88 k0_t1
  let v970 : Index := Scalar.indexCast arg12
  let c1_755 : Index := 1#32
  let c0_756 : Index := 0#32
  ![0, 0, v970.toNat, 1, 0]
@[reducible] def k0_t2_loop (i : grid0.Coords) : Scf.Loop 32 :=
  let c0_i32_87 : BitVec 32 := 0#32
  let c4_i32 : BitVec 32 := 4#32
  let arg2 : BitVec 32 := BitVec.ofNat 32 (i 2).val
  let v120 : BitVec 32 := Scalar.muli c4_i32 arg2
  let v121 : BitVec 32 := Scalar.subi v120 c0_i32_87
  let c1_i32 : BitVec 32 := 1#32
  let v123 : BitVec 32 := Scalar.divsi v121 c1_i32
  let v124 : BitVec 32 := Scalar.muli v123 c1_i32
  let v125 : BitVec 32 := Scalar.addi c0_i32_87 v124
  let v122 : BitVec 32 := Scalar.addi c0_i32_87 v121
  let c1_i32_89 : BitVec 32 := 1#32
  ⟨v125, v122, c1_i32_89⟩
def k0_mult2 (i : grid0.Coords) (k0_t2 : Fin (k0_t2_loop i).trips) : BitVec 32 :=
  let c0_i32_87 : BitVec 32 := 0#32
  let c4_i32 : BitVec 32 := 4#32
  let arg2 : BitVec 32 := BitVec.ofNat 32 (i 2).val
  let v120 : BitVec 32 := Scalar.muli c4_i32 arg2
  let v121 : BitVec 32 := Scalar.subi v120 c0_i32_87
  let c1_i32 : BitVec 32 := 1#32
  let v123 : BitVec 32 := Scalar.divsi v121 c1_i32
  let v124 : BitVec 32 := Scalar.muli v123 c1_i32
  let v125 : BitVec 32 := Scalar.addi c0_i32_87 v124
  let c1_i32_89 : BitVec 32 := 1#32
  let arg12 : BitVec 32 := Scf.iv v125 c1_i32_89 k0_t2
  let c512_i32_719 : BitVec 32 := 512#32
  let v922 : BitVec 32 := Scalar.muli arg12 c512_i32_719
  v922
def k0_off4 (i : grid0.Coords) (k0_t2 : Fin (k0_t2_loop i).trips) : Fin 3 → Nat :=
  let c0_720 : Index := 0#32
  let c0_i32_87 : BitVec 32 := 0#32
  let c4_i32 : BitVec 32 := 4#32
  let arg2 : BitVec 32 := BitVec.ofNat 32 (i 2).val
  let v120 : BitVec 32 := Scalar.muli c4_i32 arg2
  let v121 : BitVec 32 := Scalar.subi v120 c0_i32_87
  let c1_i32 : BitVec 32 := 1#32
  let v123 : BitVec 32 := Scalar.divsi v121 c1_i32
  let v124 : BitVec 32 := Scalar.muli v123 c1_i32
  let v125 : BitVec 32 := Scalar.addi c0_i32_87 v124
  let c1_i32_89 : BitVec 32 := 1#32
  let arg12 : BitVec 32 := Scf.iv v125 c1_i32_89 k0_t2
  let c512_i32_719 : BitVec 32 := 512#32
  let v922 : BitVec 32 := Scalar.muli arg12 c512_i32_719
  let v923 : BitVec 32 := v922
  let v924 : Index := Scalar.indexCast v923
  let c0_721 : Index := 0#32
  ![0, v924.toNat, 0]
def k0_off5 (i : grid0.Coords) (k0_t2 : Fin (k0_t2_loop i).trips) : Fin 5 → Nat :=
  let c0_726 : Index := 0#32
  let c0_727 : Index := 0#32
  let c0_i32_87 : BitVec 32 := 0#32
  let c4_i32 : BitVec 32 := 4#32
  let arg2 : BitVec 32 := BitVec.ofNat 32 (i 2).val
  let v120 : BitVec 32 := Scalar.muli c4_i32 arg2
  let v121 : BitVec 32 := Scalar.subi v120 c0_i32_87
  let c1_i32 : BitVec 32 := 1#32
  let v123 : BitVec 32 := Scalar.divsi v121 c1_i32
  let v124 : BitVec 32 := Scalar.muli v123 c1_i32
  let v125 : BitVec 32 := Scalar.addi c0_i32_87 v124
  let c1_i32_89 : BitVec 32 := 1#32
  let arg12 : BitVec 32 := Scf.iv v125 c1_i32_89 k0_t2
  let v938 : Index := Scalar.indexCast arg12
  let c0_728 : Index := 0#32
  let c0_729 : Index := 0#32
  ![0, 0, v938.toNat, 0, 0]
def k0_off6 (i : grid0.Coords) (k0_t2 : Fin (k0_t2_loop i).trips) : Fin 5 → Nat :=
  let c0_753 : Index := 0#32
  let c0_754 : Index := 0#32
  let c0_i32_87 : BitVec 32 := 0#32
  let c4_i32 : BitVec 32 := 4#32
  let arg2 : BitVec 32 := BitVec.ofNat 32 (i 2).val
  let v120 : BitVec 32 := Scalar.muli c4_i32 arg2
  let v121 : BitVec 32 := Scalar.subi v120 c0_i32_87
  let c1_i32 : BitVec 32 := 1#32
  let v123 : BitVec 32 := Scalar.divsi v121 c1_i32
  let v124 : BitVec 32 := Scalar.muli v123 c1_i32
  let v125 : BitVec 32 := Scalar.addi c0_i32_87 v124
  let c1_i32_89 : BitVec 32 := 1#32
  let arg12 : BitVec 32 := Scf.iv v125 c1_i32_89 k0_t2
  let v970 : Index := Scalar.indexCast arg12
  let c1_755 : Index := 1#32
  let c0_756 : Index := 0#32
  ![0, 0, v970.toNat, 1, 0]
def k0_mult3 (i : grid0.Coords) : BitVec 32 :=
  let c4_i32_90 : BitVec 32 := 4#32
  let arg2 : BitVec 32 := BitVec.ofNat 32 (i 2).val
  let v126 : BitVec 32 := Scalar.muli c4_i32_90 arg2
  let c0_i32_91 : BitVec 32 := 0#32
  let v127 : BitVec 32 := Scalar.addi v126 c0_i32_91
  let c512_i32 : BitVec 32 := 512#32
  let v128 : BitVec 32 := Scalar.muli v127 c512_i32
  v128
def k0_off7 (i : grid0.Coords) (c0_i32_91 : BitVec 32) : Fin 3 → Nat :=
  let c0_92 : Index := 0#32
  let c4_i32_90 : BitVec 32 := 4#32
  let arg2 : BitVec 32 := BitVec.ofNat 32 (i 2).val
  let v126 : BitVec 32 := Scalar.muli c4_i32_90 arg2
  let v127 : BitVec 32 := Scalar.addi v126 c0_i32_91
  let c512_i32 : BitVec 32 := 512#32
  let v128 : BitVec 32 := Scalar.muli v127 c512_i32
  let v129 : BitVec 32 := v128
  let v130 : Index := Scalar.indexCast v129
  let c0_93 : Index := 0#32
  ![0, v130.toNat, 0]
def k0_off8 (i : grid0.Coords) (c0_i32_91 : BitVec 32) : Fin 5 → Nat :=
  let c0_98 : Index := 0#32
  let c0_99 : Index := 0#32
  let c4_i32_90 : BitVec 32 := 4#32
  let arg2 : BitVec 32 := BitVec.ofNat 32 (i 2).val
  let v126 : BitVec 32 := Scalar.muli c4_i32_90 arg2
  let v127 : BitVec 32 := Scalar.addi v126 c0_i32_91
  let v147 : Index := Scalar.indexCast v127
  let c0_100 : Index := 0#32
  let c0_101 : Index := 0#32
  ![0, 0, v147.toNat, 0, 0]
def k0_off9 (i : grid0.Coords) (c0_i32_91 : BitVec 32) : Fin 5 → Nat :=
  let c0_126 : Index := 0#32
  let c0_127 : Index := 0#32
  let c4_i32_90 : BitVec 32 := 4#32
  let arg2 : BitVec 32 := BitVec.ofNat 32 (i 2).val
  let v126 : BitVec 32 := Scalar.muli c4_i32_90 arg2
  let v127 : BitVec 32 := Scalar.addi v126 c0_i32_91
  let v181 : Index := Scalar.indexCast v127
  let c1_128 : Index := 1#32
  let c0_129 : Index := 0#32
  ![0, 0, v181.toNat, 1, 0]
def k0_mult4 (i : grid0.Coords) : BitVec 32 :=
  let c4_i32_315 : BitVec 32 := 4#32
  let arg2 : BitVec 32 := BitVec.ofNat 32 (i 2).val
  let v406 : BitVec 32 := Scalar.muli c4_i32_315 arg2
  let c1_i32_316 : BitVec 32 := 1#32
  let v407 : BitVec 32 := Scalar.addi v406 c1_i32_316
  let c512_i32_317 : BitVec 32 := 512#32
  let v408 : BitVec 32 := Scalar.muli v407 c512_i32_317
  v408
def k0_mult5 (i : grid0.Coords) : BitVec 32 :=
  let c4_i32_487 : BitVec 32 := 4#32
  let arg2 : BitVec 32 := BitVec.ofNat 32 (i 2).val
  let v622 : BitVec 32 := Scalar.muli c4_i32_487 arg2
  let c2_i32 : BitVec 32 := 2#32
  let v623 : BitVec 32 := Scalar.addi v622 c2_i32
  let c512_i32_488 : BitVec 32 := 512#32
  let v624 : BitVec 32 := Scalar.muli v623 c512_i32_488
  v624
def k0_mult6 (i : grid0.Coords) : BitVec 32 :=
  let c4_i32_604 : BitVec 32 := 4#32
  let arg2 : BitVec 32 := BitVec.ofNat 32 (i 2).val
  let v774 : BitVec 32 := Scalar.muli c4_i32_604 arg2
  let c3_i32 : BitVec 32 := 3#32
  let v775 : BitVec 32 := Scalar.addi v774 c3_i32
  let c512_i32_605 : BitVec 32 := 512#32
  let v776 : BitVec 32 := Scalar.muli v775 c512_i32_605
  v776
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel12Ideal.lean ====
variable {F : FTy → Type} [FloatOps F] [Named F]
def κ : String → Option EReal := fun
  | "log2e_over_8" => some (((1 / 8) * (Real.log 2)⁻¹ : ℝ) : EReal)
  | _ => none
-- ==== Reference12Ideal.lean ====
abbrev S16x4096x3072 : Shape := ⟨3, ![16, 4096, 3072]⟩
abbrev S16x4096x16 : Shape := ⟨3, ![16, 4096, 16]⟩
abbrev S16x4096x1024 : Shape := ⟨3, ![16, 4096, 1024]⟩
abbrev S16x4096x16x64 : Shape := ⟨4, ![16, 4096, 16, 64]⟩
abbrev S16x16x4096x4096 : Shape := ⟨4, ![16, 16, 4096, 4096]⟩
abbrev S_ : Shape := ⟨0, ![]⟩
abbrev S16x16x4096 : Shape := ⟨3, ![16, 16, 4096]⟩
abbrev S16x16x4096x1 : Shape := ⟨4, ![16, 16, 4096, 1]⟩
abbrev S16x16x1x4096 : Shape := ⟨4, ![16, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x16x64x4096 : Shape := ⟨4, ![16, 16, 64, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16x4096x3072, .bf16⟩
  | .hbm, ⟨1, _⟩ => ⟨S16x4096x16, .f32⟩
  | .hbm, ⟨2, _⟩ => ⟨S16x4096x1024, .bf16⟩
  | .hbm, ⟨3, _⟩ => ⟨S16x4096x1024, .bf16⟩
  | .hbm, ⟨4, _⟩ => ⟨S16x4096x1024, .bf16⟩
  | .hbm, ⟨5, _⟩ => ⟨S16x4096x1024, .f32⟩
  | .hbm, ⟨6, _⟩ => ⟨S16x4096x16x64, .f32⟩
  | .hbm, ⟨7, _⟩ => ⟨S16x4096x1024, .f32⟩
  | .hbm, ⟨8, _⟩ => ⟨S16x4096x16x64, .f32⟩
  | .hbm, ⟨9, _⟩ => ⟨S16x4096x1024, .f32⟩
  | .hbm, ⟨10, _⟩ => ⟨S16x4096x16x64, .f32⟩
  | .hbm, ⟨11, _⟩ => ⟨S16x16x4096x4096, .f32⟩
  | .hbm, ⟨12, _⟩ => ⟨S_, .f32⟩
  | .hbm, ⟨13, _⟩ => ⟨S16x16x4096x4096, .f32⟩
  | .hbm, ⟨14, _⟩ => ⟨S16x16x4096x4096, .f32⟩
  | .hbm, ⟨15, _⟩ => ⟨S_, .f32⟩
  | .hbm, ⟨16, _⟩ => ⟨S_, .f32⟩
  | .hbm, ⟨17, _⟩ => ⟨S16x4096x16, .f32⟩
  | .hbm, ⟨18, _⟩ => ⟨S16x4096x16, .f32⟩
  | .hbm, ⟨19, _⟩ => ⟨S16x16x4096, .f32⟩
  | .hbm, ⟨20, _⟩ => ⟨S16x16x4096x1, .f32⟩
  | .hbm, ⟨21, _⟩ => ⟨S16x16x4096x4096, .f32⟩
  | .hbm, ⟨22, _⟩ => ⟨S16x16x4096x4096, .f32⟩
  | .hbm, ⟨23, _⟩ => ⟨S16x16x1x4096, .f32⟩
  | .hbm, ⟨24, _⟩ => ⟨S16x16x4096x4096, .f32⟩
  | .hbm, ⟨25, _⟩ => ⟨S16x16x4096x4096, .f32⟩
  | .hbm, ⟨26, _⟩ => ⟨S4096, .i32⟩
  | .hbm, ⟨27, _⟩ => ⟨S1x4096, .i32⟩
  | .hbm, ⟨28, _⟩ => ⟨S4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S16x16x4096x4096, .i1⟩
  | .hbm, ⟨36, _⟩ => ⟨S16x16x4096x4096, .f32⟩
  | .hbm, ⟨37, _⟩ => ⟨S16x16x4096x4096, .f32⟩
  | .hbm, ⟨38, _⟩ => ⟨S_, .f32⟩
  | .hbm, ⟨39, _⟩ => ⟨S16x16x4096, .f32⟩
  | .hbm, ⟨40, _⟩ => ⟨S_, .f32⟩
  | .hbm, ⟨41, _⟩ => ⟨S16x16x4096, .f32⟩
  | .hbm, ⟨42, _⟩ => ⟨S16x16x4096, .f32⟩
  | .hbm, ⟨43, _⟩ => ⟨S16x16x4096x1, .f32⟩
  | .hbm, ⟨44, _⟩ => ⟨S16x16x4096x4096, .f32⟩
  | .hbm, ⟨45, _⟩ => ⟨S16x16x4096x4096, .f32⟩
  | .hbm, ⟨46, _⟩ => ⟨S16x16x4096x4096, .f32⟩
  | .hbm, ⟨47, _⟩ => ⟨S_, .f32⟩
  | .hbm, ⟨48, _⟩ => ⟨S16x16x4096, .f32⟩
  | .hbm, ⟨49, _⟩ => ⟨S16x16x4096x1, .f32⟩
  | .hbm, ⟨50, _⟩ => ⟨S16x16x4096x4096, .f32⟩
  | .hbm, ⟨51, _⟩ => ⟨S16x16x4096x4096, .f32⟩
  | .hbm, ⟨52, _⟩ => ⟨S16x16x64x4096, .f32⟩
  | .hbm, ⟨53, _⟩ => ⟨S16x4096x16x64, .f32⟩
  | .hbm, ⟨54, _⟩ => ⟨S16x4096x1024, .f32⟩
  | .hbm, ⟨55, _⟩ => ⟨S16x4096x1024, .bf16⟩
  | _, _ => ⟨S16x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Proof.RetIdx.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

/-! Where each window of the retention lies at a grid point: point `64 b + 16 h + c` is chunk `c` of head `h` of sequence `b`. -/

namespace Cert.KernelIdeal.Ret

open Cert.KernelIdeal Cert.KernelIdeal.Gen Idealize.ShloMosaic Idealize.ShloMosaic.TcCoe

theorem idx_in : ∀ t : Fin cfg0.N,
    win0_0.index t = ![t.val / 64, t.val % 16, t.val / 16 % 4] ∧ win0_1.index t = ![t.val / 64, t.val % 16, t.val / 16 % 4 + 4] ∧
    win0_2.index t = ![t.val / 64, t.val % 16, t.val / 16 % 4 + 4] ∧ win0_3.index t = ![t.val / 64, t.val % 16, t.val / 16 % 4 + 8] ∧
    win0_4.index t = ![t.val % 16, 0] ∧ win0_5.index t = ![t.val % 16, 0] :=
  (by decide +kernel : ∀ t : Fin grid0.N, _)
theorem idx_tab : ∀ t : Fin cfg0.N,
    win0_6.index t = ![t.val / 16 % 4, 0, 0] ∧ win0_7.index t = ![t.val / 16 % 4, 0, 0] ∧ win0_8.index t = ![t.val / 16 % 4, 0, 0] ∧
    win0_9.index t = ![t.val / 16 % 4, 0, 0] ∧ win0_10.index t = ![t.val / 16 % 4, 0, 0] ∧
    win0_11.index t = ![t.val / 64, t.val % 16, t.val / 16 % 4] :=
  (by decide +kernel : ∀ t : Fin grid0.N, _)

theorem lt_N (t : Fin cfg0.N) : t.val < 1024 := lt_of_lt_of_eq t.isLt (show cfg0.N = 1024 from N_0)

variable {F : FTy → Type} [FloatOps F]
variable (m : (ℓ : Loc nD τ sig) → Buf (Elt F) ℓ)

theorem blk0 (c : Dev nD) (t : Fin cfg0.N) (i d : Fin 256) (n : ℕ) (hn : n = 256 * (t.val / 16 % 4) + d.val) :
    iblk m c 0 t (ix3 0 i d) = m (c, Proc.tc.devRef main_arg0) (ix3 ⟨t.val / 64, by have := lt_N t; omega⟩ ⟨256 * (t.val % 16) + i.val, by omega⟩
      ⟨n, by omega⟩) := by
  subst hn
  rw [← V_main_arg0 m c]
  blk_ext [iblk, (idx_in t).1]
theorem blk1 (c : Dev nD) (t : Fin cfg0.N) (i d : Fin 256) (n : ℕ) (hn : n = 1024 + (256 * (t.val / 16 % 4) + d.val)) :
    iblk m c 1 t (ix3 0 i d) = m (c, Proc.tc.devRef main_arg0) (ix3 ⟨t.val / 64, by have := lt_N t; omega⟩ ⟨256 * (t.val % 16) + i.val, by omega⟩
      ⟨n, by omega⟩) := by
  subst hn
  rw [← V_main_arg0 m c]
  blk_ext [iblk, (idx_in t).2.1]
theorem blk2 (c : Dev nD) (t : Fin cfg0.N) (i : Fin 256) (d : Fin 512) (n : ℕ) (hn : n = 2048 + (512 * (t.val / 16 % 4) + d.val)) :
    iblk m c 2 t (ix3 0 i d) = m (c, Proc.tc.devRef main_arg0) (ix3 ⟨t.val / 64, by have := lt_N t; omega⟩ ⟨256 * (t.val % 16) + i.val, by omega⟩
      ⟨n, by omega⟩) := by
  subst hn
  rw [← V_main_arg0 m c]
  blk_ext [iblk, (idx_in t).2.2.1]
theorem blk3 (c : Dev nD) (t : Fin cfg0.N) (i : Fin 256) (d : Fin 512) (n : ℕ) (hn : n = 4096 + (512 * (t.val / 16 % 4) + d.val)) :
    iblk m c 3 t (ix3 0 i d) = m (c, Proc.tc.devRef main_arg0) (ix3 ⟨t.val / 64, by have := lt_N t; omega⟩ ⟨256 * (t.val % 16) + i.val, by omega⟩
      ⟨n, by omega⟩) := by
  subst hn
  rw [← V_main_arg0 m c]
  blk_ext [iblk, (idx_in t).2.2.2.1]
theorem blk4 (c : Dev nD) (t : Fin cfg0.N) (i : Fin 256) (d : Fin 128) :
    iblk m c 4 t (ix2 i d) = V m c main_v71 (ix2 ⟨256 * (t.val % 16) + i.val, by omega⟩ d) := by
  blk_ext [iblk, (idx_in t).2.2.2.2.1]
theorem blk5 (c : Dev nD) (t : Fin cfg0.N) (i : Fin 256) (d : Fin 128) :
    iblk m c 5 t (ix2 i d) = V m c main_v72 (ix2 ⟨256 * (t.val % 16) + i.val, by omega⟩ d) := by
  blk_ext [iblk, (idx_in t).2.2.2.2.2]
set_option maxHeartbeats 2000000 in
theorem blk6 (c : Dev nD) (t : Fin cfg0.N) (i j : Fin 256) :
    iblk m c 6 t (ix3 0 i j) = V m c main_v48 (ix3 ⟨t.val / 16 % 4, by omega⟩ i j) := by
  blk_ext [iblk, (idx_tab t).1]
theorem blk7 (c : Dev nD) (t : Fin cfg0.N) (i : Fin 256) :
    iblk m c 7 t (ix3 0 i 0) = V m c main_v57 (ix3 ⟨t.val / 16 % 4, by omega⟩ i 0) := by
  blk_ext [iblk, (idx_tab t).2.1]
theorem blk8 (c : Dev nD) (t : Fin cfg0.N) (i : Fin 256) :
    iblk m c 8 t (ix3 0 i 0) = V m c main_v66 (ix3 ⟨t.val / 16 % 4, by omega⟩ i 0) := by
  blk_ext [iblk, (idx_tab t).2.2.1]
theorem blk9 (c : Dev nD) (t : Fin cfg0.N) :
    iblk m c 9 t (ix3 0 0 0) = V m c main_v70 (ix3 ⟨t.val / 16 % 4, by omega⟩ 0 0) := by
  blk_ext [iblk, (idx_tab t).2.2.2.1]
theorem blk10 (c : Dev nD) (t : Fin cfg0.N) (e : Fin 512) :
    iblk m c 10 t (ix3 0 0 e) = V m c main_v73 (ix3 ⟨t.val / 16 % 4, by omega⟩ 0 e) := by
  blk_ext [iblk, (idx_tab t).2.2.2.2.1]

end Cert.KernelIdeal.Ret
-- ==== Proof.RetMath.lean ====
module

public import Mathlib.Analysis.SpecialFunctions.Exp
public import Mathlib.Data.EReal.Operations
public import Mathlib.Tactic.Ring
public import Mathlib.Tactic.Linarith

@[expose] public section

/-! The retention recurrence over the reals: the state after blocks of any length as one decayed sum, and one row's
    output computed from blocks of 64 and from blocks of 256 positions. -/

noncomputable section

namespace Cert.Ret

open Finset

/-- A sum of reals, as an extended real, is the sum of the terms as extended reals. -/
@[norm_cast] theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The state of one entry of the key–value product after `n` blocks of `L` positions. -/
def st (L : ℕ) (g : ℝ) (k v : ℕ → ℝ) : ℕ → ℝ
  | 0 => 0
  | n + 1 => st L g k v n * Real.exp (g * L) + ∑ l ∈ range L, (k (L * n + l) * Real.exp (g * (L - 1 - l))) * v (L * n + l)

/-- The state is the sum over all earlier positions, each decayed by its distance to the last one. -/
theorem st_eq (L : ℕ) (g : ℝ) (k v : ℕ → ℝ) (n : ℕ) :
    st L g k v n = ∑ s ∈ range (L * n), k s * Real.exp (g * ((L * n : ℕ) - 1 - s)) * v s := by
  induction n with
  | zero => simp [st]
  | succ n ih =>
    rw [st, ih, Nat.mul_succ, sum_range_add, sum_mul]
    congr 1
    · refine sum_congr rfl fun s _ => ?_
      rw [mul_right_comm, mul_assoc (k s), ← Real.exp_add]
      congr 3; push_cast; ring
    · refine sum_congr rfl fun s _ => ?_
      congr 3; push_cast; ring

theorem st_four (g : ℝ) (k v : ℕ → ℝ) (N j : ℕ) :
    st 64 g k v (4 * N + j) = st 256 g k v N * Real.exp (g * (64 * j))
      + ∑ s ∈ range (64 * j), k (256 * N + s) * Real.exp (g * (64 * j - 1 - s)) * v (256 * N + s) := by
  rw [st_eq, st_eq, show 64 * (4 * N + j) = 256 * N + 64 * j by ring, sum_range_add, sum_mul]
  congr 1
  · refine sum_congr rfl fun s _ => ?_
    rw [show g * ((256 * N + 64 * j : ℕ) - 1 - (s : ℝ)) = g * ((256 * N : ℕ) - 1 - (s : ℝ)) + g * (64 * j) by push_cast; ring, Real.exp_add]
    ring
  · refine sum_congr rfl fun s _ => ?_
    congr 3; push_cast; ring

/-- The decay between two positions of a block of 256: none of a later chunk of 64 is visible. -/
def dec (g : ℝ) (i m : ℕ) : ℝ := if m / 64 ≤ i / 64 then Real.exp (g * |(i : ℝ) - m|) else 0

/-- ONE ROW: its chunk of 64 against the state before the chunk, and its block of 256 against the state before the
    block, come to the same. -/
theorem row_eq (g : ℝ) {D : Type*} [Fintype D] (q : D → ℝ) (k : ℕ → D → ℝ) (v : ℕ → ℝ) (N j l : ℕ) (hj : j < 4) (hl : l < 64) :
    (∑ m ∈ range 64, ((∑ d, q d * k (64 * (4 * N + j) + m) d) * Real.exp (g * |(l : ℝ) - m|)) * v (64 * (4 * N + j) + m))
        + (∑ d, q d * st 64 g (k · d) v (4 * N + j)) * Real.exp (g * (l + 1))
      = (∑ m ∈ range 256, ((∑ d, q d * k (256 * N + m) d) * dec g (64 * j + l) m) * v (256 * N + m))
        + (∑ d, q d * st 256 g (k · d) v N) * Real.exp (g * ((64 * j + l : ℕ) + 1)) := by
  have e : 64 * (4 * N + j) = 256 * N + 64 * j := by ring
  have split : ∑ m ∈ range 256, ((∑ d, q d * k (256 * N + m) d) * dec g (64 * j + l) m) * v (256 * N + m)
      = (∑ m ∈ range (64 * j), ((∑ d, q d * k (256 * N + m) d) * Real.exp (g * (64 * j + l - m))) * v (256 * N + m))
        + ∑ m ∈ range 64, ((∑ d, q d * k (256 * N + 64 * j + m) d) * Real.exp (g * |(l : ℝ) - m|)) * v (256 * N + 64 * j + m) := by
    rw [show 256 = (64 * j + 64) + (256 - (64 * j + 64)) by omega, sum_range_add, sum_range_add,
      sum_eq_zero (s := range (256 - (64 * j + 64))), add_zero]
    · congr 1
      · refine sum_congr rfl fun m hm => ?_
        have hm := mem_range.mp hm
        have h1 : m / 64 ≤ (64 * j + l) / 64 := by omega
        rw [dec, if_pos h1, abs_of_nonneg]
        · push_cast; rfl
        · have : (m : ℝ) ≤ (64 * j + l : ℕ) := by exact_mod_cast (by omega)
          linarith
      · refine sum_congr rfl fun m hm => ?_
        have hm := mem_range.mp hm
        have h1 : (64 * j + m) / 64 ≤ (64 * j + l) / 64 := by omega
        rw [dec, if_pos h1, ← Nat.add_assoc]
        congr 5; push_cast; ring
    · intro m hm
      have h1 : ¬ (64 * j + 64 + m) / 64 ≤ (64 * j + l) / 64 := by omega
      rw [dec, if_neg h1]; ring
  rw [split, e, add_comm (∑ m ∈ range (64 * j), _), add_assoc]
  congr 1
  have hs : ∀ d, q d * st 64 g (k · d) v (4 * N + j) = q d * st 256 g (k · d) v N * Real.exp (g * (64 * j))
      + ∑ s ∈ range (64 * j), q d * k (256 * N + s) d * (Real.exp (g * (64 * j - 1 - s)) * v (256 * N + s)) := by
    intro d
    rw [st_four, mul_add, ← mul_assoc, mul_sum]
    congr 1; exact sum_congr rfl fun s _ => by ring
  have hq : (∑ d, q d * st 64 g (k · d) v (4 * N + j)) = (∑ d, q d * st 256 g (k · d) v N) * Real.exp (g * (64 * j))
      + ∑ s ∈ range (64 * j), (∑ d, q d * k (256 * N + s) d) * (Real.exp (g * (64 * j - 1 - s)) * v (256 * N + s)) := by
    rw [sum_congr rfl fun d _ => hs d, sum_add_distrib, ← sum_mul, sum_comm]
    congr 1
    exact sum_congr rfl fun s _ => (sum_mul ..).symm
  rw [hq, add_mul, add_comm]
  congr 1
  · rw [sum_mul]
    refine sum_congr rfl fun m _ => ?_
    rw [show g * (64 * j + l - m) = g * (64 * j - 1 - m) + g * (l + 1) by ring, Real.exp_add]
    ring
  · rw [mul_assoc, ← Real.exp_add]
    congr 2; push_cast; ring

end Cert.Ret

end
-- ==== Proof.RetConst.lean ====
module

public import proofs.«01_k».proof.Proof.RetMath
public import Idealize.ShloMosaic.Lib.Pointwise
public import Idealize.ShloMosaic.Lib.IdealHost

@[expose] public section

noncomputable section

/-! The constants of the retention and its tables, as real numbers. -/

namespace Cert.Ret

open Idealize.ShloMosaic

/-- The literal that stands for ln 2. -/
def ln2 : ℝ := 11629080 / 16777216
/-- The literal that stands for the epsilon of the root mean square. -/
def eps : ℝ := 8796093 / 8796093022208

theorem bits_ln2 : Ideal.ofBits .f32 1060205080#32 = ((ln2 : ℝ) : EReal) := by
  simp [Ideal.ofBits, Ideal.ieee, ln2, -EReal.coe_mul]; norm_num
theorem bits_m5 : Ideal.ofBits .f32 3231711232#32 = ((-5 : ℝ) : EReal) := by
  simp [Ideal.ofBits, Ideal.ieee, -EReal.coe_mul]; norm_num
theorem bits_1e4 : Ideal.ofBits .f32 1176256512#32 = ((10000 : ℝ) : EReal) := by
  simp [Ideal.ofBits, Ideal.ieee, -EReal.coe_mul]; norm_num
theorem bits_2 : Ideal.ofBits .f32 1073741824#32 = ((2 : ℝ) : EReal) := by
  simp [Ideal.ofBits, Ideal.ieee, -EReal.coe_mul]; norm_num
theorem bits_256 : Ideal.ofBits .f32 1132462080#32 = ((256 : ℝ) : EReal) := by
  simp [Ideal.ofBits, Ideal.ieee, -EReal.coe_mul]; norm_num
theorem bits_255 : Ideal.ofBits .f32 1132396544#32 = ((255 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_63 : Ideal.ofBits .f32 0x427C0000#32 = ((63 : ℝ) : EReal) := by
  simp [Ideal.ofBits, Ideal.ieee, -EReal.coe_mul]; norm_num
theorem bits_16th : Ideal.ofBits .f32 0x3D800000#32 = ((1 / 16 : ℝ) : EReal) := by
  simp [Ideal.ofBits, Ideal.ieee, -EReal.coe_mul]; norm_num
theorem bits_512 : Ideal.ofBits .f32 0x44000000#32 = ((512 : ℝ) : EReal) := by
  simp [Ideal.ofBits, Ideal.ieee, -EReal.coe_mul]; norm_num
theorem bits_eps : Ideal.ofBits .f32 0x358637BD#32 = ((eps : ℝ) : EReal) := by
  simp [Ideal.ofBits, Ideal.ieee, eps, -EReal.coe_mul]; norm_num

/-- A count below 2^31 read as a float is itself. -/
theorem sitofp_nat (n : ℕ) (h : n < 2147483648) :
    (FloatOps.sitofp (F := Ideal) FTy.f32 (BitVec.ofNat 32 n) : EReal) = ((n : ℝ) : EReal) := by
  show ((((BitVec.ofNat 32 n).toInt : ℤ) : ℝ) : EReal) = _
  have e : (BitVec.ofNat 32 n).toInt = (n : ℤ) := by
    rw [BitVec.toInt_eq_toNat_of_lt (by rw [BitVec.toNat_ofNat]; omega), BitVec.toNat_ofNat, Nat.mod_eq_of_lt (by omega)]
  rw [e]; norm_num

/-- The angle of position `s` at the `d`-th frequency. -/
def ang (s d : ℕ) : ℝ := (s : ℝ) * (1 / (10000 : ℝ) ^ ((2 * (d : ℝ)) / 256))

/-- The logarithm of head `h`'s decay. -/
def gm (h : ℕ) : ℝ := Real.log (1 + -Real.exp (ln2 * (-5 - (h : ℝ))))

theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem ang_eq (s d : ℕ) (hs : s < 2147483648) (hd : d < 2147483648) :
    (FloatOps.sitofp (F := Ideal) FTy.f32 (BitVec.ofNat 32 s) : EReal) *
      Ideal.div 1 (Ideal.pow (Ideal.ofBits FTy.f32 1176256512#32)
        (Ideal.div (Ideal.ofBits FTy.f32 1073741824#32 * (FloatOps.sitofp (F := Ideal) FTy.f32 (BitVec.ofNat 32 d) : EReal))
          (Ideal.ofBits FTy.f32 1132462080#32))) = ((ang s d : ℝ) : EReal) := by
  rw [sitofp_nat s hs, sitofp_nat d hd, bits_1e4, bits_2, bits_256, ← EReal.coe_mul, div_real _ _ (by norm_num)]
  have hp : Ideal.pow ((10000 : ℝ) : EReal) ((2 * (d : ℝ) / 256 : ℝ) : EReal)
      = (((10000 : ℝ) ^ (2 * (d : ℝ) / 256) : ℝ) : EReal) := by
    rfl
  rw [hp, ← EReal.coe_one, div_real _ _ (Real.rpow_pos_of_pos (by norm_num) _).ne', ← EReal.coe_mul]
  rfl

theorem exp_small (h : ℕ) : Real.exp (ln2 * (-5 - (h : ℝ))) < 1 := by
  rw [Real.exp_lt_one_iff]
  have : (0 : ℝ) < ln2 := by unfold ln2; norm_num
  have h0 : (0 : ℝ) ≤ h := Nat.cast_nonneg h
  nlinarith

theorem gm_eq (h : ℕ) (hh : h < 2147483648) :
    Ideal.log1p (-Ideal.exp (Ideal.ofBits FTy.f32 1060205080#32 *
      (Ideal.ofBits FTy.f32 3231711232#32 - (FloatOps.sitofp (F := Ideal) FTy.f32 (BitVec.ofNat 32 h) : EReal))))
      = ((gm h : ℝ) : EReal) := by
  rw [sitofp_nat h hh, bits_ln2, bits_m5, ← EReal.coe_sub, ← EReal.coe_mul, Ideal.exp_coe, ← EReal.coe_neg]
  unfold Ideal.log1p
  rw [← EReal.coe_one, ← EReal.coe_add]
  have := exp_small h
  show (if _ ≤ (0 : ℝ) then (⊥ : EReal) else _) = _
  rw [if_neg (by linarith)]
  rfl

/-- A position's chunk number, as the program's floor division computes it. -/
theorem floor64 : ∀ j : Fin 256, Scalar.select
    (IntOp.andi
      (IntOp.cmpi CmpIPredicate.ne
        ((if BitVec.ofNat 32 j.val = 0 then 0 else if (BitVec.ofNat 32 j.val).msb = true then -1 else 1) : BitVec 32)
        ((if 64#32 = 0 then 0 else if (64#32).msb = true then -1 else 1) : BitVec 32))
      (IntOp.cmpi CmpIPredicate.ne (IntOp.remsi ArithUnit.host (BitVec.ofNat 32 j.val) 64#32) 0#32))
    (IntOp.subi (IntOp.divsi ArithUnit.host (BitVec.ofNat 32 j.val) 64#32) 1#32)
    (IntOp.divsi ArithUnit.host (BitVec.ofNat 32 j.val) 64#32) = BitVec.ofNat 32 (j.val / 64) := by
  decide +kernel

theorem sle64 : ∀ i j : Fin 256, IntOp.cmpi CmpIPredicate.sle (BitVec.ofNat 32 (j.val / 64)) (BitVec.ofNat 32 (i.val / 64))
    = if j.val / 64 ≤ i.val / 64 then 1#1 else 0#1 := by
  intro i j
  have h : ∀ a b : Fin 4, IntOp.cmpi CmpIPredicate.sle (BitVec.ofNat 32 b.val) (BitVec.ofNat 32 a.val)
      = if b.val ≤ a.val then 1#1 else 0#1 := by decide +kernel
  exact h ⟨i.val / 64, by omega⟩ ⟨j.val / 64, by omega⟩

theorem absf_real (x : ℝ) : (FloatOps.absf (F := Ideal) (φ := FTy.f32) (x : EReal) : EReal) = ((|x| : ℝ) : EReal) := by
  show ((max (x : EReal) (-(x : EReal)) : EReal)) = _
  rw [← EReal.coe_neg]; exact (EReal.coe_strictMono.monotone.map_max (a := x) (b := -x)).symm

/-- The decay of head `h`'s chunk-masked scores. -/
theorem dec_eq (g : ℝ) (i j : Fin 256) :
    Scalar.select (if j.val / 64 ≤ i.val / 64 then 1#1 else 0#1)
      (Ideal.exp ((g : EReal) * (FloatOps.absf (F := Ideal) (φ := FTy.f32)
        ((((i.val : ℝ) : EReal)) - (((j.val : ℝ) : EReal)) : EReal) : EReal))) (0 : EReal)
    = ((dec g i.val j.val : ℝ) : EReal) := by
  rw [← EReal.coe_sub, absf_real, ← EReal.coe_mul, Ideal.exp_coe]
  unfold dec
  split_ifs <;> simp [Scalar.select]

/-- The rotary embedding of a row at position `s`, its halves paired. -/
def rot (x : ℕ → ℝ) (s d : ℕ) : ℝ :=
  if d < 128 then x d * Real.cos (ang s d) - x (128 + d) * Real.sin (ang s d)
  else x (d - 128) * Real.sin (ang s (d - 128)) + x (128 + (d - 128)) * Real.cos (ang s (d - 128))

/-- Queries, keys and values of head `h` of sequence `b`, from the projected activations `A`. -/
def qr (A : ℕ → ℕ → ℕ → ℝ) (b h s d : ℕ) : ℝ := rot (fun d => A b s (256 * h + d)) s d
def kr (A : ℕ → ℕ → ℕ → ℝ) (b h s d : ℕ) : ℝ := rot (fun d => A b s (1024 + (256 * h + d))) s d * (1 / 16)
def vr (A : ℕ → ℕ → ℕ → ℝ) (b h s e : ℕ) : ℝ := A b s (2048 + (512 * h + e))

/-- The retention of position `s` at value column `e`, by chunks of 256. -/
def orow (A : ℕ → ℕ → ℕ → ℝ) (b h s e : ℕ) : ℝ :=
  (∑ x ∈ Finset.range 256, ((∑ d ∈ Finset.range 256, qr A b h s d * kr A b h (256 * (s / 256) + x) d) * dec (gm h) (s % 256) x)
      * vr A b h (256 * (s / 256) + x) e)
    + (∑ d ∈ Finset.range 256, qr A b h s d * st 256 (gm h) (fun n => kr A b h n d) (fun n => vr A b h n e) (s / 256))
      * Real.exp (gm h * (((s % 256 : ℕ) : ℝ) + 1))

/-- What the layer makes of a row of retention: its root mean square normed, scaled and gated. -/
def finish (o : ℕ → ℝ) (g gate : EReal) (e : ℕ) : EReal :=
  ((o e : ℝ) : EReal) * Ideal.rsqrt (Ideal.div (∑ x : Fin 512, ((o x.val : ℝ) : EReal) * ((o x.val : ℝ) : EReal))
    (Ideal.ofBits FTy.f32 1140850688#32) + Ideal.ofBits FTy.f32 897988541#32) * g * (gate * Ideal.logistic gate)

/-- A row of retention over extended reals that are reals. -/
theorem row_cast (n : ℕ) (qE sE : Fin 256 → EReal) (kE : Fin n → Fin 256 → EReal) (dE vE : Fin n → EReal) (pE : EReal)
    (q s : ℕ → ℝ) (k : ℕ → ℕ → ℝ) (d v : ℕ → ℝ) (p : ℝ)
    (hq : ∀ i, qE i = ((q i.val : ℝ) : EReal)) (hs : ∀ i, sE i = ((s i.val : ℝ) : EReal)) (hk : ∀ x i, kE x i = ((k x.val i.val : ℝ) : EReal))
    (hd : ∀ x, dE x = ((d x.val : ℝ) : EReal)) (hv : ∀ x, vE x = ((v x.val : ℝ) : EReal)) (hp : pE = ((p : ℝ) : EReal)) :
    ∑ x : Fin n, (∑ i : Fin 256, qE i * kE x i) * dE x * vE x + (∑ i : Fin 256, qE i * sE i) * pE
      = (((∑ x ∈ Finset.range n, ((∑ i ∈ Finset.range 256, q i * k x i) * d x) * v x)
          + (∑ i ∈ Finset.range 256, q i * s i) * p : ℝ) : EReal) := by
  simp only [hq, hs, hk, hd, hv, hp, Finset.sum_range]
  norm_cast

theorem finish_cast (oE : Fin 512 → EReal) (o : ℕ → ℝ) (h : ∀ x, oE x = ((o x.val : ℝ) : EReal)) (g gate : EReal) (e : Fin 512) :
    oE e * Ideal.rsqrt (Ideal.div (∑ x : Fin 512, oE x * oE x)
      (Ideal.ofBits FTy.f32 1140850688#32) + Ideal.ofBits FTy.f32 897988541#32) * g * (gate * Ideal.logistic gate)
      = finish o g gate e.val := by
  obtain rfl : oE = fun x => ((o x.val : ℝ) : EReal) := funext h
  rfl

end Cert.Ret
-- ==== Proof.RetTabK.lean ====
module

public import proofs.«01_k».proof.Proof.Gen.KernelIdeal.Value
public import proofs.«01_k».proof.Proof.RetConst
public import Idealize.ShloMosaic.Lib.Pointwise
public import Idealize.ShloMosaic.Lib.Claim
public import Idealize.ShloMosaic.Lib.StableHlo.RunRead
public import Idealize.ShloMosaic.Lib.IdealHost

@[expose] public section

set_option maxRecDepth 16384

noncomputable section

/-! The kernel's tables, read at an index. -/

namespace Cert.KernelIdeal.Ret

open Cert.Ret Cert.KernelIdeal Cert.KernelIdeal.Gen Idealize.ShloMosaic Idealize.ShloMosaic.TcCoe

variable (m : (ℓ : Loc nD τ sig) → Buf (Elt Ideal) ℓ)

theorem v71 (c : Dev nD) (s : Fin 4096) (d : Fin 128) :
    (V m c main_v71 (ix2 s d) : EReal) = ((Real.cos (ang s.val d.val) : ℝ) : EReal) := by
  unfold V
  after_reads_simp
  pointwise
  rw [ang_eq _ _ (by omega) (by omega), Ideal.cos_coe]
theorem v72 (c : Dev nD) (s : Fin 4096) (d : Fin 128) :
    (V m c main_v72 (ix2 s d) : EReal) = ((Real.sin (ang s.val d.val) : ℝ) : EReal) := by
  unfold V
  after_reads_simp
  pointwise
  rw [ang_eq _ _ (by omega) (by omega), Ideal.sin_coe]
theorem v57 (c : Dev nD) (h : Fin 4) (i : Fin 256) :
    (V m c main_v57 (ix3 h i 0) : EReal) = ((Real.exp (gm h.val * ((i.val : ℝ) + 1)) : ℝ) : EReal) := by
  unfold V
  after_reads_simp
  pointwise
  rw [gm_eq _ (by omega), sitofp_nat _ (by omega), ← EReal.coe_one, ← EReal.coe_add, ← EReal.coe_mul, Ideal.exp_coe]
theorem v66 (c : Dev nD) (h : Fin 4) (i : Fin 256) :
    (V m c main_v66 (ix3 h i 0) : EReal) = ((Real.exp (gm h.val * (255 - (i.val : ℝ))) : ℝ) : EReal) := by
  unfold V
  after_reads_simp
  pointwise
  rw [gm_eq _ (by omega), sitofp_nat _ (by omega), bits_255, ← EReal.coe_sub, ← EReal.coe_mul, Ideal.exp_coe]
theorem v70 (c : Dev nD) (h : Fin 4) :
    (V m c main_v70 (ix3 h 0 0) : EReal) = ((Real.exp (gm h.val * 256) : ℝ) : EReal) := by
  unfold V
  after_reads_simp
  pointwise
  rw [gm_eq _ (by omega), bits_256, ← EReal.coe_mul, Ideal.exp_coe]
theorem v48 (c : Dev nD) (h : Fin 4) (i j : Fin 256) :
    (V m c main_v48 (ix3 h i j) : EReal) = ((dec (gm h.val) i.val j.val : ℝ) : EReal) := by
  unfold V
  after_reads_simp
  simp only [StableHlo.TRef.ofBuf_toBuf, StableHlo.TRef.ofBuf, StableHlo.TRef.toBuf, cast_eq, id_eq]
  pointwise
  rw [gm_eq _ (by omega), sitofp_nat _ (by omega), sitofp_nat _ (by omega)]
  have key := dec_eq (gm h.val) i j
  rw [← sle64, ← floor64 i, ← floor64 j] at key
  exact key
theorem v73 (c : Dev nD) (h : Fin 4) (e : Fin 512) :
    (V m c main_v73 (ix3 h 0 e) : EReal) = (m (c, Proc.tc.devRef main_arg1) (ix1 ⟨h.val * 512 + e.val, by omega⟩) : EReal) := by
  unfold V
  after_reads_simp
  pointwise

end Cert.KernelIdeal.Ret
-- ==== Proof.RetBlk.lean ====
module

public import proofs.«01_k».proof.Proof.Gen.KernelIdeal.Value
public import Idealize.ShloMosaic.Lib.Pipeline.ValueKit

@[expose] public section

set_option maxRecDepth 16384

noncomputable section

/-! What a grid point leaves in its output block and in the carried state, as the kernel's own expressions over the blocks it reads. -/

namespace Cert.KernelIdeal.Ret

open Cert.KernelIdeal Cert.KernelIdeal.Gen Idealize.ShloMosaic Idealize.ShloMosaic.TcCoe

variable {F : FTy → Type} [FloatOps F]

/-- The state after a chunk, over the state before it. -/
def stepS (x1 : Vec F S1x256x256 .bf16) (x2 : Vec F S1x256x512 .bf16) (x4 x5 : Vec F S256x128 .f32) (x8 : Vec F S1x256x1 .f32)
    (x9 : Vec F S1x1x1 .f32) (acc : Vec F S256x512 .f32) : Vec F S256x512 .f32 :=
  k0_pay10 (k0_pay5 x4 x5 x1) (k0_pay6 x2) acc x8 x9

/-- The output block of a chunk, over the state before it. -/
def outB (x0 x1 : Vec F S1x256x256 .bf16) (x2 x3 : Vec F S1x256x512 .bf16) (x4 x5 : Vec F S256x128 .f32) (x6 : Vec F S1x256x256 .f32)
    (x7 : Vec F S1x256x1 .f32) (x10 : Vec F S1x1x512 .f32) (acc : Vec F S256x512 .f32) : Vec F S1x256x512 .bf16 :=
  k0_pay1 (k0_pay9 (k0_pay6 x2) (k0_pay7 x4 x5 x0) (k0_pay8 x4 x5 x0 x1) x6 acc x7) (k0_pay11 x3) (k0_pay12 x10)
    (k0_pay13 (k0_pay6 x2) (k0_pay7 x4 x5 x0) (k0_pay8 x4 x5 x0 x1) x6 acc x7)

theorem sout0_A_0_eq (c : Dev nD) (i : grid0.Coords) (arg3 : Memref sig .tc .vmem S1x256x256 .bf16) (harg3 : arg3.IsWhole) (arg4 : Memref sig .tc .vmem S1x256x256 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S1x256x256 .f32) (harg9 : arg9.IsWhole) (arg10 : Memref sig .tc .vmem S1x256x1 .f32) (harg10 : arg10.IsWhole) (arg11 : Memref sig .tc .vmem S1x256x1 .f32) (harg11 : arg11.IsWhole) (arg12 : Memref sig .tc .vmem S1x1x1 .f32) (harg12 : arg12.IsWhole) (arg13 : Memref sig .tc .vmem S1x1x512 .f32) (harg13 : arg13.IsWhole) (arg14 : Memref sig .tc .vmem S1x256x512 .bf16) (harg14 : arg14.IsWhole) (arg15 : Memref sig .tc .vmem S256x512 .f32) (harg15 : arg15.IsWhole) (hc0 : cond0_0 i)
    (x0 : Vec F S1x256x256 .bf16) (x1 : Vec F S1x256x256 .bf16) (x2 : Vec F S1x256x512 .bf16) (x3 : Vec F S1x256x512 .bf16) (x4 : Vec F S256x128 .f32) (x5 : Vec F S256x128 .f32) (x6 : Vec F S1x256x256 .f32) (x7 : Vec F S1x256x1 .f32) (x8 : Vec F S1x256x1 .f32) (x9 : Vec F S1x1x1 .f32) (x10 : Vec F S1x1x512 .f32) :
    sout0_A_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = stepS x1 x2 x4 x5 x8 x9 k0_pay2 := by
  frame_out
  rfl

theorem sout0_B_0_eq (c : Dev nD) (i : grid0.Coords) (arg3 : Memref sig .tc .vmem S1x256x256 .bf16) (harg3 : arg3.IsWhole) (arg4 : Memref sig .tc .vmem S1x256x256 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S1x256x256 .f32) (harg9 : arg9.IsWhole) (arg10 : Memref sig .tc .vmem S1x256x1 .f32) (harg10 : arg10.IsWhole) (arg11 : Memref sig .tc .vmem S1x256x1 .f32) (harg11 : arg11.IsWhole) (arg12 : Memref sig .tc .vmem S1x1x1 .f32) (harg12 : arg12.IsWhole) (arg13 : Memref sig .tc .vmem S1x1x512 .f32) (harg13 : arg13.IsWhole) (arg14 : Memref sig .tc .vmem S1x256x512 .bf16) (harg14 : arg14.IsWhole) (arg15 : Memref sig .tc .vmem S256x512 .f32) (harg15 : arg15.IsWhole) (hc0 : ¬cond0_0 i)
    (x0 : Vec F S1x256x256 .bf16) (x1 : Vec F S1x256x256 .bf16) (x2 : Vec F S1x256x512 .bf16) (x3 : Vec F S1x256x512 .bf16) (x4 : Vec F S256x128 .f32) (x5 : Vec F S256x128 .f32) (x6 : Vec F S1x256x256 .f32) (x7 : Vec F S1x256x1 .f32) (x8 : Vec F S1x256x1 .f32) (x9 : Vec F S1x1x1 .f32) (x10 : Vec F S1x1x512 .f32) (xs0 : Vec F S256x512 .f32) :
    sout0_B_0 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = stepS x1 x2 x4 x5 x8 x9 xs0 := by
  frame_out
  rfl

theorem out0_A_11_eq (c : Dev nD) (i : grid0.Coords) (arg3 : Memref sig .tc .vmem S1x256x256 .bf16) (harg3 : arg3.IsWhole) (arg4 : Memref sig .tc .vmem S1x256x256 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S1x256x256 .f32) (harg9 : arg9.IsWhole) (arg10 : Memref sig .tc .vmem S1x256x1 .f32) (harg10 : arg10.IsWhole) (arg11 : Memref sig .tc .vmem S1x256x1 .f32) (harg11 : arg11.IsWhole) (arg12 : Memref sig .tc .vmem S1x1x1 .f32) (harg12 : arg12.IsWhole) (arg13 : Memref sig .tc .vmem S1x1x512 .f32) (harg13 : arg13.IsWhole) (arg14 : Memref sig .tc .vmem S1x256x512 .bf16) (harg14 : arg14.IsWhole) (arg15 : Memref sig .tc .vmem S256x512 .f32) (harg15 : arg15.IsWhole) (hc0 : cond0_0 i)
    (x0 : Vec F S1x256x256 .bf16) (x1 : Vec F S1x256x256 .bf16) (x2 : Vec F S1x256x512 .bf16) (x3 : Vec F S1x256x512 .bf16) (x4 : Vec F S256x128 .f32) (x5 : Vec F S256x128 .f32) (x6 : Vec F S1x256x256 .f32) (x7 : Vec F S1x256x1 .f32) (x8 : Vec F S1x256x1 .f32) (x9 : Vec F S1x1x1 .f32) (x10 : Vec F S1x1x512 .f32) :
    out0_A_11 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = outB x0 x1 x2 x3 x4 x5 x6 x7 x10 k0_pay2 := by
  frame_out
  rfl

theorem out0_B_11_eq (c : Dev nD) (i : grid0.Coords) (arg3 : Memref sig .tc .vmem S1x256x256 .bf16) (harg3 : arg3.IsWhole) (arg4 : Memref sig .tc .vmem S1x256x256 .bf16) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S1x256x256 .f32) (harg9 : arg9.IsWhole) (arg10 : Memref sig .tc .vmem S1x256x1 .f32) (harg10 : arg10.IsWhole) (arg11 : Memref sig .tc .vmem S1x256x1 .f32) (harg11 : arg11.IsWhole) (arg12 : Memref sig .tc .vmem S1x1x1 .f32) (harg12 : arg12.IsWhole) (arg13 : Memref sig .tc .vmem S1x1x512 .f32) (harg13 : arg13.IsWhole) (arg14 : Memref sig .tc .vmem S1x256x512 .bf16) (harg14 : arg14.IsWhole) (arg15 : Memref sig .tc .vmem S256x512 .f32) (harg15 : arg15.IsWhole) (hc0 : ¬cond0_0 i)
    (x0 : Vec F S1x256x256 .bf16) (x1 : Vec F S1x256x256 .bf16) (x2 : Vec F S1x256x512 .bf16) (x3 : Vec F S1x256x512 .bf16) (x4 : Vec F S256x128 .f32) (x5 : Vec F S256x128 .f32) (x6 : Vec F S1x256x256 .f32) (x7 : Vec F S1x256x1 .f32) (x8 : Vec F S1x256x1 .f32) (x9 : Vec F S1x1x1 .f32) (x10 : Vec F S1x1x512 .f32) (xs0 : Vec F S256x512 .f32) :
    out0_B_11 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 = outB x0 x1 x2 x3 x4 x5 x6 x7 x10 xs0 := by
  frame_out
  rfl

end Cert.KernelIdeal.Ret
-- ==== Proof.RetPay.lean ====
module

public import proofs.«01_k».proof.Proof.RetBlk
public import proofs.«01_k».proof.Proof.RetConst
public import Idealize.ShloMosaic.Lib.Pointwise

@[expose] public section

set_option maxRecDepth 16384

noncomputable section

/-! The kernel's expressions of one chunk, read at an index. -/

namespace Cert.KernelIdeal.Ret

open Cert.Ret Cert.KernelIdeal Cert.KernelIdeal.Gen Idealize.ShloMosaic Idealize.ShloMosaic.TcCoe

/-- The rotation of a half-split row of a block. -/
theorem pay5_ix (x4 x5 : Vec Ideal S256x128 .f32) (x1 : Vec Ideal S1x256x256 .bf16) (X : ℕ → ℝ) (s : ℕ) (i d : Fin 256)
    (h1 : ∀ d : Fin 256, (x1 (ix3 0 i d) : EReal) = ((X d.val : ℝ) : EReal))
    (h4 : ∀ d : Fin 128, (x4 (ix2 i d) : EReal) = ((Real.cos (ang s d.val) : ℝ) : EReal))
    (h5 : ∀ d : Fin 128, (x5 (ix2 i d) : EReal) = ((Real.sin (ang s d.val) : ℝ) : EReal)) :
    (k0_pay5 (F := Ideal) x4 x5 x1 (ix2 i d) : EReal) = ((rot X s d.val * (1 / 16) : ℝ) : EReal) := by
  unfold_payloads
  pointwise
  rw [bits_16th]
  unfold rot
  split_ifs <;> rw [h1, h1, h4, h5] <;> norm_cast
theorem pay7_ix (x4 x5 : Vec Ideal S256x128 .f32) (x1 : Vec Ideal S1x256x256 .bf16) (X : ℕ → ℝ) (s : ℕ) (i d : Fin 256)
    (h1 : ∀ d : Fin 256, (x1 (ix3 0 i d) : EReal) = ((X d.val : ℝ) : EReal))
    (h4 : ∀ d : Fin 128, (x4 (ix2 i d) : EReal) = ((Real.cos (ang s d.val) : ℝ) : EReal))
    (h5 : ∀ d : Fin 128, (x5 (ix2 i d) : EReal) = ((Real.sin (ang s d.val) : ℝ) : EReal)) :
    (k0_pay7 (F := Ideal) x4 x5 x1 (ix2 i d) : EReal) = ((rot X s d.val : ℝ) : EReal) := by
  unfold_payloads
  pointwise
  unfold rot
  split_ifs <;> rw [h1, h1, h4, h5] <;> norm_cast
theorem pay8_ix (x4 x5 : Vec Ideal S256x128 .f32) (x0 x1 : Vec Ideal S1x256x256 .bf16) (i j : Fin 256) :
    (k0_pay8 (F := Ideal) x4 x5 x0 x1 (ix2 i j) : EReal)
      = ∑ d : Fin 256, (k0_pay7 (F := Ideal) x4 x5 x0 (ix2 i d) : EReal) * (k0_pay5 (F := Ideal) x4 x5 x1 (ix2 j d) : EReal) := by
  unfold k0_pay8
  pointwise
theorem pay6_ix (x2 : Vec Ideal S1x256x512 .bf16) (i : Fin 256) (e : Fin 512) :
    (k0_pay6 (F := Ideal) x2 (ix2 i e) : EReal) = x2 (ix3 0 i e) := by
  unfold_payloads
  pointwise
theorem pay10_ix (k : FVec Ideal S256x256 .f32) (v : FVec Ideal S256x512 .bf16) (s : Vec Ideal S256x512 .f32)
    (x8 : Vec Ideal S1x256x1 .f32) (x9 : Vec Ideal S1x1x1 .f32) (d : Fin 256) (e : Fin 512) :
    (k0_pay10 (F := Ideal) k v s x8 x9 (ix2 d e) : EReal)
      = (s (ix2 d e) : EReal) * x9 (ix3 0 0 0) + ∑ x : Fin 256, (k (ix2 x d) : EReal) * x8 (ix3 0 x 0) * v (ix2 x e) := by
  unfold_payloads
  pointwise
theorem pay9_ix (v : FVec Ideal S256x512 .bf16) (q : FVec Ideal S256x256 .bf16) (qk : FVec Ideal S256x256 .f32)
    (x6 : Vec Ideal S1x256x256 .f32) (s : Vec Ideal S256x512 .f32) (x7 : Vec Ideal S1x256x1 .f32) (i : Fin 256) (e : Fin 512) :
    (k0_pay9 (F := Ideal) v q qk x6 s x7 (ix2 i e) : EReal)
      = ∑ x : Fin 256, (qk (ix2 i x) : EReal) * x6 (ix3 0 i x) * v (ix2 x e)
        + (∑ x : Fin 256, (q (ix2 i x) : EReal) * s (ix2 x e)) * x7 (ix3 0 i 0) := by
  unfold_payloads
  pointwise
theorem pay1_ix (a b : FVec Ideal S256x512 .f32) (g : FVec Ideal S1x512 .f32) (oo : FVec Ideal S256x512 .f32) (i : Fin 256) (e : Fin 512) :
    (k0_pay1 (F := Ideal) a b g oo (ix3 0 i e) : EReal)
      = (a (ix2 i e) : EReal) * Ideal.rsqrt (Ideal.div (∑ x : Fin 512, (oo (ix2 i x) : EReal)) (Ideal.ofBits FTy.f32 1140850688#32)
          + Ideal.ofBits FTy.f32 897988541#32) * g (ix2 0 e) * ((b (ix2 i e) : EReal) * Ideal.logistic (b (ix2 i e) : EReal)) := by
  unfold_payloads
  pointwise
theorem pay11_ix (x3 : Vec Ideal S1x256x512 .bf16) (i : Fin 256) (e : Fin 512) :
    (k0_pay11 (F := Ideal) x3 (ix2 i e) : EReal) = x3 (ix3 0 i e) := by
  unfold_payloads
  pointwise
theorem pay12_ix (x3 : Vec Ideal S1x1x512 .f32) (e : Fin 512) :
    (k0_pay12 (F := Ideal) x3 (ix2 0 e) : EReal) = x3 (ix3 0 0 e) := by
  unfold_payloads
  pointwise
theorem pay13_ix (v : FVec Ideal S256x512 .bf16) (q : FVec Ideal S256x256 .bf16) (qk : FVec Ideal S256x256 .f32)
    (x6 : Vec Ideal S1x256x256 .f32) (s : Vec Ideal S256x512 .f32) (x7 : Vec Ideal S1x256x1 .f32) (i : Fin 256) (e : Fin 512) :
    (k0_pay13 (F := Ideal) v q qk x6 s x7 (ix2 i e) : EReal)
      = (k0_pay9 (F := Ideal) v q qk x6 s x7 (ix2 i e) : EReal) * k0_pay9 (F := Ideal) v q qk x6 s x7 (ix2 i e) := by
  unfold k0_pay13
  rfl
theorem pay2_ix (i : Fin 256) (e : Fin 512) : (k0_pay2 (F := Ideal) (ix2 i e) : EReal) = 0 := by
  unfold_payloads
  pointwise

end Cert.KernelIdeal.Ret
-- ==== Proof.RetState.lean ====
module

public import proofs.«01_k».proof.Proof.RetIdx
public import proofs.«01_k».proof.Proof.RetTabK
public import proofs.«01_k».proof.Proof.RetPay

@[expose] public section

set_option maxRecDepth 16384

noncomputable section

/-! The kernel's carried state and its output blocks, over the reals. -/

namespace Cert.KernelIdeal.Ret

open Cert.Ret Cert.KernelIdeal Cert.KernelIdeal.Gen Idealize.ShloMosaic Idealize.ShloMosaic.TcCoe

variable (m : (ℓ : Loc nD τ sig) → Buf (Elt Ideal) ℓ)

/-- The projected queries, keys and values are the reals `A`. -/
def IsReal (X : Vec Ideal S16x4096x6144 .bf16) (A : ℕ → ℕ → ℕ → ℝ) : Prop :=
  ∀ (b : Fin 16) (s : Fin 4096) (n : Fin 6144), n.val < 4096 → (X (ix3 b s n) : EReal) = ((A b.val s.val n.val : ℝ) : EReal)

variable (A : ℕ → ℕ → ℕ → ℝ) (c : Dev nD) (hA : IsReal (m (c, Proc.tc.devRef main_arg0)) A)
include hA

theorem k_ix (t : Fin cfg0.N) (i d : Fin 256) :
    (k0_pay5 (F := Ideal) (iblk m c 4 t) (iblk m c 5 t) (iblk m c 1 t) (ix2 i d) : EReal)
      = ((kr A (t.val / 64) (t.val / 16 % 4) (256 * (t.val % 16) + i.val) d.val : ℝ) : EReal) := by
  refine (pay5_ix _ _ _ (fun d => A (t.val / 64) (256 * (t.val % 16) + i.val) (1024 + (256 * (t.val / 16 % 4) + d)))
    (256 * (t.val % 16) + i.val) i d (fun d => ?_) (fun d => ?_) (fun d => ?_)).trans rfl
  · rw [blk1 m c t i d _ rfl]; exact hA _ _ _ (by dsimp only; omega)
  · rw [blk4]; exact v71 m c _ _
  · rw [blk5]; exact v72 m c _ _
theorem q_ix (t : Fin cfg0.N) (i d : Fin 256) :
    (k0_pay7 (F := Ideal) (iblk m c 4 t) (iblk m c 5 t) (iblk m c 0 t) (ix2 i d) : EReal)
      = ((qr A (t.val / 64) (t.val / 16 % 4) (256 * (t.val % 16) + i.val) d.val : ℝ) : EReal) := by
  refine (pay7_ix _ _ _ (fun d => A (t.val / 64) (256 * (t.val % 16) + i.val) (256 * (t.val / 16 % 4) + d))
    (256 * (t.val % 16) + i.val) i d (fun d => ?_) (fun d => ?_) (fun d => ?_)).trans rfl
  · rw [blk0 m c t i d _ rfl]; exact hA _ _ _ (by dsimp only; omega)
  · rw [blk4]; exact v71 m c _ _
  · rw [blk5]; exact v72 m c _ _
theorem v_ix (t : Fin cfg0.N) (i : Fin 256) (e : Fin 512) :
    (k0_pay6 (F := Ideal) (iblk m c 2 t) (ix2 i e) : EReal)
      = ((vr A (t.val / 64) (t.val / 16 % 4) (256 * (t.val % 16) + i.val) e.val : ℝ) : EReal) := by
  rw [pay6_ix, blk2 m c t i e _ rfl]; exact hA _ _ _ (by dsimp only; omega)

/-- One chunk takes the state of the chunks before it to the next. -/
theorem step_ix (t : Fin cfg0.N) (n : ℕ) (hn : n = t.val % 16) (acc : Vec Ideal S256x512 .f32)
    (hacc : ∀ (d : Fin 256) (e : Fin 512), (acc (ix2 d e) : EReal)
      = ((st 256 (gm (t.val / 16 % 4)) (fun n => kr A (t.val / 64) (t.val / 16 % 4) n d.val) (fun n => vr A (t.val / 64) (t.val / 16 % 4) n e.val) n : ℝ) : EReal))
    (d : Fin 256) (e : Fin 512) :
    (stepS (F := Ideal) (iblk m c 1 t) (iblk m c 2 t) (iblk m c 4 t) (iblk m c 5 t) (iblk m c 8 t) (iblk m c 9 t) acc (ix2 d e) : EReal)
      = ((st 256 (gm (t.val / 16 % 4)) (fun n => kr A (t.val / 64) (t.val / 16 % 4) n d.val) (fun n => vr A (t.val / 64) (t.val / 16 % 4) n e.val) (n + 1) : ℝ) : EReal) := by
  subst hn
  unfold stepS
  rw [pay10_ix, hacc, blk9, v70, st, EReal.coe_add, EReal.coe_mul, coe_sum, ← Fin.sum_univ_eq_sum_range (fun x => (((kr A (t.val / 64) (t.val / 16 % 4) (256 * (t.val % 16) + x) d.val * Real.exp (gm (t.val / 16 % 4) * (((256 : ℕ) : ℝ) - 1 - x))) * vr A (t.val / 64) (t.val / 16 % 4) (256 * (t.val % 16) + x) e.val : ℝ) : EReal)) 256]
  congr 1
  refine Finset.sum_congr rfl fun x _ => ?_
  rw [k_ix m A c hA, v_ix m A c hA, blk8, v66, ← EReal.coe_mul, ← EReal.coe_mul]
  norm_num

/-- The state carried out of a grid point. -/
theorem state_ix : ∀ (k : ℕ) (t : Fin cfg0.N), t.val % 16 = k → ∀ (d : Fin 256) (e : Fin 512),
    ((outsAt0 m c t.val t.isLt).2 (ix2 d e) : EReal)
      = ((st 256 (gm (t.val / 16 % 4)) (fun n => kr A (t.val / 64) (t.val / 16 % 4) n d.val) (fun n => vr A (t.val / 64) (t.val / 16 % 4) n e.val) (k + 1) : ℝ) : EReal) := by
  intro k
  induction k with
  | zero =>
    intro t ht d e
    rw [outsAt0_A m c t ht]
    dsimp only
    rw [sout0_A_0_eq]
    exact step_ix m A c hA t 0 ht.symm _ (fun d e => (pay2_ix d e).trans (by simp [st])) d e
  | succ k ih =>
    intro t ht d e
    have hlt := lt_N t
    rw [outsAt0_B m c t (by omega)]
    dsimp only
    rw [sout0_B_0_eq]
    refine step_ix m A c hA t (k + 1) ht.symm _ (fun d e => ?_) d e
    have := ih ⟨t.val - 1, lt_of_le_of_lt (Nat.sub_le _ _) t.isLt⟩ (by show (t.val - 1) % 16 = k; omega) d e
    rw [show (t.val - 1) / 16 % 4 = t.val / 16 % 4 by omega, show (t.val - 1) / 64 = t.val / 64 by omega] at this
    exact this

end Cert.KernelIdeal.Ret
-- ==== Proof.RetOut.lean ====
module

public import proofs.«01_k».proof.Proof.RetState

@[expose] public section

set_option maxRecDepth 16384

noncomputable section

/-! The kernel's result, row by row. -/

namespace Cert.KernelIdeal.Ret

open Cert.Ret Cert.KernelIdeal Cert.KernelIdeal.Gen Idealize.ShloMosaic Idealize.ShloMosaic.TcCoe

variable (m : (ℓ : Loc nD τ sig) → Buf (Elt Ideal) ℓ)
variable (A : ℕ → ℕ → ℕ → ℝ) (c : Dev nD) (hA : IsReal (m (c, Proc.tc.devRef main_arg0)) A)
include hA

theorem o_ix (t : Fin cfg0.N) (acc : Vec Ideal S256x512 .f32)
    (hacc : ∀ (d : Fin 256) (e : Fin 512), (acc (ix2 d e) : EReal)
      = ((st 256 (gm (t.val / 16 % 4)) (fun n => kr A (t.val / 64) (t.val / 16 % 4) n d.val) (fun n => vr A (t.val / 64) (t.val / 16 % 4) n e.val) (t.val % 16) : ℝ) : EReal))
    (i : Fin 256) (e : Fin 512) :
    (k0_pay9 (F := Ideal) (k0_pay6 (iblk m c 2 t)) (k0_pay7 (iblk m c 4 t) (iblk m c 5 t) (iblk m c 0 t))
        (k0_pay8 (iblk m c 4 t) (iblk m c 5 t) (iblk m c 0 t) (iblk m c 1 t)) (iblk m c 6 t) acc (iblk m c 7 t) (ix2 i e) : EReal)
      = ((orow A (t.val / 64) (t.val / 16 % 4) (256 * (t.val % 16) + i.val) e.val : ℝ) : EReal) := by
  unfold orow
  rw [show (256 * (t.val % 16) + i.val) / 256 = t.val % 16 by omega, show (256 * (t.val % 16) + i.val) % 256 = i.val by omega]
  rw [pay9_ix]
  simp only [pay8_ix]
  exact row_cast 256 _ _ _ _ _ _ _ _ (fun x d => kr A (t.val / 64) (t.val / 16 % 4) (256 * (t.val % 16) + x) d)
    (fun x => dec (gm (t.val / 16 % 4)) i.val x) (fun x => vr A (t.val / 64) (t.val / 16 % 4) (256 * (t.val % 16) + x) e.val) _
    (fun d => q_ix m A c hA t i d) (fun d => hacc d e) (fun x d => k_ix m A c hA t x d)
    (fun x => by rw [blk6]; exact v48 m c _ _ _) (fun x => v_ix m A c hA t x e) (by rw [blk7]; exact v57 m c _ _)

theorem outB_ix (t : Fin cfg0.N) (acc : Vec Ideal S256x512 .f32)
    (hacc : ∀ (d : Fin 256) (e : Fin 512), (acc (ix2 d e) : EReal)
      = ((st 256 (gm (t.val / 16 % 4)) (fun n => kr A (t.val / 64) (t.val / 16 % 4) n d.val) (fun n => vr A (t.val / 64) (t.val / 16 % 4) n e.val) (t.val % 16) : ℝ) : EReal))
    (i : Fin 256) (e : Fin 512) :
    (outB (F := Ideal) (iblk m c 0 t) (iblk m c 1 t) (iblk m c 2 t) (iblk m c 3 t) (iblk m c 4 t) (iblk m c 5 t) (iblk m c 6 t) (iblk m c 7 t) (iblk m c 10 t) acc (ix3 0 i e) : EReal)
      = finish (fun e => orow A (t.val / 64) (t.val / 16 % 4) (256 * (t.val % 16) + i.val) e)
          (m (c, Proc.tc.devRef main_arg1) (ix1 ⟨t.val / 16 % 4 * 512 + e.val, by omega⟩))
          (m (c, Proc.tc.devRef main_arg0) (ix3 ⟨t.val / 64, by have := lt_N t; omega⟩ ⟨256 * (t.val % 16) + i.val, by omega⟩
            ⟨4096 + (512 * (t.val / 16 % 4) + e.val), by omega⟩)) e.val := by
  unfold outB
  rw [pay1_ix, pay11_ix, pay12_ix, blk3 m c t i e _ rfl, blk10, v73]
  simp only [pay13_ix]
  exact finish_cast (fun e => k0_pay9 (F := Ideal) (k0_pay6 (iblk m c 2 t)) (k0_pay7 (iblk m c 4 t) (iblk m c 5 t) (iblk m c 0 t))
        (k0_pay8 (iblk m c 4 t) (iblk m c 5 t) (iblk m c 0 t) (iblk m c 1 t)) (iblk m c 6 t) acc (iblk m c 7 t) (ix2 i e)) _
    (fun e => o_ix m A c hA t acc hacc i e) _ _ e

/-- What a grid point writes back. -/
theorem block_ix (t : Fin cfg0.N) (i : Fin 256) (e : Fin 512) :
    ((outsAt0 m c t.val t.isLt).1 (ix3 0 i e) : EReal)
      = finish (fun e => orow A (t.val / 64) (t.val / 16 % 4) (256 * (t.val % 16) + i.val) e)
          (m (c, Proc.tc.devRef main_arg1) (ix1 ⟨t.val / 16 % 4 * 512 + e.val, by omega⟩))
          (m (c, Proc.tc.devRef main_arg0) (ix3 ⟨t.val / 64, by have := lt_N t; omega⟩ ⟨256 * (t.val % 16) + i.val, by omega⟩
            ⟨4096 + (512 * (t.val / 16 % 4) + e.val), by omega⟩)) e.val := by
  have hlt := lt_N t
  by_cases h : t.val % 16 = 0
  · rw [outsAt0_A m c t h]
    dsimp only
    rw [out0_A_11_eq]
    exact outB_ix m A c hA t _ (fun d e => (pay2_ix d e).trans (by rw [h]; simp [st])) i e
  · rw [outsAt0_B m c t h]
    dsimp only
    rw [out0_B_11_eq]
    refine outB_ix m A c hA t _ (fun d e => ?_) i e
    have := state_ix m A c hA (t.val % 16 - 1) ⟨t.val - 1, lt_of_le_of_lt (Nat.sub_le _ _) t.isLt⟩ (by show (t.val - 1) % 16 = _; omega) d e
    rw [show (t.val - 1) / 16 % 4 = t.val / 16 % 4 by omega, show (t.val - 1) / 64 = t.val / 64 by omega,
      show t.val % 16 - 1 + 1 = t.val % 16 by omega] at this
    exact this

/-- The kernel's result. -/
def result (X : Vec Ideal S16x4096x6144 .bf16) (g : Vec Ideal S2048 .f32) (A : ℕ → ℕ → ℕ → ℝ) : Vec Ideal S16x4096x2048 .bf16 := fun i =>
  (finish (fun e => orow A (i 0).val ((i 2).val / 512) (i 1).val e) (g (ix1 (i 2)))
    (X (ix3 (i 0) (i 1) ⟨4096 + (i 2).val, by have h : (i 2).val < 2048 := (i 2).isLt; omega⟩)) ((i 2).val % 512) : EReal)

omit hA in
theorem result_at (X : Vec Ideal S16x4096x6144 .bf16) (g : Vec Ideal S2048 .f32) (A : ℕ → ℕ → ℕ → ℝ) (j : S16x4096x2048.Idx) (b h s e n : ℕ)
    (hb : b < 16) (hh : h < 4) (hs : s < 4096) (he : e < 512) (hn : n = h * 512 + e)
    (h0 : (j 0).val = b) (h1 : (j 1).val = s) (h2 : (j 2).val = 512 * h + e) :
    (result X g A j : EReal) = finish (fun e => orow A b h s e) (g (ix1 ⟨n, by omega⟩))
      (X (ix3 ⟨b, hb⟩ ⟨s, hs⟩ ⟨4096 + (512 * h + e), by omega⟩)) e := by
  obtain ⟨j0, j1, j2, rfl⟩ : ∃ (j0 : Fin 16) (j1 : Fin 4096) (j2 : Fin 2048), j = ix3 j0 j1 j2 := ⟨j 0, j 1, j 2, eq_ix3 j⟩
  obtain rfl : j0 = ⟨b, hb⟩ := Fin.ext h0
  obtain rfl : j1 = ⟨s, hs⟩ := Fin.ext h1
  have hj : 512 * h + e < 2048 := by omega
  obtain rfl : j2 = ⟨512 * h + e, hj⟩ := Fin.ext h2
  have d1 : (512 * h + e) / 512 = h := by omega
  have d2 : (512 * h + e) % 512 = e := by omega
  obtain rfl : n = 512 * h + e := by omega
  show finish (fun x => orow A b ((512 * h + e) / 512) s x) (g (ix1 ⟨512 * h + e, _⟩)) _ ((512 * h + e) % 512) = _
  rw [d1, d2]
  rfl

theorem final : (dats m 0 c).arrAt 11 cfg0.N
    = result (m (c, Proc.tc.devRef main_arg0)) (m (c, Proc.tc.devRef main_arg1)) A := by
  refine (dats m 0 c).arrAt_eq_of_covers 11 _ (by decide +kernel) fun t hf y => ?_
  blk_simp
  rw [after0_11]
  have hlt := lt_N t
  obtain ⟨a, i, e, rfl⟩ : ∃ (a : Fin 1) (i : Fin 256) (e : Fin 512), y = ix3 a i e := ⟨y 0, y 1, y 2, eq_ix3 y⟩
  obtain rfl : a = 0 := Subsingleton.elim _ _
  refine (block_ix m A c hA t i e).trans ?_
  have e0 : (((win0_11.blk t).view.emb (ix3 0 i e)) 0).val = t.val / 64 := by blk_simp [(idx_tab t).2.2.2.2.2]; simp
  have e1 : (((win0_11.blk t).view.emb (ix3 0 i e)) 1).val = 256 * (t.val % 16) + i.val := by blk_simp [(idx_tab t).2.2.2.2.2]; simp; omega
  have e2 : (((win0_11.blk t).view.emb (ix3 0 i e)) 2).val = 512 * (t.val / 16 % 4) + e.val := by blk_simp [(idx_tab t).2.2.2.2.2]; simp; omega
  exact (result_at _ _ A _ _ _ _ _ _ (by omega) (by omega) (by omega) e.isLt rfl e0 e1 e2).symm

end Cert.KernelIdeal.Ret
-- ==== Proof.RetTabR.lean ====
module

public import proofs.«01_k».proof.Proof.Gen.ReferenceIdeal.Run
public import proofs.«01_k».proof.Proof.RetConst
public import Idealize.ShloMosaic.Lib.Pointwise

@[expose] public section

set_option maxRecDepth 16384

noncomputable section

/-! What the reference's loop starts from, read at an index. -/

namespace Cert.ReferenceIdeal.Ret

open Cert.Ret Cert.ReferenceIdeal Cert.ReferenceIdeal.Value Idealize.ShloMosaic Idealize.ShloMosaic.StableHlo Idealize.ShloMosaic.HostLoop Idealize.ShloMosaic.TcCoe

variable (m : (ℓ : Loc nD τ sig) → Buf (Elt Ideal) ℓ)

theorem e3 (c : Dev nD) (h : Fin 4) (i j : Fin 64) :
    (entryContents preI m c (Proc.devRef .tc main_v125_3) (ix3 h i j) : EReal)
      = ((Real.exp (gm h.val * |(i.val : ℝ) - (j.val : ℝ)|) : ℝ) : EReal) := by
  simp only [entryContents, afterL_cons, afterL_nil]
  after_reads_simp
  simp only [StableHlo.TRef.ofBuf_toBuf, StableHlo.TRef.ofBuf, StableHlo.TRef.toBuf, cast_eq, id_eq]
  pointwise
  rw [gm_eq _ (by omega), sitofp_nat _ (by omega), sitofp_nat _ (by omega), ← EReal.coe_sub, absf_real, ← EReal.coe_mul, Ideal.exp_coe]
theorem e4 (c : Dev nD) (i : Fin 64) (h : Fin 4) :
    (entryContents preI m c (Proc.devRef .tc main_v125_4) (ix2 i h) : EReal)
      = ((Real.exp (gm h.val * ((i.val : ℝ) + 1)) : ℝ) : EReal) := by
  simp only [entryContents, afterL_cons, afterL_nil]
  after_reads_simp
  simp only [StableHlo.TRef.ofBuf_toBuf, StableHlo.TRef.ofBuf, StableHlo.TRef.toBuf, cast_eq, id_eq]
  pointwise
  rw [gm_eq _ (by omega), sitofp_nat _ (by omega), ← EReal.coe_one, ← EReal.coe_add, ← EReal.coe_mul, Ideal.exp_coe]
theorem e5 (c : Dev nD) (h : Fin 4) :
    (entryContents preI m c (Proc.devRef .tc main_v125_5) (ix1 h) : EReal) = ((Real.exp (gm h.val * 64) : ℝ) : EReal) := by
  simp only [entryContents, afterL_cons, afterL_nil]
  after_reads_simp
  simp only [StableHlo.TRef.ofBuf_toBuf, StableHlo.TRef.ofBuf, StableHlo.TRef.toBuf, cast_eq, id_eq]
  pointwise
  rw [gm_eq _ (by omega), bits_64, ← EReal.coe_mul, Ideal.exp_coe]
theorem e6 (c : Dev nD) (i : Fin 64) (h : Fin 4) :
    (entryContents preI m c (Proc.devRef .tc main_v125_6) (ix2 i h) : EReal)
      = ((Real.exp (gm h.val * (63 - (i.val : ℝ))) : ℝ) : EReal) := by
  simp only [entryContents, afterL_cons, afterL_nil]
  after_reads_simp
  simp only [StableHlo.TRef.ofBuf_toBuf, StableHlo.TRef.ofBuf, StableHlo.TRef.toBuf, cast_eq, id_eq]
  pointwise
  rw [gm_eq _ (by omega), sitofp_nat _ (by omega), bits_63, ← EReal.coe_sub, ← EReal.coe_mul, Ideal.exp_coe]
theorem e8 (c : Dev nD) (b : Fin 16) (h : Fin 4) (d : Fin 256) (e : Fin 512) :
    (entryContents preI m c (Proc.devRef .tc main_v125_8) (ix4 b h d e) : EReal) = (0 : EReal) := by
  simp only [entryContents, afterL_cons, afterL_nil]
  after_reads_simp
  simp only [StableHlo.TRef.ofBuf_toBuf, StableHlo.TRef.ofBuf, StableHlo.TRef.toBuf, cast_eq, id_eq]
  pointwise

variable (A : ℕ → ℕ → ℕ → ℝ) (c : Dev nD)
variable (hA : ∀ (b : Fin 16) (s : Fin 4096) (n : Fin 6144), n.val < 4096 →
  (m (c, Proc.tc.devRef main_arg0) (ix3 b s n) : EReal) = ((A b.val s.val n.val : ℝ) : EReal))
include hA

theorem e2 (n : Fin 64) (b : Fin 16) (l : Fin 64) (h : Fin 4) (e : Fin 512) :
    (entryContents preI m c (Proc.devRef .tc main_v125_2) (ix5 n b l h e) : EReal)
      = ((vr A b.val h.val (64 * n.val + l.val) e.val : ℝ) : EReal) := by
  simp only [entryContents, afterL_cons, afterL_nil]
  after_reads_simp
  simp only [StableHlo.TRef.ofBuf_toBuf, StableHlo.TRef.ofBuf, StableHlo.TRef.toBuf, cast_eq, id_eq]
  pointwise
  refine (hA _ _ _ (by dsimp only; omega)).trans ?_
  unfold vr
  dsimp only
  rw [Nat.mul_comm n.val 64, Nat.mul_comm h.val 512]
theorem l30 (b : Fin 16) (s : Fin 4096) (h : Fin 4) (e : Fin 128) :
    (upto Gen.hostOps0 (launchContents m c) 41 (Proc.tc.devRef main_v30) (ix4 b s h e) : EReal)
      = ((A b.val s.val (256 * h.val + e.val) * Real.cos (ang s.val e.val) - A b.val s.val ((256 * h.val + (128 + e.val))) * Real.sin (ang s.val e.val) : ℝ) : EReal) := by
  after_reads_simp
  pointwise
  rw [ang_eq _ _ (by omega) (by omega), Ideal.cos_coe, Ideal.sin_coe]
  refine (congrArg₂ (fun x y : EReal => x * _ - y * _) (hA _ _ _ (by dsimp only; omega)) (hA _ _ _ (by dsimp only; omega))).trans ?_
  dsimp only
  rw [Nat.mul_comm h.val 256]
  norm_cast
theorem l35 (b : Fin 16) (s : Fin 4096) (h : Fin 4) (e : Fin 128) :
    (upto Gen.hostOps0 (launchContents m c) 41 (Proc.tc.devRef main_v35) (ix4 b s h e) : EReal)
      = ((A b.val s.val (256 * h.val + e.val) * Real.sin (ang s.val e.val) + A b.val s.val ((256 * h.val + (128 + e.val))) * Real.cos (ang s.val e.val) : ℝ) : EReal) := by
  after_reads_simp
  pointwise
  rw [ang_eq _ _ (by omega) (by omega), Ideal.cos_coe, Ideal.sin_coe]
  refine (congrArg₂ (fun x y : EReal => x * _ + y * _) (hA _ _ _ (by dsimp only; omega)) (hA _ _ _ (by dsimp only; omega))).trans ?_
  dsimp only
  rw [Nat.mul_comm h.val 256]
  norm_cast
theorem l66 (b : Fin 16) (s : Fin 4096) (h : Fin 4) (e : Fin 128) :
    (upto Gen.hostOps0 (launchContents m c) 82 (Proc.tc.devRef main_v66) (ix4 b s h e) : EReal)
      = ((A b.val s.val (1024 + (256 * h.val + e.val)) * Real.cos (ang s.val e.val) - A b.val s.val (1024 + (256 * h.val + (128 + e.val))) * Real.sin (ang s.val e.val) : ℝ) : EReal) := by
  after_reads_simp
  pointwise
  rw [ang_eq _ _ (by omega) (by omega), Ideal.cos_coe, Ideal.sin_coe]
  refine (congrArg₂ (fun x y : EReal => x * _ - y * _) (hA _ _ _ (by dsimp only; omega)) (hA _ _ _ (by dsimp only; omega))).trans ?_
  dsimp only
  rw [Nat.mul_comm h.val 256]
  norm_cast
theorem l71 (b : Fin 16) (s : Fin 4096) (h : Fin 4) (e : Fin 128) :
    (upto Gen.hostOps0 (launchContents m c) 82 (Proc.tc.devRef main_v71) (ix4 b s h e) : EReal)
      = ((A b.val s.val (1024 + (256 * h.val + e.val)) * Real.sin (ang s.val e.val) + A b.val s.val (1024 + (256 * h.val + (128 + e.val))) * Real.cos (ang s.val e.val) : ℝ) : EReal) := by
  after_reads_simp
  pointwise
  rw [ang_eq _ _ (by omega) (by omega), Ideal.cos_coe, Ideal.sin_coe]
  refine (congrArg₂ (fun x y : EReal => x * _ + y * _) (hA _ _ _ (by dsimp only; omega)) (hA _ _ _ (by dsimp only; omega))).trans ?_
  dsimp only
  rw [Nat.mul_comm h.val 256]
  norm_cast

end Cert.ReferenceIdeal.Ret
-- ==== Proof.RetCat.lean ====
module

public import proofs.«01_k».proof.Proof.Gen.ReferenceIdeal.Run
public import proofs.«01_k».proof.Proof.RetConst
public import Idealize.ShloMosaic.Lib.Pointwise

@[expose] public section

set_option maxRecDepth 16384

noncomputable section

/-! What the reference's loop starts from, read at an index. -/

namespace Cert.ReferenceIdeal.Ret

open Cert.Ret Cert.ReferenceIdeal Cert.ReferenceIdeal.Value Idealize.ShloMosaic Idealize.ShloMosaic.StableHlo Idealize.ShloMosaic.HostLoop Idealize.ShloMosaic.TcCoe

variable (m : (ℓ : Loc nD τ sig) → Buf (Elt Ideal) ℓ)

/-- Chunks of an array, by position, at an index. -/
theorem chunk_ix (Z : FVec Ideal S16x4096x4x256 .f32) (n : Fin 64) (b : Fin 16) (l : Fin 64) (h : Fin 4) (e : Fin 256) :
    (transpose S64x16x64x4x256 [1, 0, 2, 3, 4]
        (shapeCast S16x64x64x4x256 Z Gen.shapeCasts_S16x4096x4x256_S16x64x64x4x256)
        Gen.transposes_S16x64x64x4x256_S64x16x64x4x256_1_0_2_3_4 (ix5 n b l h e) : EReal)
      = Z (ix4 b ⟨n.val * 64 + l.val, by omega⟩ h e) := by
  pointwise
/-- Two halves put side by side, at an index. -/
theorem halves_ix (X Y : FVec Ideal S16x4096x4x128 .f32) (b : Fin 16) (s : Fin 4096) (h : Fin 4) (e : Fin 256) :
    (concatenate S16x4096x4x256 3 [⟨S16x4096x4x128, X⟩, ⟨S16x4096x4x128, Y⟩]
              Gen.concatenates_S16x4096x4x128_S16x4096x4x128_S16x4096x4x256_d3 (ix4 b s h e) : EReal)
      = if h' : e.val < 128 then (X (ix4 b s h ⟨e.val, h'⟩) : EReal)
        else Y (ix4 b s h ⟨e.val - 128, by omega⟩) := by
  pointwise
end Cert.ReferenceIdeal.Ret
-- ==== Proof.RetTabQ.lean ====
module

public import proofs.«01_k».proof.Proof.Gen.ReferenceIdeal.Run
public import proofs.«01_k».proof.Proof.RetConst
public import Idealize.ShloMosaic.Lib.Pointwise
public import proofs.«01_k».proof.Proof.RetTabR
public import proofs.«01_k».proof.Proof.RetCat

@[expose] public section

set_option maxRecDepth 16384

noncomputable section

/-! What the reference's loop starts from, read at an index. -/

namespace Cert.ReferenceIdeal.Ret

open Cert.Ret Cert.ReferenceIdeal Cert.ReferenceIdeal.Value Idealize.ShloMosaic Idealize.ShloMosaic.StableHlo Idealize.ShloMosaic.HostLoop Idealize.ShloMosaic.TcCoe

variable (m : (ℓ : Loc nD τ sig) → Buf (Elt Ideal) ℓ)

variable (A : ℕ → ℕ → ℕ → ℝ) (c : Dev nD)
variable (hA : ∀ (b : Fin 16) (s : Fin 4096) (n : Fin 6144), n.val < 4096 →
  (m (c, Proc.tc.devRef main_arg0) (ix3 b s n) : EReal) = ((A b.val s.val n.val : ℝ) : EReal))
include hA

theorem e0 (n : Fin 64) (b : Fin 16) (l : Fin 64) (h : Fin 4) (e : Fin 256) :
    (entryContents preI m c (Proc.devRef .tc main_v125_0) (ix5 n b l h e) : EReal)
      = ((qr A b.val h.val (64 * n.val + l.val) e.val : ℝ) : EReal) := by
  have hX := l30 m A c hA b ⟨n.val * 64 + l.val, by omega⟩ h
  have hY := l35 m A c hA b ⟨n.val * 64 + l.val, by omega⟩ h
  simp only [entryContents, afterL_cons, afterL_nil]
  after_reads_simp
  generalize upto Gen.hostOps0 (launchContents m c) 41 (Proc.tc.devRef main_v30) = X at hX ⊢
  generalize upto Gen.hostOps0 (launchContents m c) 41 (Proc.tc.devRef main_v35) = Y at hY ⊢
  have hc : ∀ (s : Fin 4096), _ = _ := fun s => halves_ix X Y b s h e
  generalize concatenate S16x4096x4x256 _ _ _ = Z at hc ⊢
  replace hc := hc ⟨n.val * 64 + l.val, by omega⟩
  pointwise
  refine hc.trans ?_
  unfold qr rot
  rw [Nat.mul_comm 64 n.val]
  split_ifs
  · exact hX _
  · exact hY _

theorem e1 (n : Fin 64) (b : Fin 16) (l : Fin 64) (h : Fin 4) (e : Fin 256) :
    (entryContents preI m c (Proc.devRef .tc main_v125_1) (ix5 n b l h e) : EReal)
      = ((kr A b.val h.val (64 * n.val + l.val) e.val : ℝ) : EReal) := by
  have hX := l66 m A c hA b ⟨n.val * 64 + l.val, by omega⟩ h
  have hY := l71 m A c hA b ⟨n.val * 64 + l.val, by omega⟩ h
  simp only [entryContents, afterL_cons, afterL_nil]
  after_reads_simp
  generalize upto Gen.hostOps0 (launchContents m c) 82 (Proc.tc.devRef main_v66) = X at hX ⊢
  generalize upto Gen.hostOps0 (launchContents m c) 82 (Proc.tc.devRef main_v71) = Y at hY ⊢
  have hc : ∀ (s : Fin 4096), _ = _ := fun s => halves_ix X Y b s h e
  generalize concatenate S16x4096x4x256 _ _ _ = Z at hc ⊢
  replace hc := hc ⟨n.val * 64 + l.val, by omega⟩
  pointwise
  refine (congrArg (fun x : EReal => x * Ideal.ofBits .f32 1031798784#32) hc).trans ?_
  unfold kr rot
  rw [bits_16th, Nat.mul_comm 64 n.val]
  split_ifs
  · rw [hX]; norm_cast
  · rw [hY]; norm_cast

end Cert.ReferenceIdeal.Ret
-- ==== Proof.RetStep.lean ====
module

public import proofs.«01_k».proof.Proof.Gen.ReferenceIdeal.Run
public import proofs.«01_k».proof.Proof.RetConst
public import Idealize.ShloMosaic.Lib.Pointwise
public import Idealize.ShloMosaic.Lib.WordCmp

@[expose] public section

set_option maxRecDepth 16384

noncomputable section

/-! One trip of the reference's loop over the chunks, at an index. -/

namespace Cert.ReferenceIdeal.Ret

open Cert.Ret Cert.ReferenceIdeal Cert.ReferenceIdeal.Gen Idealize.ShloMosaic.WordCmp Idealize.ShloMosaic Idealize.ShloMosaic.StableHlo Idealize.ShloMosaic.HostLoop Idealize.ShloMosaic.TcCoe

/-- One chunk of the queries or the keys. -/
theorem chunk256_ix (X : FVec Ideal S64x16x64x4x256 .f32) (off : Fin 5 → Int) (k : ℕ) (hk : k < 64)
    (ho : ∀ a, off a = ((![k, 0, 0, 0, 0] : Fin 5 → ℕ) a : Int)) (b : Fin 16) (l : Fin 64) (h : Fin 4) (d : Fin 256) :
    (shapeCast S16x64x4x256 (Host.dynamicSlice S1x16x64x4x256 X off sliceFits_S64x16x64x4x256_S1x16x64x4x256)
      shapeCasts_S1x16x64x4x256_S16x64x4x256 (ix4 b l h d) : EReal) = X (ix5 ⟨k, hk⟩ b l h d) := by
  have hs : S64x16x64x4x256.Slices ![k, 0, 0, 0, 0] S1x16x64x4x256 := ⟨rfl, fun a => by fin_cases a <;> simp [S64x16x64x4x256, S1x16x64x4x256] <;> omega⟩
  have e := dynamicSlice_eq_extract S1x16x64x4x256 X off sliceFits_S64x16x64x4x256_S1x16x64x4x256 ![k, 0, 0, 0, 0] hs ho
  rw [e]
  pointwise

/-- One chunk of the values. -/
theorem chunk512_ix (X : FVec Ideal S64x16x64x4x512 .f32) (off : Fin 5 → Int) (k : ℕ) (hk : k < 64)
    (ho : ∀ a, off a = ((![k, 0, 0, 0, 0] : Fin 5 → ℕ) a : Int)) (b : Fin 16) (l : Fin 64) (h : Fin 4) (d : Fin 512) :
    (shapeCast S16x64x4x512 (Host.dynamicSlice S1x16x64x4x512 X off sliceFits_S64x16x64x4x512_S1x16x64x4x512)
      shapeCasts_S1x16x64x4x512_S16x64x4x512 (ix4 b l h d) : EReal) = X (ix5 ⟨k, hk⟩ b l h d) := by
  have hs : S64x16x64x4x512.Slices ![k, 0, 0, 0, 0] S1x16x64x4x512 := ⟨rfl, fun a => by fin_cases a <;> simp [S64x16x64x4x512, S1x16x64x4x512] <;> omega⟩
  have e := dynamicSlice_eq_extract S1x16x64x4x512 X off sliceFits_S64x16x64x4x512_S1x16x64x4x512 ![k, 0, 0, 0, 0] hs ho
  rw [e]
  pointwise

/-- Writing one chunk leaves the others. -/
theorem put_ix (X : FVec Ideal S64x16x64x4x512 .f32) (Y : FVec Ideal S16x64x4x512 .f32) (off : Fin 5 → Int) (k : ℕ) (hk : k < 64)
    (ho : ∀ a, off a = ((![k, 0, 0, 0, 0] : Fin 5 → ℕ) a : Int)) (n : Fin 64) (b : Fin 16) (l : Fin 64) (h : Fin 4) (d : Fin 512) :
    (Host.dynamicUpdateSlice X (broadcastInDim S1x16x64x4x512 ![1, 2, 3, 4] bcast_S16x64x4x512_S1x16x64x4x512_1_2_3_4 Y) off
      updateFits_S64x16x64x4x512_S1x16x64x4x512 (ix5 n b l h d) : EReal)
      = if n.val = k then (Y (ix4 b l h d) : EReal) else X (ix5 n b l h d) := by
  have hs : S64x16x64x4x512.Slices ![k, 0, 0, 0, 0] S1x16x64x4x512 := ⟨rfl, fun a => by fin_cases a <;> simp [S64x16x64x4x512, S1x16x64x4x512] <;> omega⟩
  have e := dynamicUpdateSlice_eq_update X (broadcastInDim S1x16x64x4x512 ![1, 2, 3, 4] bcast_S16x64x4x512_S1x16x64x4x512_1_2_3_4 Y) off
      updateFits_S64x16x64x4x512_S1x16x64x4x512 ![k, 0, 0, 0, 0] hs ho
  rw [e]
  pointwise
  by_cases hn : n.val = k
  · rw [dif_pos (by omega), if_pos hn]
  · rw [dif_neg (by omega), if_neg hn]

/-- The state after one chunk. -/
theorem state_ix (S : FVec Ideal S16x4x256x512 .f32) (CD : FVec Ideal S4 .f32) (K : FVec Ideal S16x64x4x256 .f32)
    (KD : FVec Ideal S64x4 .f32) (V : FVec Ideal S16x64x4x512 .f32) (b : Fin 16) (h : Fin 4) (d : Fin 256) (e : Fin 512) :
    ((addf (mulf S (broadcastInDim S16x4x256x512 ![0, 1, 2, 3] bcast_S1x4x1x1_S16x4x256x512_0_1_2_3 (broadcastInDim S1x4x1x1 ![1] bcast_S4_S1x4x1x1_1 CD)))
      (Host.dotGeneral dot_S16x64x4x256_S16x64x4x512_S16x4x256x512_1_1_3_3_02_02 none (mulf K (broadcastInDim S16x64x4x256 ![0, 1, 2, 3] bcast_S1x64x4x1_S16x64x4x256_0_1_2_3 (broadcastInDim S1x64x4x1 ![1, 2] bcast_S64x4_S1x64x4x1_1_2 KD))) V) : FVec Ideal S16x4x256x512 .f32) (ix4 b h d e) : EReal)
      = (S (ix4 b h d e) : EReal) * CD (ix1 h) + ∑ l : Fin 64, ((K (ix4 b l h d) : EReal) * KD (ix2 l h)) * V (ix4 b l h e) := by
  pointwise

theorem turn (q s : Fin 256 → EReal) (k : Fin 64 → Fin 256 → EReal) (d v : Fin 64 → EReal) (p : EReal) :
    (∑ x : Fin 64, v x * ((∑ i : Fin 256, q i * k x i) * d x)) + (∑ i : Fin 256, s i * q i) * p
      = (∑ x : Fin 64, (∑ i : Fin 256, q i * k x i) * d x * v x) + (∑ i : Fin 256, q i * s i) * p := by
  congr 1
  · exact Finset.sum_congr rfl fun x _ => mul_comm _ _
  · congr 1
    exact Finset.sum_congr rfl fun x _ => mul_comm _ _

theorem state_cast (sE pE : EReal) (kE dE vE : Fin 64 → EReal) (s p : ℝ) (k d v : ℕ → ℝ) (hs : sE = ((s : ℝ) : EReal)) (hp : pE = ((p : ℝ) : EReal))
    (hk : ∀ x, kE x = ((k x.val : ℝ) : EReal)) (hd : ∀ x, dE x = ((d x.val : ℝ) : EReal)) (hv : ∀ x, vE x = ((v x.val : ℝ) : EReal)) :
    sE * pE + ∑ x : Fin 64, (kE x * dE x) * vE x = ((s * p + ∑ x ∈ Finset.range 64, (k x * d x) * v x : ℝ) : EReal) := by
  simp only [hs, hp, hk, hd, hv, Finset.sum_range]
  norm_cast

/-- A chunk's outputs. -/
theorem row_ix (S : FVec Ideal S16x4x256x512 .f32) (I : FVec Ideal S4x64x64 .f32) (Q K : FVec Ideal S16x64x4x256 .f32)
    (QD : FVec Ideal S64x4 .f32) (V : FVec Ideal S16x64x4x512 .f32) (b : Fin 16) (l : Fin 64) (h : Fin 4) (e : Fin 512) :
    ((addf (transpose S16x64x4x512 [0, 3, 1, 2] (Host.dotGeneral dot_S16x64x4x512_S16x4x64x64_S16x4x512x64_1_3_3_2_02_01 none V (mulf (Host.dotGeneral dot_S16x64x4x256_S16x64x4x256_S16x4x64x64_3_3_1_1_02_02 none Q K) (broadcastInDim S16x4x64x64 ![0, 1, 2, 3] bcast_S1x4x64x64_S16x4x64x64_0_1_2_3 (broadcastInDim S1x4x64x64 ![1, 2, 3] bcast_S4x64x64_S1x4x64x64_1_2_3 I)))) transposes_S16x4x512x64_S16x64x4x512_0_3_1_2) (mulf (transpose S16x64x4x512 [0, 3, 1, 2] (Host.dotGeneral dot_S16x4x256x512_S16x64x4x256_S16x4x512x64_2_3_3_1_01_02 none S Q) transposes_S16x4x512x64_S16x64x4x512_0_3_1_2) (broadcastInDim S16x64x4x512 ![0, 1, 2, 3] bcast_S1x64x4x1_S16x64x4x512_0_1_2_3 (broadcastInDim S1x64x4x1 ![1, 2] bcast_S64x4_S1x64x4x1_1_2 QD))) : FVec Ideal S16x64x4x512 .f32) (ix4 b l h e) : EReal)
      = ∑ x : Fin 64, (∑ i : Fin 256, (Q (ix4 b l h i) : EReal) * K (ix4 b x h i)) * I (ix3 h l x) * V (ix4 b x h e)
        + (∑ i : Fin 256, (Q (ix4 b l h i) : EReal) * S (ix4 b h i e)) * QD (ix2 l h) := by
  pointwise
  exact turn _ _ _ _ _ _

end Cert.ReferenceIdeal.Ret
-- ==== Proof.RetLoop.lean ====
module

public import proofs.«01_k».proof.Proof.RetTabR
public import proofs.«01_k».proof.Proof.RetTabQ
public import proofs.«01_k».proof.Proof.RetStep

@[expose] public section

set_option maxRecDepth 16384

noncomputable section

/-! The reference's loop over the chunks: the state it carries and the outputs it has written after `k` trips. -/

namespace Cert.ReferenceIdeal.Ret

open Cert.Ret Cert.ReferenceIdeal Cert.ReferenceIdeal.Gen Cert.ReferenceIdeal.Value Idealize.ShloMosaic Idealize.ShloMosaic.StableHlo Idealize.ShloMosaic.HostLoop Idealize.ShloMosaic.TcCoe

variable (m : (ℓ : Loc nD τ sig) → Buf (Elt Ideal) ℓ)

/-- The loop's carried values after `k` trips. -/
def W (c : Dev nD) (k : ℕ) : Valuation τ sig (Elt Ideal) := STEP^[k] (entryContents preI m c)

theorem W_succ (c : Dev nD) (k : ℕ) : W m c (k + 1) = STEP (W m c k) := Function.iterate_succ_apply' _ _ _

theorem W_0 (c : Dev nD) (k : ℕ) : W m c k (Proc.devRef .tc main_v125_0) = entryContents preI m c (Proc.devRef .tc main_v125_0) := by
  induction k with
  | zero => rfl
  | succ k ih => rw [W_succ, STEP_main_v125_0, ih]
theorem W_1 (c : Dev nD) (k : ℕ) : W m c k (Proc.devRef .tc main_v125_1) = entryContents preI m c (Proc.devRef .tc main_v125_1) := by
  induction k with
  | zero => rfl
  | succ k ih => rw [W_succ, STEP_main_v125_1, ih]
theorem W_2 (c : Dev nD) (k : ℕ) : W m c k (Proc.devRef .tc main_v125_2) = entryContents preI m c (Proc.devRef .tc main_v125_2) := by
  induction k with
  | zero => rfl
  | succ k ih => rw [W_succ, STEP_main_v125_2, ih]
theorem W_3 (c : Dev nD) (k : ℕ) : W m c k (Proc.devRef .tc main_v125_3) = entryContents preI m c (Proc.devRef .tc main_v125_3) := by
  induction k with
  | zero => rfl
  | succ k ih => rw [W_succ, STEP_main_v125_3, ih]
theorem W_4 (c : Dev nD) (k : ℕ) : W m c k (Proc.devRef .tc main_v125_4) = entryContents preI m c (Proc.devRef .tc main_v125_4) := by
  induction k with
  | zero => rfl
  | succ k ih => rw [W_succ, STEP_main_v125_4, ih]
theorem W_5 (c : Dev nD) (k : ℕ) : W m c k (Proc.devRef .tc main_v125_5) = entryContents preI m c (Proc.devRef .tc main_v125_5) := by
  induction k with
  | zero => rfl
  | succ k ih => rw [W_succ, STEP_main_v125_5, ih]
theorem W_6 (c : Dev nD) (k : ℕ) : W m c k (Proc.devRef .tc main_v125_6) = entryContents preI m c (Proc.devRef .tc main_v125_6) := by
  induction k with
  | zero => rfl
  | succ k ih => rw [W_succ, STEP_main_v125_6, ih]
theorem W_7 (c : Dev nD) (k : ℕ) : W m c k (Proc.devRef .tc main_v125_7) = fun _ => BitVec.ofNat 32 k := by
  induction k with
  | zero => exact ctr_entry m c
  | succ k ih =>
    rw [W_succ, STEP_main_v125_7]
    unfold step_main_v125_7
    rw [ih]
    exact funext fun _ => BitVec.ofNat_add_ofNat k 1

theorem off_ix (V0 : Valuation τ sig (Elt Ideal)) (k : ℕ) (hk : k < 64) (h : V0 (Proc.devRef .tc main_v125_7) = fun _ => BitVec.ofNat 32 k) (a : Fin 5) :
    ((((![V0 (Proc.devRef .tc main_v125_7), constantI S_ 32 0#32, constantI S_ 32 0#32, constantI S_ 32 0#32, constantI S_ 32 0#32] : Fin 5 → (⟨S_, .i32⟩ : BufTy).Contents (Elt Ideal))) a (Shape.Idx.first h_S_)).toInt)
      = ((![k, 0, 0, 0, 0] : Fin 5 → ℕ) a : Int) := by
  rw [h]
  fin_cases a
  · show (BitVec.ofNat 32 k).toInt = _
    rw [BitVec.toInt_eq_toNat_of_lt (by rw [BitVec.toNat_ofNat]; omega), BitVec.toNat_ofNat, Nat.mod_eq_of_lt (by omega)]
    rfl
  all_goals rfl

variable (A : ℕ → ℕ → ℕ → ℝ) (c : Dev nD)
variable (hA : ∀ (b : Fin 16) (s : Fin 4096) (n : Fin 6144), n.val < 4096 →
  (m (c, Proc.tc.devRef main_arg0) (ix3 b s n) : EReal) = ((A b.val s.val n.val : ℝ) : EReal))
include hA

theorem q_W (k : ℕ) (hk : k < 64) (b : Fin 16) (l : Fin 64) (h : Fin 4) (d : Fin 256) :
    (res_main_while0b_v148 (W m c k) (ix4 b l h d) : EReal) = ((qr A b.val h.val (64 * k + l.val) d.val : ℝ) : EReal) := by
  refine (chunk256_ix _ _ k hk (off_ix _ k hk (W_7 m c k)) b l h d).trans ?_
  rw [W_0]
  exact e0 m A c hA ⟨k, hk⟩ b l h d
theorem k_W (k : ℕ) (hk : k < 64) (b : Fin 16) (l : Fin 64) (h : Fin 4) (d : Fin 256) :
    (res_main_while0b_v149 (W m c k) (ix4 b l h d) : EReal) = ((kr A b.val h.val (64 * k + l.val) d.val : ℝ) : EReal) := by
  refine (chunk256_ix _ _ k hk (off_ix _ k hk (W_7 m c k)) b l h d).trans ?_
  rw [W_1]
  exact e1 m A c hA ⟨k, hk⟩ b l h d
theorem v_W (k : ℕ) (hk : k < 64) (b : Fin 16) (l : Fin 64) (h : Fin 4) (e : Fin 512) :
    (res_main_while0b_v150 (W m c k) (ix4 b l h e) : EReal) = ((vr A b.val h.val (64 * k + l.val) e.val : ℝ) : EReal) := by
  refine (chunk512_ix _ _ k hk (off_ix _ k hk (W_7 m c k)) b l h e).trans ?_
  rw [W_2]
  exact e2 m A c hA ⟨k, hk⟩ b l h e

/-- The carried state after `k` chunks. -/
theorem state_W (b : Fin 16) (h : Fin 4) (d : Fin 256) (e : Fin 512) : ∀ k : ℕ, k ≤ 64 →
    (W m c k (Proc.devRef .tc main_v125_8) (ix4 b h d e) : EReal)
      = ((st 64 (gm h.val) (fun s => kr A b.val h.val s d.val) (fun s => vr A b.val h.val s e.val) k : ℝ) : EReal)
  | 0, _ => e8 m c b h d e
  | k + 1, hk => by
    rw [W_succ, STEP_main_v125_8]
    refine (state_ix _ _ _ _ _ b h d e).trans ?_
    rw [W_5, W_6]
    refine (state_cast _ _ _ _ _ _ _ (fun x => kr A b.val h.val (64 * k + x) d.val) (fun x => Real.exp (gm h.val * (63 - (x : ℝ))))
      (fun x => vr A b.val h.val (64 * k + x) e.val) (state_W b h d e k (by omega)) (e5 m c h)
      (fun x => k_W m A c hA k (by omega) b x h d) (fun x => e6 m c x h) (fun x => v_W m A c hA k (by omega) b x h e)).trans ?_
    rw [st, Nat.cast_ofNat, show (64 : ℝ) - 1 = 63 by norm_num]

omit hA in
/-- A row from its chunk of 64 is the row from its chunk of 256. -/
theorem row_orow (k l b h e : ℕ) (hl : l < 64) :
    (∑ x ∈ Finset.range 64, ((∑ i ∈ Finset.range 256, qr A b h (64 * k + l) i * kr A b h (64 * k + x) i) * Real.exp (gm h * |(l : ℝ) - x|)) * vr A b h (64 * k + x) e)
      + (∑ i ∈ Finset.range 256, qr A b h (64 * k + l) i * st 64 (gm h) (fun s => kr A b h s i) (fun s => vr A b h s e) k) * Real.exp (gm h * (l + 1))
      = orow A b h (64 * k + l) e := by
  have key := row_eq (gm h) (fun d : Fin 256 => qr A b h (64 * k + l) d.val) (fun s (d : Fin 256) => kr A b h s d.val)
    (fun s => vr A b h s e) (k / 4) (k % 4) l (by omega) hl
  rw [show 4 * (k / 4) + k % 4 = k by omega] at key
  unfold orow
  rw [show (64 * k + l) / 256 = k / 4 by omega, show (64 * k + l) % 256 = 64 * (k % 4) + l by omega]
  simp only [Finset.sum_range (n := 256) (f := fun d => qr A b h (64 * k + l) d * _)]
  exact key

/-- The outputs written after `k` chunks. -/
theorem outs_W (b : Fin 16) (l : Fin 64) (h : Fin 4) (e : Fin 512) (n : Fin 64) : ∀ k : ℕ, k ≤ 64 → n.val < k →
    (W m c k (Proc.devRef .tc main_v125_9) (ix5 n b l h e) : EReal) = ((orow A b.val h.val (64 * n.val + l.val) e.val : ℝ) : EReal)
  | 0, _, hn => absurd hn (by omega)
  | k + 1, hk, hn => by
    rw [W_succ, STEP_main_v125_9]
    refine (put_ix _ _ _ k (by omega) (off_ix _ k (by omega) (W_7 m c k)) n b l h e).trans ?_
    by_cases hnk : n.val = k
    · rw [if_pos hnk, hnk]
      refine (row_ix _ _ _ _ _ _ b l h e).trans ?_
      rw [W_3, W_4, ← row_orow A k l.val b.val h.val e.val l.isLt]
      exact row_cast 64 _ _ _ _ _ _ (fun i => qr A b.val h.val (64 * k + l.val) i)
        (fun i => st 64 (gm h.val) (fun s => kr A b.val h.val s i) (fun s => vr A b.val h.val s e.val) k)
        (fun x i => kr A b.val h.val (64 * k + x) i) (fun x => Real.exp (gm h.val * |(l.val : ℝ) - x|))
        (fun x => vr A b.val h.val (64 * k + x) e.val) (Real.exp (gm h.val * (l.val + 1)))
        (fun i => q_W m A c hA k (by omega) b l h i) (fun i => state_W m A c hA b h i e k (by omega)) (fun x i => k_W m A c hA k (by omega) b x h i)
        (fun x => e3 m c h l x) (fun x => v_W m A c hA k (by omega) b x h e) (e4 m c l h)
    · rw [if_neg hnk]
      exact outs_W b l h e n k (by omega) (by omega)

end Cert.ReferenceIdeal.Ret
-- ==== Proof.RetRef.lean ====
module

public import proofs.«01_k».proof.Proof.RetLoop

@[expose] public section

set_option maxRecDepth 16384

noncomputable section

/-! The reference's result at an index: the row of retention, normed, scaled and gated. -/

namespace Cert.ReferenceIdeal.Ret

open Cert.Ret Cert.ReferenceIdeal Cert.ReferenceIdeal.Gen Cert.ReferenceIdeal.Value Idealize.ShloMosaic Idealize.ShloMosaic.StableHlo Idealize.ShloMosaic.HostLoop Idealize.ShloMosaic.TcCoe

/-- The chunks' outputs by position, at an index. -/
theorem pos_ix (X : FVec Ideal S64x16x64x4x512 .f32) (b : Fin 16) (s : Fin 4096) (h : Fin 4) (e : Fin 512) :
    (shapeCast S16x4096x4x512 (transpose S16x64x64x4x512 [1, 0, 2, 3, 4] X transposes_S64x16x64x4x512_S16x64x64x4x512_1_0_2_3_4) shapeCasts_S16x64x64x4x512_S16x4096x4x512 (ix4 b s h e) : EReal)
      = X (ix5 ⟨s.val / 64, by omega⟩ b ⟨s.val % 64, by omega⟩ h e) := by
  pointwise

/-- A normed, scaled and gated array at an index. -/
theorem fin_ix (X : FVec Ideal S16x4096x4x512 .f32) (G : FVec Ideal S2048 .f32) (P : FVec Ideal S16x4096x6144 .bf16) (b : Fin 16) (s : Fin 4096) (n : Fin 2048) :
    ((truncf .bf16 (mulf (shapeCast S16x4096x2048 (mulf (mulf X (broadcastInDim S16x4096x4x512 ![0, 1, 2, 3] bcast_S16x4096x4x1_S16x4096x4x512_0_1_2_3 (Host.rsqrt (addf (Host.divf (broadcastInDim S16x4096x4x1 ![0, 1, 2] bcast_S16x4096x4_S16x4096x4x1_0_1_2 (Host.reduceAdd (mulf X X) (constant S_ .f32 0x00000000#32) reducesTo_S16x4096x4x512_S16x4096x4_d3 h_S_)) (broadcastInDim S16x4096x4x1 ![] bcast_S_S16x4096x4x1 (constant S_ .f32 0x44000000#32))) (broadcastInDim S16x4096x4x1 ![] bcast_S_S16x4096x4x1 (constant S_ .f32 0x358637BD#32)))))) (broadcastInDim S16x4096x4x512 ![0, 1, 2, 3] bcast_S1x1x4x512_S16x4096x4x512_0_1_2_3 (broadcastInDim S1x1x4x512 ![2, 3] bcast_S4x512_S1x1x4x512_2_3 (shapeCast S4x512 G shapeCasts_S2048_S4x512)))) shapeCasts_S16x4096x4x512_S16x4096x2048) (mulf (extf .f32 (extractStridedSlice S16x4096x2048 ![0, 0, 4096] P slices_S16x4096x6144_S16x4096x2048_0_0_4096) bitsLt_bf16_f32) (Host.divf (broadcastInDim S16x4096x2048 ![] bcast_S_S16x4096x2048 (constant S_ .f32 0x3F800000#32)) (addf (broadcastInDim S16x4096x2048 ![] bcast_S_S16x4096x2048 (constant S_ .f32 0x3F800000#32)) (Host.exp (Host.negf (extf .f32 (extractStridedSlice S16x4096x2048 ![0, 0, 4096] P slices_S16x4096x6144_S16x4096x2048_0_0_4096) bitsLt_bf16_f32))))))) bitsLt_bf16_f32 : FVec Ideal S16x4096x2048 .bf16) (ix3 b s n) : EReal)
      = (X (ix4 b s ⟨n.val / 512, by omega⟩ ⟨n.val % 512, by omega⟩) : EReal)
        * Ideal.rsqrt (Ideal.div (∑ x : Fin 512, (X (ix4 b s ⟨n.val / 512, by omega⟩ x) : EReal) * X (ix4 b s ⟨n.val / 512, by omega⟩ x))
            (Ideal.ofBits FTy.f32 1140850688#32) + Ideal.ofBits FTy.f32 897988541#32) * G (ix1 n)
          * ((P (ix3 b s ⟨4096 + n.val, by omega⟩) : EReal) * Ideal.logistic (P (ix3 b s ⟨4096 + n.val, by omega⟩))) := by
  pointwise
  rfl

variable (m : (ℓ : Loc nD τ sig) → Buf (Elt Ideal) ℓ)
variable (A : ℕ → ℕ → ℕ → ℝ) (c : Dev nD)
variable (hA : ∀ (b : Fin 16) (s : Fin 4096) (n : Fin 6144), n.val < 4096 →
  (m (c, Proc.tc.devRef main_arg0) (ix3 b s n) : EReal) = ((A b.val s.val n.val : ℝ) : EReal))
include hA

theorem out_ix (b : Fin 16) (s : Fin 4096) (n : Fin 2048) :
    (out_main_v147 (W m c 64) (ix3 b s n) : EReal)
      = finish (fun e => orow A b.val (n.val / 512) s.val e) (m (c, Proc.tc.devRef main_arg1) (ix1 n))
        (m (c, Proc.tc.devRef main_arg0) (ix3 b s ⟨4096 + n.val, by omega⟩)) (n.val % 512) := by
  have e0 : W m c 64 (Proc.devRef .tc main_arg0) = m (c, Proc.tc.devRef main_arg0) := iter_main_arg0 m c 64
  have e1 : W m c 64 (Proc.devRef .tc main_arg1) = m (c, Proc.tc.devRef main_arg1) := iter_main_arg1 m c 64
  have e9 := fun b l h e n => outs_W m A c hA b l h e n 64 le_rfl n.isLt
  unfold out_main_v147
  rw [e0, e1]
  generalize W m c 64 (Proc.devRef .tc main_v125_9) = X at e9 ⊢
  generalize m (c, Proc.tc.devRef main_arg0) = P
  generalize m (c, Proc.tc.devRef main_arg1) = G
  refine (fin_ix (shapeCast S16x4096x4x512 (transpose S16x64x64x4x512 [1, 0, 2, 3, 4] X transposes_S64x16x64x4x512_S16x64x64x4x512_1_0_2_3_4) shapeCasts_S16x64x64x4x512_S16x4096x4x512) G P b s n).trans ?_
  refine finish_cast (fun x => shapeCast S16x4096x4x512 (transpose S16x64x64x4x512 [1, 0, 2, 3, 4] X transposes_S64x16x64x4x512_S16x64x64x4x512_1_0_2_3_4) shapeCasts_S16x64x64x4x512_S16x4096x4x512 (ix4 b s ⟨n.val / 512, by omega⟩ x)) (fun e => orow A b.val (n.val / 512) s.val e) (fun x => ?_) _ _ ⟨n.val % 512, by omega⟩
  refine (pos_ix X b s ⟨n.val / 512, by omega⟩ x).trans ((e9 b ⟨s.val % 64, by omega⟩ ⟨n.val / 512, by omega⟩ x ⟨s.val / 64, by omega⟩).trans ?_)
  dsimp only
  rw [show 64 * (s.val / 64) + s.val % 64 = s.val by omega]

end Cert.ReferenceIdeal.Ret
-- ==== Proof.RetClaim.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.RetOut
public import proofs.«01_k».proof.Proof.RetRef
public import Idealize.ShloMosaic.Lib.Quiescent

@[expose] public section

set_option maxRecDepth 16384

noncomputable section

/-! The claims about the retention kernel and its reference. -/

namespace Cert.Proof

open Idealize.ShloMosaic Idealize.ShloMosaic.TcCoe Idealize.SL.Sem Cert.Ret

/-- The side conditions of the precondition. -/
theorem pre_facts : Cert.Pre_finite_qkv.Facts where
  slices_S16x4096x6144_S16x4096x4096_0_0_0 := by decide
  bitsLt_bf16_f32 := by decide
  bcast_S_S16x4096x4096 := by decide

/-- What is below something in absolute value is a real number. -/
theorem real_of_lt (x t : EReal) (h : max x (-x) < t) : ∃ r : ℝ, x = (r : EReal) := by
  induction x with
  | bot => exact absurd h (by simp)
  | coe r => exact ⟨r, rfl⟩
  | top => exact absurd h (by simp)

/-- A bit that is set says what it decides. -/
theorem of_bit (p : Prop) [Decidable p] (h : BitVec.ofBool (decide p) = 1#1) : p := by
  by_contra hp
  rw [decide_eq_false hp] at h
  exact absurd h (by decide)

/-- Where the precondition holds, the queries, keys and values are real numbers. -/
theorem real_of_pre [Cert.Pre_finite_qkv.Facts] (X : FVec Ideal Cert.Pre_finite_qkv.S16x4096x6144 .bf16) (g : FVec Ideal Cert.Pre_finite_qkv.S2048 .f32)
    (h : Cert.Pre_finite_qkv.fn (F := Ideal) X g = fun _ => 1#1) (b : Fin 16) (s : Fin 4096) (n : Fin 6144) (hn : n.val < 4096) :
    ∃ r : ℝ, (X (ix3 b s n) : EReal) = (r : EReal) := by
  have e := congrFun h (ix3 b s ⟨n.val, hn⟩)
  unfold Cert.Pre_finite_qkv.fn at e
  pointwise at e
  exact real_of_lt _ _ (of_bit _ e)

/-- The real numbers a memory holds as queries, keys and values. -/
def reals (X : Vec Ideal Cert.KernelIdeal.S16x4096x6144 .bf16) (b s n : ℕ) : ℝ :=
  if h : b < 16 ∧ s < 4096 ∧ n < 6144 then (X (ix3 ⟨b, h.1⟩ ⟨s, h.2.1⟩ ⟨n, h.2.2⟩) : EReal).toReal else 0

theorem reals_eq [Cert.Pre_finite_qkv.Facts] (X : FVec Ideal Cert.Pre_finite_qkv.S16x4096x6144 .bf16) (g : FVec Ideal Cert.Pre_finite_qkv.S2048 .f32)
    (h : Cert.Pre_finite_qkv.fn (F := Ideal) X g = fun _ => 1#1) (b : Fin 16) (s : Fin 4096) (n : Fin 6144) (hn : n.val < 4096) :
    (X (ix3 b s n) : EReal) = ((reals X b.val s.val n.val : ℝ) : EReal) := by
  obtain ⟨r, hr⟩ := real_of_pre X g h b s n hn
  unfold reals
  rw [dif_pos ⟨b.isLt, s.isLt, n.isLt⟩]
  show (X (ix3 b s n) : EReal) = (((X (ix3 b s n) : EReal).toReal : ℝ) : EReal)
  rw [hr, EReal.toReal_coe]

theorem frame_K : Cert.quiescent_Kernel (hKernel := Cert.Kernel.Gen.facts) := fun m g _ => Cert.Kernel.Gen.frame m g
theorem frame_KI : Cert.quiescent_KernelIdeal (hKernelIdeal := Cert.KernelIdeal.Gen.facts) := fun m g _ => Cert.KernelIdeal.Gen.frame m g
theorem frame_KI_pre : Cert.quiescent_KernelIdeal_pre_finite_qkv (hKernelIdeal := Cert.KernelIdeal.Gen.facts) (hPre_finite_qkv := pre_facts) :=
  fun m g _ => Cert.KernelIdeal.Gen.frame m g
theorem frame_R : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)
theorem frame_R_pre : Cert.quiescent_ReferenceIdeal_pre_finite_qkv (hReferenceIdeal := Cert.ReferenceIdeal.Gen.facts) (hPre_finite_qkv := pre_facts) :=
  fun m g _ => frame_R m g trivial

/-- The kernel and the reference compute the same array of extended reals. -/
theorem algebraic_ret : Cert.algebraic_KernelIdeal_ReferenceIdeal_pre_finite_qkv (hKernelIdeal := Cert.KernelIdeal.Gen.facts)
    (hReferenceIdeal := Cert.ReferenceIdeal.Gen.facts) (hPre_finite_qkv := pre_facts) := by
  intro m g m' g' hpre hargs
  have hP := pre_facts
  have hA : ∀ c, ∀ (b : Fin 16) (s : Fin 4096) (n : Fin 6144), n.val < 4096 →
      (m (c, Proc.tc.devRef Cert.KernelIdeal.main_arg0) (ix3 b s n) : EReal) = ((reals (m (c, Proc.tc.devRef Cert.KernelIdeal.main_arg0)) b.val s.val n.val : ℝ) : EReal) :=
    fun c => reals_eq _ _ (hpre c)
  refine ⟨fun c => Cert.KernelIdeal.Ret.result (m (c, Proc.tc.devRef Cert.KernelIdeal.main_arg0)) (m (c, Proc.tc.devRef Cert.KernelIdeal.main_arg1))
    (reals (m (c, Proc.tc.devRef Cert.KernelIdeal.main_arg0))), ?_, ?_⟩
  · exact (θ_run _ _ _).mono (fun r h c => ⟨(h c).1.trans (Cert.KernelIdeal.Ret.final m _ c (hA c)), (h c).2⟩) (Cert.KernelIdeal.Value.run_blocks m g)
  · refine (θ_run _ _ _).mono (fun r h c => ⟨(h c).1.trans ?_, (h c).2⟩) (Cert.ReferenceIdeal.Value.run m' g')
    have h0 : m' (c, Proc.tc.devRef Cert.ReferenceIdeal.main_arg0) = m (c, Proc.tc.devRef Cert.KernelIdeal.main_arg0) := (hargs c).1
    have h1 : m' (c, Proc.tc.devRef Cert.ReferenceIdeal.main_arg1) = m (c, Proc.tc.devRef Cert.KernelIdeal.main_arg1) := (hargs c).2
    refine funext fun i => ?_
    obtain ⟨b, s, n, rfl⟩ : ∃ (b : Fin 16) (s : Fin 4096) (n : Fin 2048), i = ix3 b s n := ⟨i 0, i 1, i 2, eq_ix3 i⟩
    refine (Cert.ReferenceIdeal.Ret.out_ix m' (reals (m (c, Proc.tc.devRef Cert.KernelIdeal.main_arg0))) c ?_ b s n).trans ?_
    · intro b s n hn
      rw [h0]; exact hA c b s n hn
    · rw [h0, h1]; rfl

end Cert.Proof
-- ==== Proof.ProjMath.lean ====
module

public import Idealize.ShloMosaic.Lib.Pointwise

@[expose] public section

noncomputable section

/-! The layer's plain formulas over the extended reals: a row's norm, a product with its residual, and the gated embeddings. -/

namespace Cert.Proj

open Idealize.ShloMosaic

/-- Element `j` of a row after its root mean square norm with weights `g`. -/
def nrm (x g : Fin 1024 → EReal) (j : Fin 1024) : EReal :=
  x j * Ideal.rsqrt (Ideal.div (∑ k : Fin 1024, x k * x k) (Ideal.ofBits FTy.f32 1149239296#32) + Ideal.ofBits FTy.f32 897988541#32) * g j

/-- A normed row times a column of weights. -/
def proj (x g w : Fin 1024 → EReal) : EReal := ∑ k : Fin 1024, nrm x g k * w k

/-- Element `j` of a row to which the gated embeddings are added: the gate is the logistic function of the normed row times its weights. -/
def gated (x g : Fin 1024 → EReal) (wg : Fin 1024 → Fin 1024 → EReal) (p : Fin 256 → EReal) (wp : Fin 256 → Fin 1024 → EReal) (j : Fin 1024) : EReal :=
  x j + Ideal.logistic (proj x g fun k => wg k j) * ∑ k : Fin 256, p k * wp k j

end Cert.Proj
-- ==== Proof.Proj2.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.ProjMath
public import Idealize.ShloMosaic.Lib.Pipeline.ValueKit
public import Idealize.ShloMosaic.Lib.StableHlo.RunRead
public import Idealize.ShloMosaic.Lib.Pointwise
public import Idealize.ShloMosaic.Lib.Quiescent

@[expose] public section

set_option maxRecDepth 16384

noncomputable section

/-! The projection of the retention with the norm before it: 6144 columns. -/

namespace Cert.Kernel2Ideal.Out

open Cert.Proj Cert.Kernel2Ideal Cert.Kernel2Ideal.Gen Idealize.ShloMosaic Idealize.ShloMosaic.TcCoe

theorem lt_N (t : Fin cfg0.N) : t.val < 384 := lt_of_lt_of_eq t.isLt (show cfg0.N = 384 from N_0)

theorem idx : ∀ t : Fin cfg0.N, win0_0.index t = ![t.val / 6, 0] ∧ win0_1.index t = ![0, 0] ∧ win0_2.index t = ![0, t.val % 6] ∧
    win0_3.index t = ![t.val / 6, t.val % 6] :=
  (by decide +kernel : ∀ t : Fin grid0.N, _)

section
variable {F : FTy → Type} [FloatOps F]

theorem sout0_A_0_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (hc0 : cond0_0 i)
    (x0 : Vec F S1024x1024 .f32) (x1 : Vec F S1x1024 .f32) (x2 : Vec F S1024x1024 .bf16) :
    sout0_A_0 c i arg2 harg2 arg3 harg3 arg4 harg4 arg5 harg5 arg6 harg6 hc0 x0 x1 x2 = k0_pay1 x0 x1 := by
  frame_out

theorem sout0_B_0_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (hc0 : ¬cond0_0 i)
    (x0 : Vec F S1024x1024 .f32) (x1 : Vec F S1x1024 .f32) (x2 : Vec F S1024x1024 .bf16) (xs0 : Vec F S1024x1024 .bf16) :
    sout0_B_0 c i arg2 harg2 arg3 harg3 arg4 harg4 arg5 harg5 arg6 harg6 hc0 x0 x1 x2 xs0 = xs0 := rfl

theorem out0_A_3_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (hc0 : cond0_0 i)
    (x0 : Vec F S1024x1024 .f32) (x1 : Vec F S1x1024 .f32) (x2 : Vec F S1024x1024 .bf16) :
    out0_A_3 c i arg2 harg2 arg3 harg3 arg4 harg4 arg5 harg5 arg6 harg6 hc0 x0 x1 x2 = k0_pay2 (k0_pay1 x0 x1) x2 := by
  frame_out

theorem out0_B_3_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (hc0 : ¬cond0_0 i)
    (x0 : Vec F S1024x1024 .f32) (x1 : Vec F S1x1024 .f32) (x2 : Vec F S1024x1024 .bf16) (xs0 : Vec F S1024x1024 .bf16) :
    out0_B_3 c i arg2 harg2 arg3 harg3 arg4 harg4 arg5 harg5 arg6 harg6 hc0 x0 x1 x2 xs0 = k0_pay2 xs0 x2 := by
  frame_out

end

variable (m : (ℓ : Loc nD τ sig) → Buf (Elt Ideal) ℓ) (c : Dev nD)

theorem blk0 (t : Fin cfg0.N) (i k : Fin 1024) :
    iblk m c 0 t (ix2 i k) = m (c, Proc.tc.devRef main_arg0) (ix2 ⟨1024 * (t.val / 6) + i.val, by have := lt_N t; omega⟩ k) := by
  rw [← V_main_arg0 m c]
  blk_ext [iblk, (idx t).1]
theorem blk1 (t : Fin cfg0.N) (k : Fin 1024) : iblk m c 1 t (ix2 0 k) = V m c main_v1 (ix2 0 k) := by
  blk_ext [iblk, (idx t).2.1]
theorem blk2 (t : Fin cfg0.N) (k j : Fin 1024) :
    iblk m c 2 t (ix2 k j) = V m c main_v0 (ix2 k ⟨1024 * (t.val % 6) + j.val, by omega⟩) := by
  blk_ext [iblk, (idx t).2.2.1]
theorem v0 (k : Fin 1024) (j : Fin 6144) : (V m c main_v0 (ix2 k j) : EReal) = m (c, Proc.tc.devRef main_arg2) (ix2 k j) := by
  unfold V
  after_reads_simp
  pointwise
theorem v1 (k : Fin 1024) : (V m c main_v1 (ix2 0 k) : EReal) = m (c, Proc.tc.devRef main_arg1) (ix1 k) := by
  unfold V
  after_reads_simp
  pointwise

theorem pay1_ix (x : Vec Ideal S1024x1024 .f32) (g : Vec Ideal S1x1024 .f32) (i k : Fin 1024) :
    (k0_pay1 (F := Ideal) x g (ix2 i k) : EReal) = nrm (fun k => x (ix2 i k)) (fun k => g (ix2 0 k)) k := by
  unfold_payloads
  unfold nrm
  pointwise
theorem pay2_ix (x w : Vec Ideal S1024x1024 .bf16) (i j : Fin 1024) :
    (k0_pay2 (F := Ideal) x w (ix2 i j) : EReal) = ∑ k : Fin 1024, (x (ix2 i k) : EReal) * w (ix2 k j) := by
  unfold_payloads
  pointwise

/-- A row of the activations, and the weights of the norm, as a memory holds them. -/
abbrev row (s : Fin 65536) (k : Fin 1024) : EReal := m (c, Proc.tc.devRef main_arg0) (ix2 s k)
abbrev gain (k : Fin 1024) : EReal := m (c, Proc.tc.devRef main_arg1) (ix1 k)

theorem norm_ix (t : Fin cfg0.N) (i k : Fin 1024) :
    (k0_pay1 (F := Ideal) (iblk m c 0 t) (iblk m c 1 t) (ix2 i k) : EReal)
      = nrm (row m c ⟨1024 * (t.val / 6) + i.val, by have := lt_N t; omega⟩) (gain m c) k := by
  rw [pay1_ix]
  simp only [blk0, blk1]
  exact congrArg (fun g => nrm _ g k) (funext fun k => v1 m c k)

/-- The carried rows are the normed rows of the point's block of rows. -/
theorem state_ix : ∀ (n : ℕ) (t : Fin cfg0.N), t.val % 6 = n → ∀ i k : Fin 1024,
    ((outsAt0 m c t.val t.isLt).2 (ix2 i k) : EReal) = nrm (row m c ⟨1024 * (t.val / 6) + i.val, by have := lt_N t; omega⟩) (gain m c) k
  | 0, t, h, i, k => by
    rw [outsAt0_A m c t h]
    dsimp only
    rw [sout0_A_0_eq]
    exact norm_ix m c t i k
  | n + 1, t, h, i, k => by
    have hlt := lt_N t
    rw [outsAt0_B m c t (by omega)]
    dsimp only
    rw [sout0_B_0_eq]
    have := state_ix n ⟨t.val - 1, lt_of_le_of_lt (Nat.sub_le _ _) t.isLt⟩ (by show (t.val - 1) % 6 = n; omega) i k
    simp only [show (t.val - 1) / 6 = t.val / 6 by omega] at this
    exact this

/-- What a grid point writes back. -/
theorem block_ix (t : Fin cfg0.N) (i j : Fin 1024) :
    ((outsAt0 m c t.val t.isLt).1 (ix2 i j) : EReal)
      = proj (row m c ⟨1024 * (t.val / 6) + i.val, by have := lt_N t; omega⟩) (gain m c)
          (fun k => m (c, Proc.tc.devRef main_arg2) (ix2 k ⟨1024 * (t.val % 6) + j.val, by omega⟩)) := by
  have hlt := lt_N t
  unfold proj
  by_cases h : t.val % 6 = 0
  · rw [outsAt0_A m c t h]
    dsimp only
    rw [out0_A_3_eq, pay2_ix]
    simp only [norm_ix, blk2]
    exact Finset.sum_congr rfl fun k _ => congrArg _ (v0 m c k _)
  · rw [outsAt0_B m c t h]
    dsimp only
    rw [out0_B_3_eq, pay2_ix]
    have := state_ix m c (t.val % 6 - 1) ⟨t.val - 1, lt_of_le_of_lt (Nat.sub_le _ _) t.isLt⟩ (by show (t.val - 1) % 6 = _; omega) i
    simp only [show (t.val - 1) / 6 = t.val / 6 by omega] at this
    simp only [this, blk2]
    exact Finset.sum_congr rfl fun k _ => congrArg _ (v0 m c k _)

/-- Every normed row times every column of weights. -/
def result (x : Vec Ideal S65536x1024 .f32) (g : Vec Ideal S1024 .f32) (w : Vec Ideal S1024x6144 .f32) : Vec Ideal S65536x6144 .bf16 :=
  fun i => (proj (fun k => x (ix2 (i 0) k)) (fun k => g (ix1 k)) (fun k => w (ix2 k (i 1))) : EReal)

theorem result_at (x : Vec Ideal S65536x1024 .f32) (g : Vec Ideal S1024 .f32) (w : Vec Ideal S1024x6144 .f32) (y : S65536x6144.Idx) (s n : ℕ)
    (hs : s < 65536) (hn : n < 6144) (h0 : (y 0).val = s) (h1 : (y 1).val = n) :
    (result x g w y : EReal) = proj (fun k => x (ix2 ⟨s, hs⟩ k)) (fun k => g (ix1 k)) (fun k => w (ix2 k ⟨n, hn⟩)) := by
  obtain ⟨y0, y1, rfl⟩ : ∃ (y0 : Fin 65536) (y1 : Fin 6144), y = ix2 y0 y1 := ⟨y 0, y 1, eq_ix2 y⟩
  obtain rfl : y0 = ⟨s, hs⟩ := Fin.ext h0
  obtain rfl : y1 = ⟨n, hn⟩ := Fin.ext h1
  rfl

theorem final : (dats m 0 c).arrAt 3 cfg0.N
    = result (m (c, Proc.tc.devRef main_arg0)) (m (c, Proc.tc.devRef main_arg1)) (m (c, Proc.tc.devRef main_arg2)) := by
  refine (dats m 0 c).arrAt_eq_of_covers 3 _ (by decide +kernel) fun t hf y => ?_
  blk_simp
  rw [after0_3]
  have hlt := lt_N t
  obtain ⟨i, j, rfl⟩ : ∃ (i j : Fin 1024), y = ix2 i j := ⟨y 0, y 1, eq_ix2 y⟩
  refine (block_ix m c t i j).trans ?_
  have e0 : (((win0_3.blk t).view.emb (ix2 i j)) 0).val = 1024 * (t.val / 6) + i.val := by blk_simp [(idx t).2.2.2]; simp; omega
  have e1 : (((win0_3.blk t).view.emb (ix2 i j)) 1).val = 1024 * (t.val % 6) + j.val := by blk_simp [(idx t).2.2.2]; simp; omega
  exact (result_at _ _ _ _ _ _ (by omega) (by omega) e0 e1).symm

end Cert.Kernel2Ideal.Out

namespace Cert.Reference2Ideal.Out

open Cert.Proj Cert.Reference2Ideal Cert.Reference2Ideal.Gen Idealize.ShloMosaic Idealize.ShloMosaic.TcCoe

theorem out_ix (x : FVec Ideal S65536x1024 .f32) (g : FVec Ideal S1024 .f32) (w : FVec Ideal S1024x6144 .f32) (s : Fin 65536) (j : Fin 6144) :
    (truncf .bf16 (Host.dotGeneral dot_S65536x1024_S1024x6144_S65536x6144_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w) bitsLt_bf16_f32 (ix2 s j) : EReal)
      = proj (fun k => x (ix2 s k)) (fun k => g (ix1 k)) (fun k => w (ix2 k j)) := by
  unfold proj nrm
  pointwise

end Cert.Reference2Ideal.Out

namespace Cert.Proof

open Idealize.ShloMosaic Idealize.ShloMosaic.TcCoe Idealize.SL.Sem

theorem frame_K2 : Cert.quiescent_Kernel2 (hKernel2 := Cert.Kernel2.Gen.facts) := fun m g _ => Cert.Kernel2.Gen.frame m g
theorem frame_KI2 : Cert.quiescent_Kernel2Ideal (hKernel2Ideal := Cert.Kernel2Ideal.Gen.facts) := fun m g _ => Cert.Kernel2Ideal.Gen.frame m g
theorem frame_R2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

/-- The projection and its reference compute the same array of extended reals. -/
theorem algebraic2 : Cert.algebraic_Kernel2Ideal_Reference2Ideal (hKernel2Ideal := Cert.Kernel2Ideal.Gen.facts)
    (hReference2Ideal := Cert.Reference2Ideal.Gen.facts) := by
  intro m g m' g' hpre hargs
  refine ⟨fun c => Cert.Kernel2Ideal.Out.result (m (c, Proc.tc.devRef Cert.Kernel2Ideal.main_arg0)) (m (c, Proc.tc.devRef Cert.Kernel2Ideal.main_arg1))
    (m (c, Proc.tc.devRef Cert.Kernel2Ideal.main_arg2)), ?_, ?_⟩
  · exact (θ_run _ _ _).mono (fun r h c => ⟨(h c).1.trans (Cert.Kernel2Ideal.Out.final m c), (h c).2⟩) (Cert.Kernel2Ideal.Value.run_blocks m g)
  · refine (θ_run _ _ _).mono (fun r h c => ⟨(h c).1.trans ?_, (h c).2⟩) (Cert.Reference2Ideal.Value.run m' g')
    have h0 : m' (c, Proc.tc.devRef Cert.Reference2Ideal.main_arg0) = m (c, Proc.tc.devRef Cert.Kernel2Ideal.main_arg0) := (hargs c).1
    have h1 : m' (c, Proc.tc.devRef Cert.Reference2Ideal.main_arg1) = m (c, Proc.tc.devRef Cert.Kernel2Ideal.main_arg1) := (hargs c).2.1
    have h2 : m' (c, Proc.tc.devRef Cert.Reference2Ideal.main_arg2) = m (c, Proc.tc.devRef Cert.Kernel2Ideal.main_arg2) := (hargs c).2.2
    refine funext fun i => ?_
    obtain ⟨s, j, rfl⟩ : ∃ (s : Fin 65536) (j : Fin 6144), i = ix2 s j := ⟨i 0, i 1, eq_ix2 i⟩
    refine (Cert.Reference2Ideal.Out.out_ix (m' (c, Proc.tc.devRef Cert.Reference2Ideal.main_arg0)) (m' (c, Proc.tc.devRef Cert.Reference2Ideal.main_arg1))
      (m' (c, Proc.tc.devRef Cert.Reference2Ideal.main_arg2)) s j).trans ?_
    rw [h0, h1, h2]
    rfl

end Cert.Proof
-- ==== Proof.Proj3.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.ProjMath
public import Idealize.ShloMosaic.Lib.Pipeline.ValueKit
public import Idealize.ShloMosaic.Lib.StableHlo.RunRead
public import Idealize.ShloMosaic.Lib.Pointwise
public import Idealize.ShloMosaic.Lib.Quiescent

@[expose] public section

set_option maxRecDepth 16384

noncomputable section

/-! The projection of an attention with the norm before it: 3072 columns. -/

namespace Cert.Kernel3Ideal.Out

open Cert.Proj Cert.Kernel3Ideal Cert.Kernel3Ideal.Gen Idealize.ShloMosaic Idealize.ShloMosaic.TcCoe

theorem lt_N (t : Fin cfg0.N) : t.val < 192 := lt_of_lt_of_eq t.isLt (show cfg0.N = 192 from N_0)

theorem idx : ∀ t : Fin cfg0.N, win0_0.index t = ![t.val / 3, 0] ∧ win0_1.index t = ![0, 0] ∧ win0_2.index t = ![0, t.val % 3] ∧
    win0_3.index t = ![t.val / 3, t.val % 3] :=
  (by decide +kernel : ∀ t : Fin grid0.N, _)

section
variable {F : FTy → Type} [FloatOps F]

theorem sout0_A_0_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (hc0 : cond0_0 i)
    (x0 : Vec F S1024x1024 .f32) (x1 : Vec F S1x1024 .f32) (x2 : Vec F S1024x1024 .bf16) :
    sout0_A_0 c i arg2 harg2 arg3 harg3 arg4 harg4 arg5 harg5 arg6 harg6 hc0 x0 x1 x2 = k0_pay1 x0 x1 := by
  frame_out

theorem sout0_B_0_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (hc0 : ¬cond0_0 i)
    (x0 : Vec F S1024x1024 .f32) (x1 : Vec F S1x1024 .f32) (x2 : Vec F S1024x1024 .bf16) (xs0 : Vec F S1024x1024 .bf16) :
    sout0_B_0 c i arg2 harg2 arg3 harg3 arg4 harg4 arg5 harg5 arg6 harg6 hc0 x0 x1 x2 xs0 = xs0 := rfl

theorem out0_A_3_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (hc0 : cond0_0 i)
    (x0 : Vec F S1024x1024 .f32) (x1 : Vec F S1x1024 .f32) (x2 : Vec F S1024x1024 .bf16) :
    out0_A_3 c i arg2 harg2 arg3 harg3 arg4 harg4 arg5 harg5 arg6 harg6 hc0 x0 x1 x2 = k0_pay2 (k0_pay1 x0 x1) x2 := by
  frame_out

theorem out0_B_3_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (hc0 : ¬cond0_0 i)
    (x0 : Vec F S1024x1024 .f32) (x1 : Vec F S1x1024 .f32) (x2 : Vec F S1024x1024 .bf16) (xs0 : Vec F S1024x1024 .bf16) :
    out0_B_3 c i arg2 harg2 arg3 harg3 arg4 harg4 arg5 harg5 arg6 harg6 hc0 x0 x1 x2 xs0 = k0_pay2 xs0 x2 := by
  frame_out

end

variable (m : (ℓ : Loc nD τ sig) → Buf (Elt Ideal) ℓ) (c : Dev nD)

theorem blk0 (t : Fin cfg0.N) (i k : Fin 1024) :
    iblk m c 0 t (ix2 i k) = m (c, Proc.tc.devRef main_arg0) (ix2 ⟨1024 * (t.val / 3) + i.val, by have := lt_N t; omega⟩ k) := by
  rw [← V_main_arg0 m c]
  blk_ext [iblk, (idx t).1]
theorem blk1 (t : Fin cfg0.N) (k : Fin 1024) : iblk m c 1 t (ix2 0 k) = V m c main_v1 (ix2 0 k) := by
  blk_ext [iblk, (idx t).2.1]
theorem blk2 (t : Fin cfg0.N) (k j : Fin 1024) :
    iblk m c 2 t (ix2 k j) = V m c main_v0 (ix2 k ⟨1024 * (t.val % 3) + j.val, by omega⟩) := by
  blk_ext [iblk, (idx t).2.2.1]
theorem v0 (k : Fin 1024) (j : Fin 3072) : (V m c main_v0 (ix2 k j) : EReal) = m (c, Proc.tc.devRef main_arg2) (ix2 k j) := by
  unfold V
  after_reads_simp
  pointwise
theorem v1 (k : Fin 1024) : (V m c main_v1 (ix2 0 k) : EReal) = m (c, Proc.tc.devRef main_arg1) (ix1 k) := by
  unfold V
  after_reads_simp
  pointwise

theorem pay1_ix (x : Vec Ideal S1024x1024 .f32) (g : Vec Ideal S1x1024 .f32) (i k : Fin 1024) :
    (k0_pay1 (F := Ideal) x g (ix2 i k) : EReal) = nrm (fun k => x (ix2 i k)) (fun k => g (ix2 0 k)) k := by
  unfold_payloads
  unfold nrm
  pointwise
theorem pay2_ix (x w : Vec Ideal S1024x1024 .bf16) (i j : Fin 1024) :
    (k0_pay2 (F := Ideal) x w (ix2 i j) : EReal) = ∑ k : Fin 1024, (x (ix2 i k) : EReal) * w (ix2 k j) := by
  unfold_payloads
  pointwise

/-- A row of the activations, and the weights of the norm, as a memory holds them. -/
abbrev row (s : Fin 65536) (k : Fin 1024) : EReal := m (c, Proc.tc.devRef main_arg0) (ix2 s k)
abbrev gain (k : Fin 1024) : EReal := m (c, Proc.tc.devRef main_arg1) (ix1 k)

theorem norm_ix (t : Fin cfg0.N) (i k : Fin 1024) :
    (k0_pay1 (F := Ideal) (iblk m c 0 t) (iblk m c 1 t) (ix2 i k) : EReal)
      = nrm (row m c ⟨1024 * (t.val / 3) + i.val, by have := lt_N t; omega⟩) (gain m c) k := by
  rw [pay1_ix]
  simp only [blk0, blk1]
  exact congrArg (fun g => nrm _ g k) (funext fun k => v1 m c k)

/-- The carried rows are the normed rows of the point's block of rows. -/
theorem state_ix : ∀ (n : ℕ) (t : Fin cfg0.N), t.val % 3 = n → ∀ i k : Fin 1024,
    ((outsAt0 m c t.val t.isLt).2 (ix2 i k) : EReal) = nrm (row m c ⟨1024 * (t.val / 3) + i.val, by have := lt_N t; omega⟩) (gain m c) k
  | 0, t, h, i, k => by
    rw [outsAt0_A m c t h]
    dsimp only
    rw [sout0_A_0_eq]
    exact norm_ix m c t i k
  | n + 1, t, h, i, k => by
    have hlt := lt_N t
    rw [outsAt0_B m c t (by omega)]
    dsimp only
    rw [sout0_B_0_eq]
    have := state_ix n ⟨t.val - 1, lt_of_le_of_lt (Nat.sub_le _ _) t.isLt⟩ (by show (t.val - 1) % 3 = n; omega) i k
    simp only [show (t.val - 1) / 3 = t.val / 3 by omega] at this
    exact this

/-- What a grid point writes back. -/
theorem block_ix (t : Fin cfg0.N) (i j : Fin 1024) :
    ((outsAt0 m c t.val t.isLt).1 (ix2 i j) : EReal)
      = proj (row m c ⟨1024 * (t.val / 3) + i.val, by have := lt_N t; omega⟩) (gain m c)
          (fun k => m (c, Proc.tc.devRef main_arg2) (ix2 k ⟨1024 * (t.val % 3) + j.val, by omega⟩)) := by
  have hlt := lt_N t
  unfold proj
  by_cases h : t.val % 3 = 0
  · rw [outsAt0_A m c t h]
    dsimp only
    rw [out0_A_3_eq, pay2_ix]
    simp only [norm_ix, blk2]
    exact Finset.sum_congr rfl fun k _ => congrArg _ (v0 m c k _)
  · rw [outsAt0_B m c t h]
    dsimp only
    rw [out0_B_3_eq, pay2_ix]
    have := state_ix m c (t.val % 3 - 1) ⟨t.val - 1, lt_of_le_of_lt (Nat.sub_le _ _) t.isLt⟩ (by show (t.val - 1) % 3 = _; omega) i
    simp only [show (t.val - 1) / 3 = t.val / 3 by omega] at this
    simp only [this, blk2]
    exact Finset.sum_congr rfl fun k _ => congrArg _ (v0 m c k _)

/-- Every normed row times every column of weights. -/
def result (x : Vec Ideal S65536x1024 .f32) (g : Vec Ideal S1024 .f32) (w : Vec Ideal S1024x3072 .f32) : Vec Ideal S65536x3072 .bf16 :=
  fun i => (proj (fun k => x (ix2 (i 0) k)) (fun k => g (ix1 k)) (fun k => w (ix2 k (i 1))) : EReal)

theorem result_at (x : Vec Ideal S65536x1024 .f32) (g : Vec Ideal S1024 .f32) (w : Vec Ideal S1024x3072 .f32) (y : S65536x3072.Idx) (s n : ℕ)
    (hs : s < 65536) (hn : n < 3072) (h0 : (y 0).val = s) (h1 : (y 1).val = n) :
    (result x g w y : EReal) = proj (fun k => x (ix2 ⟨s, hs⟩ k)) (fun k => g (ix1 k)) (fun k => w (ix2 k ⟨n, hn⟩)) := by
  obtain ⟨y0, y1, rfl⟩ : ∃ (y0 : Fin 65536) (y1 : Fin 3072), y = ix2 y0 y1 := ⟨y 0, y 1, eq_ix2 y⟩
  obtain rfl : y0 = ⟨s, hs⟩ := Fin.ext h0
  obtain rfl : y1 = ⟨n, hn⟩ := Fin.ext h1
  rfl

theorem final : (dats m 0 c).arrAt 3 cfg0.N
    = result (m (c, Proc.tc.devRef main_arg0)) (m (c, Proc.tc.devRef main_arg1)) (m (c, Proc.tc.devRef main_arg2)) := by
  refine (dats m 0 c).arrAt_eq_of_covers 3 _ (by decide +kernel) fun t hf y => ?_
  blk_simp
  rw [after0_3]
  have hlt := lt_N t
  obtain ⟨i, j, rfl⟩ : ∃ (i j : Fin 1024), y = ix2 i j := ⟨y 0, y 1, eq_ix2 y⟩
  refine (block_ix m c t i j).trans ?_
  have e0 : (((win0_3.blk t).view.emb (ix2 i j)) 0).val = 1024 * (t.val / 3) + i.val := by blk_simp [(idx t).2.2.2]; simp; omega
  have e1 : (((win0_3.blk t).view.emb (ix2 i j)) 1).val = 1024 * (t.val % 3) + j.val := by blk_simp [(idx t).2.2.2]; simp; omega
  exact (result_at _ _ _ _ _ _ (by omega) (by omega) e0 e1).symm

end Cert.Kernel3Ideal.Out

namespace Cert.Reference3Ideal.Out

open Cert.Proj Cert.Reference3Ideal Cert.Reference3Ideal.Gen Idealize.ShloMosaic Idealize.ShloMosaic.TcCoe

theorem out_ix (x : FVec Ideal S65536x1024 .f32) (g : FVec Ideal S1024 .f32) (w : FVec Ideal S1024x3072 .f32) (s : Fin 65536) (j : Fin 3072) :
    (truncf .bf16 (Host.dotGeneral dot_S65536x1024_S1024x3072_S65536x3072_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w) bitsLt_bf16_f32 (ix2 s j) : EReal)
      = proj (fun k => x (ix2 s k)) (fun k => g (ix1 k)) (fun k => w (ix2 k j)) := by
  unfold proj nrm
  pointwise

end Cert.Reference3Ideal.Out

namespace Cert.Proof

open Idealize.ShloMosaic Idealize.ShloMosaic.TcCoe Idealize.SL.Sem

theorem frame_K3 : Cert.quiescent_Kernel3 (hKernel3 := Cert.Kernel3.Gen.facts) := fun m g _ => Cert.Kernel3.Gen.frame m g
theorem frame_KI3 : Cert.quiescent_Kernel3Ideal (hKernel3Ideal := Cert.Kernel3Ideal.Gen.facts) := fun m g _ => Cert.Kernel3Ideal.Gen.frame m g
theorem frame_R3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

/-- The projection and its reference compute the same array of extended reals. -/
theorem algebraic3 : Cert.algebraic_Kernel3Ideal_Reference3Ideal (hKernel3Ideal := Cert.Kernel3Ideal.Gen.facts)
    (hReference3Ideal := Cert.Reference3Ideal.Gen.facts) := by
  intro m g m' g' hpre hargs
  refine ⟨fun c => Cert.Kernel3Ideal.Out.result (m (c, Proc.tc.devRef Cert.Kernel3Ideal.main_arg0)) (m (c, Proc.tc.devRef Cert.Kernel3Ideal.main_arg1))
    (m (c, Proc.tc.devRef Cert.Kernel3Ideal.main_arg2)), ?_, ?_⟩
  · exact (θ_run _ _ _).mono (fun r h c => ⟨(h c).1.trans (Cert.Kernel3Ideal.Out.final m c), (h c).2⟩) (Cert.Kernel3Ideal.Value.run_blocks m g)
  · refine (θ_run _ _ _).mono (fun r h c => ⟨(h c).1.trans ?_, (h c).2⟩) (Cert.Reference3Ideal.Value.run m' g')
    have h0 : m' (c, Proc.tc.devRef Cert.Reference3Ideal.main_arg0) = m (c, Proc.tc.devRef Cert.Kernel3Ideal.main_arg0) := (hargs c).1
    have h1 : m' (c, Proc.tc.devRef Cert.Reference3Ideal.main_arg1) = m (c, Proc.tc.devRef Cert.Kernel3Ideal.main_arg1) := (hargs c).2.1
    have h2 : m' (c, Proc.tc.devRef Cert.Reference3Ideal.main_arg2) = m (c, Proc.tc.devRef Cert.Kernel3Ideal.main_arg2) := (hargs c).2.2
    refine funext fun i => ?_
    obtain ⟨s, j, rfl⟩ : ∃ (s : Fin 65536) (j : Fin 3072), i = ix2 s j := ⟨i 0, i 1, eq_ix2 i⟩
    refine (Cert.Reference3Ideal.Out.out_ix (m' (c, Proc.tc.devRef Cert.Reference3Ideal.main_arg0)) (m' (c, Proc.tc.devRef Cert.Reference3Ideal.main_arg1))
      (m' (c, Proc.tc.devRef Cert.Reference3Ideal.main_arg2)) s j).trans ?_
    rw [h0, h1, h2]
    rfl

end Cert.Proof
-- ==== Proof.Run4.lean ====
module

public import proofs.«01_k».proof.Proof.Gen.Kernel4Ideal.Frame
public import proofs.«01_k».proof.Proof.Gen.Kernel4Ideal.Skeleton
public import Idealize.ShloMosaic.Lib.Claim
public import Idealize.ShloMosaic.Lib.Pipeline.ValueKit
public import Idealize.ShloMosaic.Lib.Pipeline.TableIdle

@[expose] public section

set_option maxRecDepth 16384

noncomputable section

/-! The run of the state space projection: at a row block's first column block its normed rows are stored in the scratch, and
their product with the last columns of weights in the second result; every column block reads the scratch. -/

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first column block of a row block. -/
abbrev first (i : grid0.Coords) : Prop := k0_cond1 i = 1#1

theorem first_iff : ∀ t : Fin cfg0.N, first (grid0.coords t) ↔ t.val % 5 = 0 :=
  (by decide +kernel : ∀ t : Fin grid0.N, first (grid0.coords t) ↔ t.val % 5 = 0)

theorem lt_N (t : Fin cfg0.N) : t.val < 320 := lt_of_lt_of_eq t.isLt (show cfg0.N = 320 from N_0)

theorem idx : ∀ t : Fin cfg0.N, win0_0.index t = ![t.val / 5, 0] ∧ win0_1.index t = ![0, 0] ∧ win0_2.index t = ![0, t.val % 5] ∧
    win0_3.index t = ![0, 0] ∧ win0_4.index t = ![t.val / 5, t.val % 5] ∧ win0_5.index t = ![t.val / 5, 0] :=
  (by decide +kernel : ∀ t : Fin grid0.N, _)

set_option maxHeartbeats 1000000 in
theorem run_first (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x128 .bf16) (harg5 : arg5.IsWhole)
    (arg6 : Memref sig .tc .vmem S1024x1024 .bf16) (harg6 : arg6.IsWhole) (arg7 : Memref sig .tc .vmem S1024x128 .f32) (harg7 : arg7.IsWhole)
    (arg8 : Memref sig .tc .vmem S1024x1024 .bf16) (harg8 : arg8.IsWhole) (h : first i)
    (x0 : Vec F S1024x1024 .f32) (x1 : Vec F S1x1024 .f32) (x2 : Vec F S1024x1024 .bf16) (x3 : Vec F S1024x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (k0_pay1 x0 x1) x2) ∗ owns (c : Thread nD τ) arg7 fullShare (k0_pay2 (k0_pay1 x0 x1) x3)
            ∗ owns (c : Thread nD τ) arg8 fullShare (k0_pay1 x0 x1)) -∗ K ⟨⟩))
      ⊢ wp frame (wpE (defs₀ (F := F)) Variants.none c none) E (cc0_norm_matmul i arg2 harg2 arg3 harg3 arg4 harg4 arg5 harg5 arg6 harg6 arg7 harg7 arg8 harg8) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1; obtain rfl := harg4.eq_unread hf2; obtain rfl := harg5.eq_unread hf3
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (View.cover_of_tiledL _ S1024x1024.size (by sl_kernel_rfl))]
    frame_out
  isplitl [H5]
  · iexists _; isplitr
    swap; · iexact H5
    ipureintro
    rw [View.read_writes_eq_canon _ _ _ (View.cover_of_tiledL _ S1024x128.size (by sl_kernel_rfl))]
    frame_out
  iexists _; isplitr
  swap; · iexact HS
  ipureintro
  rw [View.read_writes_eq_canon _ _ _ (View.cover_of_tiledL _ S1024x1024.size (by sl_kernel_rfl))]
  frame_out

set_option maxHeartbeats 1000000 in
theorem run_later (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x128 .bf16) (harg5 : arg5.IsWhole)
    (arg6 : Memref sig .tc .vmem S1024x1024 .bf16) (harg6 : arg6.IsWhole) (arg7 : Memref sig .tc .vmem S1024x128 .f32) (harg7 : arg7.IsWhole)
    (arg8 : Memref sig .tc .vmem S1024x1024 .bf16) (harg8 : arg8.IsWhole) (h : ¬first i)
    (x2 : Vec F S1024x1024 .bf16) (xs : Vec F S1024x1024 .bf16) (E : Set ℕ) (K : PUnit → sProp 𝕄) :
    iprop(owns (c : Thread nD τ) arg4 fullShare x2 ∗ (∃ d, owns (c : Thread nD τ) arg6 fullShare d) ∗ owns (c : Thread nD τ) arg8 fullShare xs
        ∗ (iprop(owns (c : Thread nD τ) arg4 fullShare x2 ∗ owns (c : Thread nD τ) arg6 fullShare (k0_pay3 xs x2) ∗ owns (c : Thread nD τ) arg8 fullShare xs) -∗ K ⟨⟩))
      ⊢ wp frame (wpE (defs₀ (F := F)) Variants.none c none) E (cc0_norm_matmul i arg2 harg2 arg3 harg3 arg4 harg4 arg5 harg5 arg6 harg6 arg7 harg7 arg8 harg8) K := by
  simp only [cc0_norm_matmul_eq_skeleton]; unfold cc0_norm_matmul_skel
  unfold owns
  iintro ⟨⟨%f2, %hf2, H2⟩, ⟨%d4, %f4, -, H4⟩, ⟨%fs, %hfs, HS⟩, Hk⟩
  obtain rfl := harg4.eq_unread hf2; obtain rfl := harg8.eq_unread hfs
  sl_exec (disch := first | sl_exact h)
  sl_step
  iapply Hk
  isplitl [H2]
  · iexists _; isplitr; · ipureintro; exact harg4.read_unread _
    iexact H2
  isplitl [H4]
  · iexists _; isplitr
    swap; · iexact H4
    ipureintro
    rw [View.read_writes_eq_canon _ _ _ (View.cover_of_tiledL _ S1024x1024.size (by sl_kernel_rfl))]
    frame_out
  iexists _; isplitr; · ipureintro; exact harg8.read_unread _
  iexact HS

variable (m : (ℓ : Loc nD τ sig) → Buf (Elt F) ℓ) (ρ : Dev nD → PrngReg)

theorem blk0_eq (c : Dev nD) (t u : Fin cfg0.N) (h : t.val / 5 = u.val / 5) : iblk m c 0 t = iblk m c 0 u := by
  funext y; blk_ext [iblk, (idx t).1, (idx u).1, h]
theorem blk1_eq (c : Dev nD) (t u : Fin cfg0.N) : iblk m c 1 t = iblk m c 1 u := by
  funext y; blk_ext [iblk, (idx t).2.1, (idx u).2.1]

theorem blk3_eq (c : Dev nD) (t u : Fin cfg0.N) : iblk m c 3 t = iblk m c 3 u := by
  funext y; blk_ext [iblk, (idx t).2.2.2.1, (idx u).2.2.2.1]

/-- The normed rows of the point's row block. -/
def rows (c : Dev nD) (t : Fin cfg0.N) : Vec F S1024x1024 .bf16 := k0_pay1 (iblk m c 0 t) (iblk m c 1 t)

theorem rows_eq (c : Dev nD) (t u : Fin cfg0.N) (h : t.val / 5 = u.val / 5) : rows m c t = rows m c u := by
  unfold rows; rw [blk0_eq m c t u h, blk1_eq m c t u]

/-- Between the points the scratch holds the normed rows of the row block of the point before. -/
def inv (c : Dev nD) : (n : ℕ) → n ≤ cfg0.N → sProp 𝕄
  | 0, _ => Pipeline.ΦA spec0 c
  | n + 1, hn => iprop(owns (c : Thread nD τ) (Memref.whole cc0_scratch0) fullShare (rows m c ⟨n, hn⟩) ∗ (∃ r, prngReg c r))

theorem inv_pos (c : Dev nD) (n : ℕ) (h : n ≤ cfg0.N) (hz : n ≠ 0) :
    inv m c n h = iprop(owns (c : Thread nD τ) (Memref.whole cc0_scratch0) fullShare (rows m c ⟨n - 1, by omega⟩) ∗ (∃ r, prngReg c r)) := by
  cases n with
  | zero => exact absurd rfl hz
  | succ n => rfl

theorem start_eq (c : Dev nD) :
    (Pipeline.ΦA spec0 c : sProp 𝕄) = iprop(iprop((∃ d, owns (c : Thread nD τ) (Memref.whole cc0_scratch0) fullShare d)) ∗ (∃ r, prngReg c r)) := by
  unfold Pipeline.ΦA; rw [scopedRest0_eq]; simp only [owns_whole]; try rfl

/-- Any invariant gives the scratch at some contents. -/
theorem inv_some (c : Dev nD) (n : ℕ) (h : n ≤ cfg0.N) :
    inv m c n h ⊢ iprop(iprop((∃ d, owns (c : Thread nD τ) (Memref.whole cc0_scratch0) fullShare d)) ∗ (∃ r, prngReg c r)) := by
  cases n with
  | zero => exact (start_eq (F := F) c) ▸ .rfl
  | succ n =>
    unfold inv
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (rows m c t) (iblk m c 2 t)
    | ⟨5, _⟩ => k0_pay2 (rows m c t) (iblk m c 3 t)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_castSucc (c : Dev nD) (t : Fin cfg0.N) : (dats m 0 c).Φ t.castSucc = inv m c t.val (Nat.le_of_lt t.isLt) := by
  dsimp only [dats]; exact Pipeline.Dat.Φ_castSucc (inv m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay3 (rows m c t) (iblk m c 2 t) := by dsimp only [dats]
theorem after_5 (c : Dev nD) (t : Fin cfg0.N) : (dats m 0 c).after 5 t = k0_pay2 (rows m c t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem idle_5 : ∀ t : Fin cfg0.N, cfg0.idle 5 (cfg0.grid.coords t) = true ↔ t.val % 5 ≠ 0 :=
  (by decide +kernel : ∀ t : Fin grid0.N, idle0 5 (grid0.coords t) = true ↔ t.val % 5 ≠ 0)
theorem fresh_5 : ∀ t : Fin cfg0.N, t.val % 5 ≠ 0 → cfg0.fresh 5 t.val = false := by decide +kernel
/-- Through a row block's column blocks the second result holds the same product. -/
theorem carry_5 (c : Dev nD) (t : Fin cfg0.N) (h : t.val % 5 ≠ 0) :
    (dats m 0 c).after 5 t = (dats m 0 c).after 5 ⟨t.val - 1, by omega⟩ := by
  rw [after_5, after_5, rows_eq m c t ⟨t.val - 1, by omega⟩ (by dsimp only; omega), blk3_eq m c t ⟨t.val - 1, by omega⟩]
/-- At a later column block the second result still holds its product. -/
theorem before_5 (c : Dev nD) (t : Fin cfg0.N) (h : t.val % 5 ≠ 0) (d) : (dats m 0 c).before 5 t d = (dats m 0 c).after 5 t := by
  rw [(dats m 0 c).before_out_traj 5 rfl (fun _ _ => rfl) (fun t _ hi _ => carry_5 m c t ((idle_5 t).mp hi)) t.val t rfl d,
    fresh_5 t h, if_neg Bool.false_ne_true]
  exact (carry_5 m c t h).symm
/-- What is left in the second result is what the loop asks for, a point that stores none of it included. -/
theorem leaves_5 (c : Dev nD) (t : Fin cfg0.N) :
    owns (c : Thread nD τ) (st0_5 t) fullShare (k0_pay2 (rows m c t) (iblk m c 3 t)) ⊢ (dats m 0 c).leavesExact 5 t := by
  rw [← after_5 m c t]
  unfold Dat.leavesExact
  cases hi : cfg0.idle 5 (cfg0.grid.coords t)
  · exact .rfl
  cases hf : (cfg0.win 5).flush t
  · iintro H
    iexists (dats m 0 c).after 5 t
    rw [before_5 m c t ((idle_5 t).mp hi)]
    iexact H
  · exact .rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, after_0, after_1, after_2, after_3, after_4]
  rw [show (dats m 0 c).Φ t.succ
      = iprop(owns (c : Thread nD τ) (Memref.whole cc0_scratch0) fullShare (rows m c t) ∗ (∃ r, prngReg c r)) from rfl]
  rw [inv_castSucc m c t]
  by_cases h : t.val % 5 = 0
  · iintro ⟨HI, Ho, ⟨%d0, H0⟩, ⟨%d1, H1⟩, ⟨%d2, H2⟩, ⟨%d3, H3⟩, ⟨%d4, H4⟩, ⟨%d5, H5⟩⟩
    ihave HJ := inv_some m c t.val _ $$ HI
    icases HJ with ⟨HS, Hg⟩
    iapply (run_first c (grid0.coords t) _ _ _ _ _ _ _ _ _ _ _ _ _ _ ((first_iff t).mpr h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t)
    iexact H5
  · have hz : t.val ≠ 0 := fun e => h (by rw [e])
    have hlt := lt_N t
    simp only [before_5 m c t h, after_5]
    rw [inv_pos m c _ _ hz, ← rows_eq m c t ⟨t.val - 1, by omega⟩ (by dsimp only; omega)]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (fun e => h ((first_iff t).mp e)) (iblk m c 2 t) (rows m c t) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t)
    iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, start_eq]
  exact inv_some m c _ _

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel4Ideal.Run

end
-- ==== Proof.Proj4.lean ====
module

public import proofs.«01_k».proof.Defs
public import proofs.«01_k».proof.Proof.Gen.Kernel4
public import proofs.«01_k».proof.Proof.Gen.Reference4Ideal.Run
public import proofs.«01_k».proof.Proof.ProjMath
public import proofs.«01_k».proof.Proof.Run4
public import Idealize.ShloMosaic.Lib.StableHlo.RunRead
public import Idealize.ShloMosaic.Lib.Pointwise
public import Idealize.ShloMosaic.Lib.Quiescent

@[expose] public section

set_option maxRecDepth 16384

noncomputable section

/-! The state space projection with the norm before it: 5152 columns, the last 32 apart, unrounded and with 96 columns of zero. -/

namespace Cert.Kernel4Ideal.Run

open Cert.Proj Cert.Kernel4Ideal Cert.Kernel4Ideal.Gen Idealize.ShloMosaic Idealize.ShloMosaic.TcCoe Idealize.SL.Sem

variable (m : (ℓ : Loc nD τ sig) → Buf (Elt Ideal) ℓ) (c : Dev nD)

theorem blk0 (t : Fin cfg0.N) (i k : Fin 1024) :
    iblk m c 0 t (ix2 i k) = m (c, Proc.tc.devRef main_arg0) (ix2 ⟨1024 * (t.val / 5) + i.val, by have := lt_N t; omega⟩ k) := by
  rw [← V_main_arg0 m c]
  blk_ext [iblk, (idx t).1]
theorem blk1 (t : Fin cfg0.N) (k : Fin 1024) : iblk m c 1 t (ix2 0 k) = V m c main_v5 (ix2 0 k) := by
  blk_ext [iblk, (idx t).2.1]
theorem blk2 (t : Fin cfg0.N) (k j : Fin 1024) :
    iblk m c 2 t (ix2 k j) = V m c main_v1 (ix2 k ⟨1024 * (t.val % 5) + j.val, by omega⟩) := by
  blk_ext [iblk, (idx t).2.2.1]
theorem blk3 (t : Fin cfg0.N) (k : Fin 1024) (j : Fin 128) : iblk m c 3 t (ix2 k j) = V m c main_v4 (ix2 k j) := by
  blk_ext [iblk, (idx t).2.2.2.1]
theorem v1 (k : Fin 1024) (j : Fin 5120) : (V m c main_v1 (ix2 k j) : EReal) = m (c, Proc.tc.devRef main_arg2) (ix2 k ⟨j.val, by omega⟩) := by
  unfold V
  after_reads_simp
  pointwise
theorem zero_ix : (FloatOps.sitofp (F := Ideal) .f32 0#32 : EReal) = 0 := by
  show (((0#32 : BitVec 32).toInt : ℝ) : EReal) = 0
  simp
/-- The last columns of weights: 32 of the argument's and 96 of zero. -/
theorem v4 (k : Fin 1024) (j : Fin 128) : (V m c main_v4 (ix2 k j) : EReal)
    = if h : j.val < 32 then (m (c, Proc.tc.devRef main_arg2) (ix2 k ⟨5120 + j.val, by omega⟩) : EReal) else (0 : EReal) := by
  unfold V
  after_reads_simp
  simp only [StableHlo.TRef.toBuf, StableHlo.TRef.ofBuf, cast_eq]
  pointwise
  rw [zero_ix]
theorem v5 (k : Fin 1024) : (V m c main_v5 (ix2 0 k) : EReal) = m (c, Proc.tc.devRef main_arg1) (ix1 k) := by
  unfold V
  after_reads_simp
  pointwise

theorem pay1_ix (x : Vec Ideal S1024x1024 .f32) (g : Vec Ideal S1x1024 .f32) (i k : Fin 1024) :
    (k0_pay1 (F := Ideal) x g (ix2 i k) : EReal) = nrm (fun k => x (ix2 i k)) (fun k => g (ix2 0 k)) k := by
  unfold_payloads
  unfold nrm
  pointwise
theorem pay2_ix (x : Vec Ideal S1024x1024 .bf16) (w : Vec Ideal S1024x128 .bf16) (i : Fin 1024) (j : Fin 128) :
    (k0_pay2 (F := Ideal) x w (ix2 i j) : EReal) = ∑ k : Fin 1024, (x (ix2 i k) : EReal) * w (ix2 k j) := by
  unfold_payloads
  pointwise
theorem pay3_ix (x w : Vec Ideal S1024x1024 .bf16) (i j : Fin 1024) :
    (k0_pay3 (F := Ideal) x w (ix2 i j) : EReal) = ∑ k : Fin 1024, (x (ix2 i k) : EReal) * w (ix2 k j) := by
  unfold_payloads
  pointwise

/-- A row of the activations, and the weights of the norm, as a memory holds them. -/
abbrev row (s : Fin 65536) (k : Fin 1024) : EReal := m (c, Proc.tc.devRef main_arg0) (ix2 s k)
abbrev gain (k : Fin 1024) : EReal := m (c, Proc.tc.devRef main_arg1) (ix1 k)

theorem rows_ix (t : Fin cfg0.N) (i k : Fin 1024) :
    (rows m c t (ix2 i k) : EReal) = nrm (row m c ⟨1024 * (t.val / 5) + i.val, by have := lt_N t; omega⟩) (gain m c) k := by
  unfold rows
  rw [pay1_ix]
  simp only [blk0, blk1]
  exact congrArg (fun g => nrm _ g k) (funext fun k => v5 m c k)

/-- What a grid point writes back of the product. -/
theorem block_ix (t : Fin cfg0.N) (i j : Fin 1024) :
    (k0_pay3 (F := Ideal) (rows m c t) (iblk m c 2 t) (ix2 i j) : EReal)
      = proj (row m c ⟨1024 * (t.val / 5) + i.val, by have := lt_N t; omega⟩) (gain m c)
          (fun k => m (c, Proc.tc.devRef main_arg2) (ix2 k ⟨1024 * (t.val % 5) + j.val, by omega⟩)) := by
  unfold proj
  rw [pay3_ix]
  simp only [rows_ix, blk2]
  exact Finset.sum_congr rfl fun k _ => congrArg _ (v1 m c k _)

/-- A normed row times one of the last columns of weights, zero after the 32nd. -/
def lastCol (x g : Fin 1024 → EReal) (w : Fin 1024 → Fin 5152 → EReal) (j : Fin 128) : EReal :=
  if h : j.val < 32 then proj x g fun k => w k ⟨5120 + j.val, by omega⟩ else 0

/-- What a row block writes back of the product with the last columns. -/
theorem last_ix (t : Fin cfg0.N) (i : Fin 1024) (j : Fin 128) :
    (k0_pay2 (F := Ideal) (rows m c t) (iblk m c 3 t) (ix2 i j) : EReal)
      = lastCol (row m c ⟨1024 * (t.val / 5) + i.val, by have := lt_N t; omega⟩) (gain m c)
          (fun k j => m (c, Proc.tc.devRef main_arg2) (ix2 k j)) j := by
  unfold lastCol proj
  rw [pay2_ix]
  simp only [rows_ix, blk3]
  refine (Finset.sum_congr rfl fun k _ => congrArg _ (v4 m c k j)).trans ?_
  by_cases h : j.val < 32
  · simp only [h, dif_pos]
  · simp only [h, dif_neg, not_false_eq_true, mul_zero, Finset.sum_const_zero]

/-- Every normed row times every column of weights but the last. -/
def result (x : Vec Ideal S65536x1024 .f32) (g : Vec Ideal S1024 .f32) (w : Vec Ideal S1024x5152 .f32) : Vec Ideal S65536x5120 .bf16 :=
  fun i => (proj (fun k => x (ix2 (i 0) k)) (fun k => g (ix1 k))
    (fun k => w (ix2 k ⟨(i 1).val, lt_of_lt_of_le (show (i 1).val < 5120 from (i 1).isLt) (by decide)⟩)) : EReal)

theorem result_at (x : Vec Ideal S65536x1024 .f32) (g : Vec Ideal S1024 .f32) (w : Vec Ideal S1024x5152 .f32) (y : S65536x5120.Idx) (s n : ℕ)
    (hs : s < 65536) (hn : n < 5152) (h0 : (y 0).val = s) (h1 : (y 1).val = n) :
    (result x g w y : EReal) = proj (fun k => x (ix2 ⟨s, hs⟩ k)) (fun k => g (ix1 k)) (fun k => w (ix2 k ⟨n, hn⟩)) := by
  obtain ⟨y0, y1, rfl⟩ : ∃ (y0 : Fin 65536) (y1 : Fin 5120), y = ix2 y0 y1 := ⟨y 0, y 1, eq_ix2 y⟩
  obtain rfl : y0 = ⟨s, hs⟩ := Fin.ext h0
  subst h1
  rfl

theorem final : (dats m 0 c).arrAt 4 cfg0.N
    = result (m (c, Proc.tc.devRef main_arg0)) (m (c, Proc.tc.devRef main_arg1)) (m (c, Proc.tc.devRef main_arg2)) := by
  refine (dats m 0 c).arrAt_eq_of_covers 4 _ (by decide +kernel) fun t hf y => ?_
  blk_simp
  rw [after_4]
  have hlt := lt_N t
  obtain ⟨i, j, rfl⟩ : ∃ (i j : Fin 1024), y = ix2 i j := ⟨y 0, y 1, eq_ix2 y⟩
  refine (block_ix m c t i j).trans ?_
  have e0 : (((win0_4.blk t).view.emb (ix2 i j)) 0).val = 1024 * (t.val / 5) + i.val := by blk_simp [(idx t).2.2.2.2.1]; simp; omega
  have e1 : (((win0_4.blk t).view.emb (ix2 i j)) 1).val = 1024 * (t.val % 5) + j.val := by blk_simp [(idx t).2.2.2.2.1]; simp; omega
  exact (result_at _ _ _ _ _ _ (by omega) (by omega) e0 e1).symm

/-- Every normed row times the last columns of weights. -/
def lastCols (x : Vec Ideal S65536x1024 .f32) (g : Vec Ideal S1024 .f32) (w : Vec Ideal S1024x5152 .f32) : Vec Ideal S65536x128 .f32 :=
  fun i => (lastCol (fun k => x (ix2 (i 0) k)) (fun k => g (ix1 k)) (fun k j => w (ix2 k j)) (i 1) : EReal)

theorem lastCols_at (x : Vec Ideal S65536x1024 .f32) (g : Vec Ideal S1024 .f32) (w : Vec Ideal S1024x5152 .f32) (y : S65536x128.Idx) (s n : ℕ)
    (hs : s < 65536) (hn : n < 128) (h0 : (y 0).val = s) (h1 : (y 1).val = n) :
    (lastCols x g w y : EReal) = lastCol (fun k => x (ix2 ⟨s, hs⟩ k)) (fun k => g (ix1 k)) (fun k j => w (ix2 k j)) ⟨n, hn⟩ := by
  obtain ⟨y0, y1, rfl⟩ : ∃ (y0 : Fin 65536) (y1 : Fin 128), y = ix2 y0 y1 := ⟨y 0, y 1, eq_ix2 y⟩
  obtain rfl : y0 = ⟨s, hs⟩ := Fin.ext h0
  obtain rfl : y1 = ⟨n, hn⟩ := Fin.ext h1
  rfl

theorem final_last : (dats m 0 c).arrAt 5 cfg0.N
    = lastCols (m (c, Proc.tc.devRef main_arg0)) (m (c, Proc.tc.devRef main_arg1)) (m (c, Proc.tc.devRef main_arg2)) := by
  refine (dats m 0 c).arrAt_eq_of_covers 5 _ (by decide +kernel) fun t hf y => ?_
  blk_simp
  rw [after_5]
  have hlt := lt_N t
  obtain ⟨i, j, rfl⟩ : ∃ (i : Fin 1024) (j : Fin 128), y = ix2 i j := ⟨y 0, y 1, eq_ix2 y⟩
  refine (last_ix m c t i j).trans ?_
  have e0 : (((win0_5.blk t).view.emb (ix2 i j)) 0).val = 1024 * (t.val / 5) + i.val := by blk_simp [(idx t).2.2.2.2.2]; simp; omega
  have e1 : (((win0_5.blk t).view.emb (ix2 i j)) 1).val = j.val := by blk_simp [(idx t).2.2.2.2.2]
  exact (lastCols_at _ _ _ _ _ _ (by omega) j.isLt e0 e1).symm

/-- The run with both results named. -/
theorem run_values (ρ : Dev nD → PrngReg) : θ_run defs (onTc (τ := τ) (main (F := Ideal))) ⟨m, fun _ => 0, ρ⟩ fun r => ∀ c : Dev nD,
      r.2.mem ((c : Thread nD τ).loc main_v6_0)
          = result (m (c, Proc.tc.devRef main_arg0)) (m (c, Proc.tc.devRef main_arg1)) (m (c, Proc.tc.devRef main_arg2))
      ∧ r.2.mem ((c : Thread nD τ).loc main_v6_1) = lastCols (m (c, Proc.tc.devRef main_arg0)) (m (c, Proc.tc.devRef main_arg1)) (m (c, Proc.tc.devRef main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 4).trans (final m c), ((h.1 c).1 5).trans (final_last m c), h.2.1 c⟩)
    (θ_run_and (run_main m ρ) (frame m ρ))

end Cert.Kernel4Ideal.Run

namespace Cert.Reference4Ideal.Out

open Cert.Proj Cert.Reference4Ideal Cert.Reference4Ideal.Gen Idealize.ShloMosaic Idealize.ShloMosaic.TcCoe

theorem prod_ix (x : FVec Ideal S65536x1024 .f32) (g : FVec Ideal S1024 .f32) (w : FVec Ideal S1024x5152 .f32) (s : Fin 65536) (j : Fin 5152) :
    ((Host.dotGeneral dot_S65536x1024_S1024x5152_S65536x5152_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w) (ix2 s j) : EReal)
      = proj (fun k => x (ix2 s k)) (fun k => g (ix1 k)) (fun k => w (ix2 k j)) := by
  unfold proj nrm
  pointwise

theorem out_ix (x : FVec Ideal S65536x1024 .f32) (g : FVec Ideal S1024 .f32) (w : FVec Ideal S1024x5152 .f32) (s : Fin 65536) (j : Fin 5120) :
    (truncf .bf16 (extractStridedSlice S65536x5120 ![0, 0] (Host.dotGeneral dot_S65536x1024_S1024x5152_S65536x5152_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w) slices_S65536x5152_S65536x5120_0_0) bitsLt_bf16_f32 (ix2 s j) : EReal)
      = proj (fun k => x (ix2 s k)) (fun k => g (ix1 k)) (fun k => w (ix2 k ⟨j.val, by omega⟩)) := by
  rw [← prod_ix]
  generalize (Host.dotGeneral dot_S65536x1024_S1024x5152_S65536x5152_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w) = P
  pointwise

theorem last_ix (x : FVec Ideal S65536x1024 .f32) (g : FVec Ideal S1024 .f32) (w : FVec Ideal S1024x5152 .f32) (s : Fin 65536) (j : Fin 128) :
    ((pad S65536x128 ![0, 0] ![0, 96] ![0, 0] (extractStridedSlice S65536x32 ![0, 5120] (Host.dotGeneral dot_S65536x1024_S1024x5152_S65536x5152_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w) slices_S65536x5152_S65536x32_0_5120) (sitofp .f32 (constantI S_ 32 0#32)) pads_S65536x32_S65536x128_000_0960 h_S_ : FVec Ideal S65536x128 .f32) (ix2 s j) : EReal)
      = Cert.Kernel4Ideal.Run.lastCol (fun k => x (ix2 s k)) (fun k => g (ix1 k)) (fun k j => w (ix2 k j)) j := by
  unfold Cert.Kernel4Ideal.Run.lastCol
  simp only [← prod_ix]
  generalize (Host.dotGeneral dot_S65536x1024_S1024x5152_S65536x5152_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w) = P
  pointwise
  rw [Cert.Kernel4Ideal.Run.zero_ix]

end Cert.Reference4Ideal.Out

namespace Cert.Proof

open Idealize.ShloMosaic Idealize.ShloMosaic.TcCoe Idealize.SL.Sem

section
variable {F : FTy → Type} [FloatOps F]
local instance factsK4 : Cert.Kernel4.Facts := Cert.Kernel4.Gen.facts
local instance factsKI4 : Cert.Kernel4Ideal.Facts := Cert.Kernel4Ideal.Gen.facts

/-- The two programs' bodies have the same text. -/
theorem row4 (l : Cert.Kernel4Ideal.Λ₀.Label) (a : Cert.Kernel4Ideal.Λ₀.Args l) :
    Cert.Kernel4.defs₀ (F := F) .tc l a = Cert.Kernel4Ideal.defs₀ (F := F) .tc l a := by
  match l, a with
  | ⟨0, _⟩, (t, s) => rfl
theorem bodies4 : Cert.Kernel4.defs₀ (F := F) = Cert.Kernel4Ideal.defs₀ (F := F) :=
  (congrArg Defs.onTc (funext fun l => funext fun a => row4 l a) :
    Defs.onTc (Cert.Kernel4.defs₀ (F := F) .tc) = Defs.onTc (Cert.Kernel4Ideal.defs₀ (F := F) .tc))
theorem defs4 : Cert.Kernel4.defs (F := F) = Cert.Kernel4Ideal.defs (F := F) := congrArg (Pipeline.defs Cert.Kernel4Ideal.pcfgs) bodies4
end

theorem frame_K4 : Cert.quiescent_Kernel4 (hKernel4 := Cert.Kernel4.Gen.facts) := fun m ρ _ => by
  rw [defs4]
  exact Cert.Kernel4Ideal.Run.frame (F := Bits) m ρ
theorem frame_KI4 : Cert.quiescent_Kernel4Ideal (hKernel4Ideal := Cert.Kernel4Ideal.Gen.facts) := fun m g _ => Cert.Kernel4Ideal.Run.frame m g
theorem frame_R4 : Cert.quiescent_Reference4Ideal (hReference4Ideal := Cert.Reference4Ideal.Gen.facts) := fun m g _ =>
  (θ_run _ _ _).mono (fun r h => ⟨fun c => (h c).2.2, sem_eq_zero_of_no_sems (by decide) r.2⟩) (Cert.Reference4Ideal.Value.run m g)

/-- The projection and its reference compute the same two arrays of extended reals. -/
theorem algebraic4 : Cert.algebraic_Kernel4Ideal_Reference4Ideal (hKernel4Ideal := Cert.Kernel4Ideal.Gen.facts)
    (hReference4Ideal := Cert.Reference4Ideal.Gen.facts) := by
  intro m g m' g' hpre hargs
  refine ⟨fun c => Cert.Kernel4Ideal.Run.result (m (c, Proc.tc.devRef Cert.Kernel4Ideal.main_arg0)) (m (c, Proc.tc.devRef Cert.Kernel4Ideal.main_arg1))
      (m (c, Proc.tc.devRef Cert.Kernel4Ideal.main_arg2)),
    fun c => Cert.Kernel4Ideal.Run.lastCols (m (c, Proc.tc.devRef Cert.Kernel4Ideal.main_arg0)) (m (c, Proc.tc.devRef Cert.Kernel4Ideal.main_arg1))
      (m (c, Proc.tc.devRef Cert.Kernel4Ideal.main_arg2)),
    Cert.Kernel4Ideal.Run.run_values m g, ?_⟩
  refine (θ_run _ _ _).mono (fun r h c => ⟨(h c).1.trans ?_, (h c).2.1.trans ?_, (h c).2.2⟩) (Cert.Reference4Ideal.Value.run m' g')
  · have h0 : m' (c, Proc.tc.devRef Cert.Reference4Ideal.main_arg0) = m (c, Proc.tc.devRef Cert.Kernel4Ideal.main_arg0) := (hargs c).1
    have h1 : m' (c, Proc.tc.devRef Cert.Reference4Ideal.main_arg1) = m (c, Proc.tc.devRef Cert.Kernel4Ideal.main_arg1) := (hargs c).2.1
    have h2 : m' (c, Proc.tc.devRef Cert.Reference4Ideal.main_arg2) = m (c, Proc.tc.devRef Cert.Kernel4Ideal.main_arg2) := (hargs c).2.2
    refine funext fun i => ?_
    obtain ⟨s, j, rfl⟩ : ∃ (s : Fin 65536) (j : Fin 5120), i = ix2 s j := ⟨i 0, i 1, eq_ix2 i⟩
    refine (Cert.Reference4Ideal.Out.out_ix (m' (c, Proc.tc.devRef Cert.Reference4Ideal.main_arg0)) (m' (c, Proc.tc.devRef Cert.Reference4Ideal.main_arg1))
      (m' (c, Proc.tc.devRef Cert.Reference4Ideal.main_arg2)) s j).trans ?_
    rw [h0, h1, h2]
    rfl
  · have h0 : m' (c, Proc.tc.devRef Cert.Reference4Ideal.main_arg0) = m (c, Proc.tc.devRef Cert.Kernel4Ideal.main_arg0) := (hargs c).1
    have h1 : m' (c, Proc.tc.devRef Cert.Reference4Ideal.main_arg1) = m (c, Proc.tc.devRef Cert.Kernel4Ideal.main_arg1) := (hargs c).2.1
    have h2 : m' (c, Proc.tc.devRef Cert.Reference4Ideal.main_arg2) = m (c, Proc.tc.devRef Cert.Kernel4Ideal.main_arg2) := (hargs c).2.2
    refine funext fun i => ?_
    obtain ⟨s, j, rfl⟩ : ∃ (s : Fin 65536) (j : Fin 128), i = ix2 s j := ⟨i 0, i 1, eq_ix2 i⟩
    refine (Cert.Reference4Ideal.Out.last_ix (m' (c, Proc.tc.devRef Cert.Reference4Ideal.main_arg0)) (m' (c, Proc.tc.devRef Cert.Reference4Ideal.main_arg1))
      (m' (c, Proc.tc.devRef Cert.Reference4Ideal.main_arg2)) s j).trans ?_
    rw [h0, h1, h2]
    rfl

end Cert.Proof
end
-- ==== Proof.Run5.lean ====
module

public import proofs.«01_k».proof.Proof.Gen.Kernel5Ideal.Frame
public import proofs.«01_k».proof.Proof.Gen.Kernel5Ideal.Skeleton
public import Idealize.ShloMosaic.Lib.Claim
public import Idealize.ShloMosaic.Lib.Pipeline.ValueKit
public import Idealize.ShloMosaic.Lib.Pipeline.TableIdle

@[expose] public section

set_option maxRecDepth 16384

noncomputable section

/-! The run of the experts' query projection: a row block's normed rows are stored at its first column block, in the scratch
and, transposed, in the second result; every column block reads the scratch. -/

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first column block of a row block. -/
abbrev first (i : grid0.Coords) : Prop := k0_cond1 i = 1#1

theorem first_iff : ∀ t : Fin cfg0.N, first (grid0.coords t) ↔ t.val % 2 = 0 :=
  (by decide +kernel : ∀ t : Fin grid0.N, first (grid0.coords t) ↔ t.val % 2 = 0)

theorem lt_N (t : Fin cfg0.N) : t.val < 128 := lt_of_lt_of_eq t.isLt (show cfg0.N = 128 from N_0)

theorem idx : ∀ t : Fin cfg0.N, win0_0.index t = ![t.val / 2, 0] ∧ win0_1.index t = ![0, 0] ∧ win0_2.index t = ![0, t.val % 2] ∧
    win0_3.index t = ![t.val / 2, t.val % 2] ∧ win0_4.index t = ![t.val / 2, 0, 0] :=
  (by decide +kernel : ∀ t : Fin grid0.N, _)

abbrev whole2 : Rect S1024x1024 := Rect.unit (s := S1024x1024) ![0, 0] S1024x1024.size inb_S1024x1024_S1024x1024_0_0
abbrev half0 : Rect S2x1024x512 := Rect.unit (s := S2x1024x512) ![0, 0, 0] S1x1024x512.size inb_S2x1024x512_S1x1024x512_0_0_0
abbrev half1 : Rect S2x1024x512 := Rect.unit (s := S2x1024x512) ![1, 0, 0] S1x1024x512.size inb_S2x1024x512_S1x1024x512_1_0_0

/-- The transposed rows that a row block's first point stores. -/
def turned (x0 : Vec F S1024x1024 .f32) (x1 : Vec F S1x1024 .f32) : Vec F S2x1024x512 .bf16 :=
  View.canon [⟨half1, k0_pay4 x0 x1⟩, ⟨half0, k0_pay3 x0 x1⟩]

set_option maxHeartbeats 1000000 in
theorem run_first (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S2x1024x512 .bf16) (harg6 : arg6.IsWhole) (arg7 : Memref sig .tc .vmem S1024x1024 .bf16) (harg7 : arg7.IsWhole) (h : first i)
    (x0 : Vec F S1024x1024 .f32) (x1 : Vec F S1x1024 .f32) (x2 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay5 (k0_pay2 x0 x1) x2) ∗ owns (c : Thread nD τ) arg6 fullShare (turned x0 x1)
            ∗ owns (c : Thread nD τ) arg7 fullShare (k0_pay2 x0 x1)) -∗ K ⟨⟩))
      ⊢ wp frame (wpE (defs₀ (F := F)) Variants.none c none) E (cc0_norm_matmul i arg2 harg2 arg3 harg3 arg4 harg4 arg5 harg5 arg6 harg6 arg7 harg7) K := by
  simp only [cc0_norm_matmul_eq_skeleton]; unfold cc0_norm_matmul_skel
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  obtain rfl := harg2.eq_unread hf0; obtain rfl := harg3.eq_unread hf1; obtain rfl := harg4.eq_unread hf2
  sl_exec (disch := first | sl_exact h)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S1024x1024.size (by sl_kernel_rfl))]
    frame_out
  isplitl [H4]
  · iexists _; isplitr
    swap; · iexact H4
    ipureintro
    rw [View.read_writes_eq_canon]
    swap; · exact View.cover_of_tiledL _ S1x1024x512.size (by sl_kernel_rfl)
    unfold turned
    frame_out
  iexists _; isplitr
  swap; · iexact HS
  ipureintro
  rw [View.read_writes_eq_canon _ _ _ (View.cover_of_tiledL _ S1024x1024.size (by sl_kernel_rfl))]
  frame_out

set_option maxHeartbeats 1000000 in
theorem run_later (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x1024 .f32) (harg5 : arg5.IsWhole)
    (arg6 : Memref sig .tc .vmem S2x1024x512 .bf16) (harg6 : arg6.IsWhole) (arg7 : Memref sig .tc .vmem S1024x1024 .bf16) (harg7 : arg7.IsWhole) (h : ¬first i)
    (x2 : Vec F S1024x1024 .bf16) (xs : Vec F S1024x1024 .bf16) (E : Set ℕ) (K : PUnit → sProp 𝕄) :
    iprop(owns (c : Thread nD τ) arg4 fullShare x2 ∗ (∃ d, owns (c : Thread nD τ) arg5 fullShare d) ∗ owns (c : Thread nD τ) arg7 fullShare xs
        ∗ (iprop(owns (c : Thread nD τ) arg4 fullShare x2 ∗ owns (c : Thread nD τ) arg5 fullShare (k0_pay5 xs x2) ∗ owns (c : Thread nD τ) arg7 fullShare xs) -∗ K ⟨⟩))
      ⊢ wp frame (wpE (defs₀ (F := F)) Variants.none c none) E (cc0_norm_matmul i arg2 harg2 arg3 harg3 arg4 harg4 arg5 harg5 arg6 harg6 arg7 harg7) K := by
  simp only [cc0_norm_matmul_eq_skeleton]; unfold cc0_norm_matmul_skel
  unfold owns
  iintro ⟨⟨%f2, %hf2, H2⟩, ⟨%d3, %f3, -, H3⟩, ⟨%fs, %hfs, HS⟩, Hk⟩
  obtain rfl := harg4.eq_unread hf2; obtain rfl := harg7.eq_unread hfs
  sl_exec (disch := first | sl_exact h)
  sl_step
  iapply Hk
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S1024x1024.size (by sl_kernel_rfl))]
    frame_out
  iexists _; isplitr; · ipureintro; exact harg7.read_unread _
  iexact HS

variable (m : (ℓ : Loc nD τ sig) → Buf (Elt F) ℓ) (ρ : Dev nD → PrngReg)

theorem blk0_eq (c : Dev nD) (t u : Fin cfg0.N) (h : t.val / 2 = u.val / 2) : iblk m c 0 t = iblk m c 0 u := by
  funext y; blk_ext [iblk, (idx t).1, (idx u).1, h]
theorem blk1_eq (c : Dev nD) (t u : Fin cfg0.N) : iblk m c 1 t = iblk m c 1 u := by
  funext y; blk_ext [iblk, (idx t).2.1, (idx u).2.1]

/-- The normed rows of the point's row block. -/
def rows (c : Dev nD) (t : Fin cfg0.N) : Vec F S1024x1024 .bf16 := k0_pay2 (iblk m c 0 t) (iblk m c 1 t)

theorem rows_eq (c : Dev nD) (t u : Fin cfg0.N) (h : t.val / 2 = u.val / 2) : rows m c t = rows m c u := by
  unfold rows; rw [blk0_eq m c t u h, blk1_eq m c t u]

/-- Between the points the scratch holds the normed rows of the row block of the point before. -/
def inv (c : Dev nD) : (n : ℕ) → n ≤ cfg0.N → sProp 𝕄
  | 0, _ => Pipeline.ΦA spec0 c
  | n + 1, hn => iprop(owns (c : Thread nD τ) (Memref.whole cc0_scratch0) fullShare (rows m c ⟨n, hn⟩) ∗ (∃ r, prngReg c r))

theorem inv_pos (c : Dev nD) (n : ℕ) (h : n ≤ cfg0.N) (hz : n ≠ 0) :
    inv m c n h = iprop(owns (c : Thread nD τ) (Memref.whole cc0_scratch0) fullShare (rows m c ⟨n - 1, by omega⟩) ∗ (∃ r, prngReg c r)) := by
  cases n with
  | zero => exact absurd rfl hz
  | succ n => rfl

theorem start_eq (c : Dev nD) :
    (Pipeline.ΦA spec0 c : sProp 𝕄) = iprop(iprop((∃ d, owns (c : Thread nD τ) (Memref.whole cc0_scratch0) fullShare d)) ∗ (∃ r, prngReg c r)) := by
  unfold Pipeline.ΦA; rw [scopedRest0_eq]; simp only [owns_whole]; try rfl

/-- Any invariant gives the scratch at some contents. -/
theorem inv_some (c : Dev nD) (n : ℕ) (h : n ≤ cfg0.N) :
    inv m c n h ⊢ iprop(iprop((∃ d, owns (c : Thread nD τ) (Memref.whole cc0_scratch0) fullShare d)) ∗ (∃ r, prngReg c r)) := by
  cases n with
  | zero => exact (start_eq (F := F) c) ▸ .rfl
  | succ n =>
    unfold inv
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay5 (rows m c t) (iblk m c 2 t)
    | ⟨4, _⟩ => turned (iblk m c 0 t) (iblk m c 1 t)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_castSucc (c : Dev nD) (t : Fin cfg0.N) : (dats m 0 c).Φ t.castSucc = inv m c t.val (Nat.le_of_lt t.isLt) := by
  dsimp only [dats]; exact Pipeline.Dat.Φ_castSucc (inv m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay5 (rows m c t) (iblk m c 2 t) := by dsimp only [dats]
theorem after_4 (c : Dev nD) (t : Fin cfg0.N) : (dats m 0 c).after 4 t = turned (iblk m c 0 t) (iblk m c 1 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem idle_4 : ∀ t : Fin cfg0.N, cfg0.idle 4 (cfg0.grid.coords t) = true ↔ t.val % 2 ≠ 0 :=
  (by decide +kernel : ∀ t : Fin grid0.N, idle0 4 (grid0.coords t) = true ↔ t.val % 2 ≠ 0)
theorem fresh_4 : ∀ t : Fin cfg0.N, t.val % 2 ≠ 0 → cfg0.fresh 4 t.val = false := by decide +kernel
/-- Through a row block's column blocks the second result holds the same transposed rows. -/
theorem carry_4 (c : Dev nD) (t : Fin cfg0.N) (h : t.val % 2 ≠ 0) :
    (dats m 0 c).after 4 t = (dats m 0 c).after 4 ⟨t.val - 1, by omega⟩ := by
  rw [after_4, after_4, blk0_eq m c t ⟨t.val - 1, by omega⟩ (by dsimp only; omega), blk1_eq m c t ⟨t.val - 1, by omega⟩]
/-- At a later column block the second result still holds the transposed rows. -/
theorem before_4 (c : Dev nD) (t : Fin cfg0.N) (h : t.val % 2 ≠ 0) (d) : (dats m 0 c).before 4 t d = (dats m 0 c).after 4 t := by
  rw [(dats m 0 c).before_out_traj 4 rfl (fun _ _ => rfl) (fun t _ hi _ => carry_4 m c t ((idle_4 t).mp hi)) t.val t rfl d,
    fresh_4 t h, if_neg Bool.false_ne_true]
  exact (carry_4 m c t h).symm
/-- What is left in the second result is what the loop asks for, a point that stores none of it included. -/
theorem leaves_4 (c : Dev nD) (t : Fin cfg0.N) :
    owns (c : Thread nD τ) (st0_4 t) fullShare (turned (iblk m c 0 t) (iblk m c 1 t)) ⊢ (dats m 0 c).leavesExact 4 t := by
  rw [← after_4 m c t]
  unfold Dat.leavesExact
  cases hi : cfg0.idle 4 (cfg0.grid.coords t)
  · exact .rfl
  cases hf : (cfg0.win 4).flush t
  · iintro H
    iexists (dats m 0 c).after 4 t
    rw [before_4 m c t ((idle_4 t).mp hi)]
    iexact H
  · exact .rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2, after_3]
  rw [show (dats m 0 c).Φ t.succ
      = iprop(owns (c : Thread nD τ) (Memref.whole cc0_scratch0) fullShare (rows m c t) ∗ (∃ r, prngReg c r)) from rfl]
  rw [inv_castSucc m c t]
  by_cases h : t.val % 2 = 0
  · iintro ⟨HI, Ho, ⟨%d0, H0⟩, ⟨%d1, H1⟩, ⟨%d2, H2⟩, ⟨%d3, H3⟩, ⟨%d4, H4⟩⟩
    ihave HJ := inv_some m c t.val _ $$ HI
    icases HJ with ⟨HS, Hg⟩
    iapply (run_first c (grid0.coords t) _ _ _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_4 m c t)
    iexact H4
  · have hz : t.val ≠ 0 := fun e => h (by rw [e])
    have hlt := lt_N t
    simp only [before_4 m c t h, after_4]
    rw [inv_pos m c _ _ hz, ← rows_eq m c t ⟨t.val - 1, by omega⟩ (by dsimp only; omega)]
    iintro ⟨⟨HS, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ (fun e => h ((first_iff t).mp e)) (iblk m c 2 t) (rows m c t) Set.univ _)
    isplitl [H2]; · iexact H2
    isplitl [H3]; · iexists _; iexact H3
    isplitl [HS]; · iexact HS
    iintro ⟨H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_4 m c t)
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, start_eq]
  exact inv_some m c _ _

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel5Ideal.Run

end
-- ==== Proof.Proj5.lean ====
module

public import proofs.«01_k».proof.Defs
public import proofs.«01_k».proof.Proof.Gen.Kernel5
public import proofs.«01_k».proof.Proof.Gen.Reference5Ideal.Run
public import proofs.«01_k».proof.Proof.ProjMath
public import proofs.«01_k».proof.Proof.Run5
public import Idealize.ShloMosaic.Lib.StableHlo.RunRead
public import Idealize.ShloMosaic.Lib.Pointwise
public import Idealize.ShloMosaic.Lib.Quiescent

@[expose] public section

set_option maxRecDepth 16384

noncomputable section

/-! The experts' query projection with the norm before it: 2048 columns, and the normed rows transposed in blocks of 512. -/

namespace Cert.Kernel5Ideal.Run

open Cert.Proj Cert.Kernel5Ideal Cert.Kernel5Ideal.Gen Idealize.ShloMosaic Idealize.ShloMosaic.TcCoe Idealize.SL.Sem

variable (m : (ℓ : Loc nD τ sig) → Buf (Elt Ideal) ℓ) (c : Dev nD)

theorem blk0 (t : Fin cfg0.N) (i k : Fin 1024) :
    iblk m c 0 t (ix2 i k) = m (c, Proc.tc.devRef main_arg0) (ix2 ⟨1024 * (t.val / 2) + i.val, by have := lt_N t; omega⟩ k) := by
  rw [← V_main_arg0 m c]
  blk_ext [iblk, (idx t).1]
theorem blk1 (t : Fin cfg0.N) (k : Fin 1024) : iblk m c 1 t (ix2 0 k) = V m c main_v1 (ix2 0 k) := by
  blk_ext [iblk, (idx t).2.1]
theorem blk2 (t : Fin cfg0.N) (k j : Fin 1024) :
    iblk m c 2 t (ix2 k j) = V m c main_v0 (ix2 k ⟨1024 * (t.val % 2) + j.val, by omega⟩) := by
  blk_ext [iblk, (idx t).2.2.1]
theorem v0 (k : Fin 1024) (j : Fin 2048) : (V m c main_v0 (ix2 k j) : EReal) = m (c, Proc.tc.devRef main_arg2) (ix2 k j) := by
  unfold V
  after_reads_simp
  pointwise
theorem v1 (k : Fin 1024) : (V m c main_v1 (ix2 0 k) : EReal) = m (c, Proc.tc.devRef main_arg1) (ix1 k) := by
  unfold V
  after_reads_simp
  pointwise

theorem pay2_ix (x : Vec Ideal S1024x1024 .f32) (g : Vec Ideal S1x1024 .f32) (i k : Fin 1024) :
    (k0_pay2 (F := Ideal) x g (ix2 i k) : EReal) = nrm (fun k => x (ix2 i k)) (fun k => g (ix2 0 k)) k := by
  unfold_payloads
  unfold nrm
  pointwise
theorem pay3_ix (x : Vec Ideal S1024x1024 .f32) (g : Vec Ideal S1x1024 .f32) (k : Fin 1024) (j : Fin 512) :
    (k0_pay3 (F := Ideal) x g (ix3 0 k j) : EReal) = nrm (fun k => x (ix2 ⟨j.val, by omega⟩ k)) (fun k => g (ix2 0 k)) k := by
  unfold_payloads
  unfold nrm
  pointwise
theorem pay4_ix (x : Vec Ideal S1024x1024 .f32) (g : Vec Ideal S1x1024 .f32) (k : Fin 1024) (j : Fin 512) :
    (k0_pay4 (F := Ideal) x g (ix3 0 k j) : EReal) = nrm (fun k => x (ix2 ⟨512 + j.val, by omega⟩ k)) (fun k => g (ix2 0 k)) k := by
  unfold_payloads
  unfold nrm
  pointwise
theorem pay5_ix (x w : Vec Ideal S1024x1024 .bf16) (i j : Fin 1024) :
    (k0_pay5 (F := Ideal) x w (ix2 i j) : EReal) = ∑ k : Fin 1024, (x (ix2 i k) : EReal) * w (ix2 k j) := by
  unfold_payloads
  pointwise

theorem turned_ix (x : Vec Ideal S1024x1024 .f32) (g : Vec Ideal S1x1024 .f32) (b : Fin 2) (k : Fin 1024) (j : Fin 512) :
    (turned (F := Ideal) x g (ix3 b k j) : EReal) = nrm (fun k => x (ix2 ⟨512 * b.val + j.val, by omega⟩ k)) (fun k => g (ix2 0 k)) k := by
  unfold turned half0 half1
  canon_tiles y h
  · obtain ⟨y0, y1, y2, rfl⟩ : ∃ (y0 : Fin 1) (y1 : Fin 1024) (y2 : Fin 512), y = ix3 y0 y1 y2 := ⟨y 0, y 1, y 2, eq_ix3 y⟩
    obtain rfl : y0 = 0 := Fin.ext (by omega)
    obtain rfl : k = y1 := Fin.ext h1
    obtain rfl : j = y2 := Fin.ext h2
    have hb : b.val = 1 := by simpa using h0
    simp only [hb]
    exact pay4_ix x g k j
  · obtain ⟨y0, y1, y2, rfl⟩ : ∃ (y0 : Fin 1) (y1 : Fin 1024) (y2 : Fin 512), y = ix3 y0 y1 y2 := ⟨y 0, y 1, y 2, eq_ix3 y⟩
    obtain rfl : y0 = 0 := Fin.ext (by omega)
    obtain rfl : k = y1 := Fin.ext h1
    obtain rfl : j = y2 := Fin.ext h2
    have hb : b.val = 0 := by simpa using h0
    simp only [hb, Nat.mul_zero, Nat.zero_add]
    exact pay3_ix x g k j

/-- A row of the activations, and the weights of the norm, as a memory holds them. -/
abbrev row (s : Fin 65536) (k : Fin 1024) : EReal := m (c, Proc.tc.devRef main_arg0) (ix2 s k)
abbrev gain (k : Fin 1024) : EReal := m (c, Proc.tc.devRef main_arg1) (ix1 k)

theorem rows_ix (t : Fin cfg0.N) (i k : Fin 1024) :
    (rows m c t (ix2 i k) : EReal) = nrm (row m c ⟨1024 * (t.val / 2) + i.val, by have := lt_N t; omega⟩) (gain m c) k := by
  unfold rows
  rw [pay2_ix]
  simp only [blk0, blk1]
  exact congrArg (fun g => nrm _ g k) (funext fun k => v1 m c k)

/-- What a grid point writes back of the product. -/
theorem block_ix (t : Fin cfg0.N) (i j : Fin 1024) :
    (k0_pay5 (F := Ideal) (rows m c t) (iblk m c 2 t) (ix2 i j) : EReal)
      = proj (row m c ⟨1024 * (t.val / 2) + i.val, by have := lt_N t; omega⟩) (gain m c)
          (fun k => m (c, Proc.tc.devRef main_arg2) (ix2 k ⟨1024 * (t.val % 2) + j.val, by omega⟩)) := by
  unfold proj
  rw [pay5_ix]
  simp only [rows_ix, blk2]
  exact Finset.sum_congr rfl fun k _ => congrArg _ (v0 m c k _)

/-- Every normed row times every column of weights. -/
def result (x : Vec Ideal S65536x1024 .f32) (g : Vec Ideal S1024 .f32) (w : Vec Ideal S1024x2048 .f32) : Vec Ideal S65536x2048 .f32 :=
  fun i => (proj (fun k => x (ix2 (i 0) k)) (fun k => g (ix1 k)) (fun k => w (ix2 k (i 1))) : EReal)

theorem result_at (x : Vec Ideal S65536x1024 .f32) (g : Vec Ideal S1024 .f32) (w : Vec Ideal S1024x2048 .f32) (y : S65536x2048.Idx) (s n : ℕ)
    (hs : s < 65536) (hn : n < 2048) (h0 : (y 0).val = s) (h1 : (y 1).val = n) :
    (result x g w y : EReal) = proj (fun k => x (ix2 ⟨s, hs⟩ k)) (fun k => g (ix1 k)) (fun k => w (ix2 k ⟨n, hn⟩)) := by
  obtain ⟨y0, y1, rfl⟩ : ∃ (y0 : Fin 65536) (y1 : Fin 2048), y = ix2 y0 y1 := ⟨y 0, y 1, eq_ix2 y⟩
  obtain rfl : y0 = ⟨s, hs⟩ := Fin.ext h0
  obtain rfl : y1 = ⟨n, hn⟩ := Fin.ext h1
  rfl

theorem final : (dats m 0 c).arrAt 3 cfg0.N
    = result (m (c, Proc.tc.devRef main_arg0)) (m (c, Proc.tc.devRef main_arg1)) (m (c, Proc.tc.devRef main_arg2)) := by
  refine (dats m 0 c).arrAt_eq_of_covers 3 _ (by decide +kernel) fun t hf y => ?_
  blk_simp
  rw [after_3]
  have hlt := lt_N t
  obtain ⟨i, j, rfl⟩ : ∃ (i j : Fin 1024), y = ix2 i j := ⟨y 0, y 1, eq_ix2 y⟩
  refine (block_ix m c t i j).trans ?_
  have e0 : (((win0_3.blk t).view.emb (ix2 i j)) 0).val = 1024 * (t.val / 2) + i.val := by blk_simp [(idx t).2.2.2.1]; simp; omega
  have e1 : (((win0_3.blk t).view.emb (ix2 i j)) 1).val = 1024 * (t.val % 2) + j.val := by blk_simp [(idx t).2.2.2.1]; simp; omega
  exact (result_at _ _ _ _ _ _ (by omega) (by omega) e0 e1).symm

/-- Every normed row, transposed in blocks of 512 rows. -/
def turnedRows (x : Vec Ideal S65536x1024 .f32) (g : Vec Ideal S1024 .f32) : Vec Ideal S128x1024x512 .bf16 :=
  fun i => (nrm (fun k => x (ix2 ⟨(i 0).val * 512 + (i 2).val, by have h0 := (i 0).isLt; have h2 := (i 2).isLt; change _ < 128 at h0; change _ < 512 at h2; omega⟩ k)) (fun k => g (ix1 k)) (i 1) : EReal)

theorem turnedRows_at (x : Vec Ideal S65536x1024 .f32) (g : Vec Ideal S1024 .f32) (y : S128x1024x512.Idx) (b k j : ℕ)
    (hb : b < 128) (hk : k < 1024) (hj : j < 512) (h0 : (y 0).val = b) (h1 : (y 1).val = k) (h2 : (y 2).val = j) :
    (turnedRows x g y : EReal) = nrm (fun k => x (ix2 ⟨b * 512 + j, by omega⟩ k)) (fun k => g (ix1 k)) ⟨k, hk⟩ := by
  obtain ⟨y0, y1, y2, rfl⟩ : ∃ (y0 : Fin 128) (y1 : Fin 1024) (y2 : Fin 512), y = ix3 y0 y1 y2 := ⟨y 0, y 1, y 2, eq_ix3 y⟩
  obtain rfl : y0 = ⟨b, hb⟩ := Fin.ext h0
  obtain rfl : y1 = ⟨k, hk⟩ := Fin.ext h1
  obtain rfl : y2 = ⟨j, hj⟩ := Fin.ext h2
  rfl

theorem final_turned : (dats m 0 c).arrAt 4 cfg0.N = turnedRows (m (c, Proc.tc.devRef main_arg0)) (m (c, Proc.tc.devRef main_arg1)) := by
  refine (dats m 0 c).arrAt_eq_of_covers 4 _ (by decide +kernel) fun t hf y => ?_
  blk_simp
  rw [after_4]
  have hlt := lt_N t
  obtain ⟨b, k, j, rfl⟩ : ∃ (b : Fin 2) (k : Fin 1024) (j : Fin 512), y = ix3 b k j := ⟨y 0, y 1, y 2, eq_ix3 y⟩
  refine (turned_ix _ _ b k j).trans ?_
  have e0 : (((win0_4.blk t).view.emb (ix3 b k j)) 0).val = 2 * (t.val / 2) + b.val := by blk_simp [(idx t).2.2.2.2]; simp; omega
  have e1 : (((win0_4.blk t).view.emb (ix3 b k j)) 1).val = k.val := by blk_simp [(idx t).2.2.2.2]
  have e2 : (((win0_4.blk t).view.emb (ix3 b k j)) 2).val = j.val := by blk_simp [(idx t).2.2.2.2]
  refine Eq.trans ?_ (turnedRows_at _ _ _ _ _ _ (by omega) k.isLt j.isLt e0 e1 e2).symm
  simp only [blk0, blk1]
  have hr : (1024 * (t.val / 2) + (512 * b.val + j.val)) = (2 * (t.val / 2) + b.val) * 512 + j.val := by omega
  simp only [hr]
  exact congrArg (fun g => nrm _ g k) (funext fun k => v1 m c k)

/-- The run with both results named. -/
theorem run_values (ρ : Dev nD → PrngReg) : θ_run defs (onTc (τ := τ) (main (F := Ideal))) ⟨m, fun _ => 0, ρ⟩ fun r => ∀ c : Dev nD,
      r.2.mem ((c : Thread nD τ).loc main_v2_0)
          = result (m (c, Proc.tc.devRef main_arg0)) (m (c, Proc.tc.devRef main_arg1)) (m (c, Proc.tc.devRef main_arg2))
      ∧ r.2.mem ((c : Thread nD τ).loc main_v2_1) = turnedRows (m (c, Proc.tc.devRef main_arg0)) (m (c, Proc.tc.devRef main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), ((h.1 c).1 4).trans (final_turned m c), h.2.1 c⟩)
    (θ_run_and (run_main m ρ) (frame m ρ))

end Cert.Kernel5Ideal.Run

namespace Cert.Reference5Ideal.Out

open Cert.Proj Cert.Reference5Ideal Cert.Reference5Ideal.Gen Idealize.ShloMosaic Idealize.ShloMosaic.TcCoe

theorem out_ix (x : FVec Ideal S65536x1024 .f32) (g : FVec Ideal S1024 .f32) (w : FVec Ideal S1024x2048 .f32) (s : Fin 65536) (j : Fin 2048) :
    (Host.dotGeneral dot_S65536x1024_S1024x2048_S65536x2048_1_0_0_1_n_n none (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) w (ix2 s j) : EReal)
      = proj (fun k => x (ix2 s k)) (fun k => g (ix1 k)) (fun k => w (ix2 k j)) := by
  unfold proj nrm
  pointwise

theorem turned_ix (x : FVec Ideal S65536x1024 .f32) (g : FVec Ideal S1024 .f32) (b : Fin 128) (k : Fin 1024) (j : Fin 512) :
    (truncf .bf16 (transpose S128x1024x512 [0, 2, 1] (shapeCast _ (mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))) shapeCasts_S65536x1024_S128x512x1024) transposes_S128x512x1024_S128x1024x512_0_2_1) bitsLt_bf16_f32 (ix3 b k j) : EReal)
      = nrm (fun k => x (ix2 ⟨b.val * 512 + j.val, by omega⟩ k)) (fun k => g (ix1 k)) k := by
  unfold nrm
  pointwise

end Cert.Reference5Ideal.Out

namespace Cert.Proof

open Idealize.ShloMosaic Idealize.ShloMosaic.TcCoe Idealize.SL.Sem

section
variable {F : FTy → Type} [FloatOps F]
local instance factsK5 : Cert.Kernel5.Facts := Cert.Kernel5.Gen.facts
local instance factsKI5 : Cert.Kernel5Ideal.Facts := Cert.Kernel5Ideal.Gen.facts

/-- The two programs' bodies have the same text. -/
theorem row5 (l : Cert.Kernel5Ideal.Λ₀.Label) (a : Cert.Kernel5Ideal.Λ₀.Args l) :
    Cert.Kernel5.defs₀ (F := F) .tc l a = Cert.Kernel5Ideal.defs₀ (F := F) .tc l a := by
  match l, a with
  | ⟨0, _⟩, (t, s) => rfl
theorem bodies5 : Cert.Kernel5.defs₀ (F := F) = Cert.Kernel5Ideal.defs₀ (F := F) :=
  (congrArg Defs.onTc (funext fun l => funext fun a => row5 l a) :
    Defs.onTc (Cert.Kernel5.defs₀ (F := F) .tc) = Defs.onTc (Cert.Kernel5Ideal.defs₀ (F := F) .tc))
theorem defs5 : Cert.Kernel5.defs (F := F) = Cert.Kernel5Ideal.defs (F := F) := congrArg (Pipeline.defs Cert.Kernel5Ideal.pcfgs) bodies5
end

theorem frame_K5 : Cert.quiescent_Kernel5 (hKernel5 := Cert.Kernel5.Gen.facts) := fun m ρ _ => by
  rw [defs5]
  exact Cert.Kernel5Ideal.Run.frame (F := Bits) m ρ
theorem frame_KI5 : Cert.quiescent_Kernel5Ideal (hKernel5Ideal := Cert.Kernel5Ideal.Gen.facts) := fun m g _ => Cert.Kernel5Ideal.Run.frame m g
theorem frame_R5 : Cert.quiescent_Reference5Ideal (hReference5Ideal := Cert.Reference5Ideal.Gen.facts) := fun m g _ =>
  (θ_run _ _ _).mono (fun r h => ⟨fun c => (h c).2.2, sem_eq_zero_of_no_sems (by decide) r.2⟩) (Cert.Reference5Ideal.Value.run m g)

/-- The projection and its reference compute the same two arrays of extended reals. -/
theorem algebraic5 : Cert.algebraic_Kernel5Ideal_Reference5Ideal (hKernel5Ideal := Cert.Kernel5Ideal.Gen.facts)
    (hReference5Ideal := Cert.Reference5Ideal.Gen.facts) := by
  intro m g m' g' hpre hargs
  refine ⟨fun c => Cert.Kernel5Ideal.Run.result (m (c, Proc.tc.devRef Cert.Kernel5Ideal.main_arg0)) (m (c, Proc.tc.devRef Cert.Kernel5Ideal.main_arg1))
      (m (c, Proc.tc.devRef Cert.Kernel5Ideal.main_arg2)),
    fun c => Cert.Kernel5Ideal.Run.turnedRows (m (c, Proc.tc.devRef Cert.Kernel5Ideal.main_arg0)) (m (c, Proc.tc.devRef Cert.Kernel5Ideal.main_arg1)),
    Cert.Kernel5Ideal.Run.run_values m g, ?_⟩
  refine (θ_run _ _ _).mono (fun r h c => ⟨(h c).1.trans ?_, (h c).2.1.trans ?_, (h c).2.2⟩) (Cert.Reference5Ideal.Value.run m' g')
  · have h0 : m' (c, Proc.tc.devRef Cert.Reference5Ideal.main_arg0) = m (c, Proc.tc.devRef Cert.Kernel5Ideal.main_arg0) := (hargs c).1
    have h1 : m' (c, Proc.tc.devRef Cert.Reference5Ideal.main_arg1) = m (c, Proc.tc.devRef Cert.Kernel5Ideal.main_arg1) := (hargs c).2.1
    have h2 : m' (c, Proc.tc.devRef Cert.Reference5Ideal.main_arg2) = m (c, Proc.tc.devRef Cert.Kernel5Ideal.main_arg2) := (hargs c).2.2
    refine funext fun i => ?_
    obtain ⟨s, j, rfl⟩ : ∃ (s : Fin 65536) (j : Fin 2048), i = ix2 s j := ⟨i 0, i 1, eq_ix2 i⟩
    refine (Cert.Reference5Ideal.Out.out_ix (m' (c, Proc.tc.devRef Cert.Reference5Ideal.main_arg0)) (m' (c, Proc.tc.devRef Cert.Reference5Ideal.main_arg1))
      (m' (c, Proc.tc.devRef Cert.Reference5Ideal.main_arg2)) s j).trans ?_
    rw [h0, h1, h2]
    rfl
  · have h0 : m' (c, Proc.tc.devRef Cert.Reference5Ideal.main_arg0) = m (c, Proc.tc.devRef Cert.Kernel5Ideal.main_arg0) := (hargs c).1
    have h1 : m' (c, Proc.tc.devRef Cert.Reference5Ideal.main_arg1) = m (c, Proc.tc.devRef Cert.Kernel5Ideal.main_arg1) := (hargs c).2.1
    refine funext fun i => ?_
    obtain ⟨b, k, j, rfl⟩ : ∃ (b : Fin 128) (k : Fin 1024) (j : Fin 512), i = ix3 b k j := ⟨i 0, i 1, i 2, eq_ix3 i⟩
    refine (Cert.Reference5Ideal.Out.turned_ix (m' (c, Proc.tc.devRef Cert.Reference5Ideal.main_arg0))
      (m' (c, Proc.tc.devRef Cert.Reference5Ideal.main_arg1)) b k j).trans ?_
    rw [h0, h1]
    rfl

end Cert.Proof
end
-- ==== Proof.Proj6.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.StableHlo.RunRead
public import Idealize.ShloMosaic.Lib.Pointwise
public import Idealize.ShloMosaic.Lib.Quiescent

@[expose] public section

set_option maxRecDepth 16384

noncomputable section

/-! The output projection of the recurrences with its residual: 2048 columns in. -/

namespace Cert.Kernel6Ideal.Out

open Cert.Kernel6Ideal Cert.Kernel6Ideal.Gen Idealize.ShloMosaic Idealize.ShloMosaic.TcCoe

variable (m : (ℓ : Loc nD τ sig) → Buf (Elt Ideal) ℓ) (c : Dev nD)

theorem lt_N (t : Fin cfg0.N) : t.val < 64 := lt_of_lt_of_eq t.isLt (show cfg0.N = 64 from N_0)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem blk0 (t : Fin cfg0.N) (i : Fin 1024) (k : Fin 2048) :
    iblk m c 0 t (ix2 i k) = m (c, Proc.tc.devRef main_arg0) (ix2 ⟨1024 * t.val + i.val, by have := lt_N t; omega⟩ k) := by
  rw [← V_main_arg0 m c]
  blk_ext [iblk, (idx t).1]
theorem blk1 (t : Fin cfg0.N) (k : Fin 2048) (j : Fin 1024) : iblk m c 1 t (ix2 k j) = V m c main_v0 (ix2 k j) := by
  blk_ext [iblk, (idx t).2.1]
theorem blk2 (t : Fin cfg0.N) (i j : Fin 1024) :
    iblk m c 2 t (ix2 i j) = m (c, Proc.tc.devRef main_arg2) (ix2 ⟨1024 * t.val + i.val, by have := lt_N t; omega⟩ j) := by
  rw [← V_main_arg2 m c]
  blk_ext [iblk, (idx t).2.2.1]
theorem v0 (k : Fin 2048) (j : Fin 1024) : (V m c main_v0 (ix2 k j) : EReal) = m (c, Proc.tc.devRef main_arg1) (ix2 k j) := by
  unfold V
  after_reads_simp
  pointwise

theorem pay1_ix (h : Vec Ideal S1024x1024 .f32) (a : Vec Ideal S1024x2048 .bf16) (w : Vec Ideal S2048x1024 .bf16) (i j : Fin 1024) :
    (k0_pay1 (F := Ideal) h a w (ix2 i j) : EReal) = h (ix2 i j) + ∑ k : Fin 2048, (a (ix2 i k) : EReal) * w (ix2 k j) := by
  unfold_payloads
  pointwise

theorem out_eq (x0 : Vec Ideal S1024x2048 .bf16) (x1 : Vec Ideal S2048x1024 .bf16) (x2 : Vec Ideal S1024x1024 .f32) :
    out0_3 (F := Ideal) x0 x1 x2 = k0_pay1 x2 x0 x1 := by
  frame_out

/-- The residual plus the product. -/
def result (a : Vec Ideal S65536x2048 .bf16) (w : Vec Ideal S2048x1024 .f32) (h : Vec Ideal S65536x1024 .f32) : Vec Ideal S65536x1024 .f32 :=
  fun i => ((h i : EReal) + ∑ k : Fin 2048, (a (ix2 (i 0) k) : EReal) * w (ix2 k (i 1)) : EReal)

theorem result_at (a : Vec Ideal S65536x2048 .bf16) (w : Vec Ideal S2048x1024 .f32) (h : Vec Ideal S65536x1024 .f32) (y : S65536x1024.Idx) (s : ℕ) (j : Fin 1024)
    (hs : s < 65536) (h0 : (y 0).val = s) (h1 : (y 1).val = j.val) :
    (result a w h y : EReal) = (h (ix2 ⟨s, hs⟩ j) : EReal) + ∑ k : Fin 2048, (a (ix2 ⟨s, hs⟩ k) : EReal) * w (ix2 k j) := by
  obtain ⟨y0, y1, rfl⟩ : ∃ (y0 : Fin 65536) (y1 : Fin 1024), y = ix2 y0 y1 := ⟨y 0, y 1, eq_ix2 y⟩
  obtain rfl : y0 = ⟨s, hs⟩ := Fin.ext h0
  obtain rfl : y1 = j := Fin.ext h1
  rfl

theorem final : (dats m 0 c).arrAt 3 cfg0.N
    = result (m (c, Proc.tc.devRef main_arg0)) (m (c, Proc.tc.devRef main_arg1)) (m (c, Proc.tc.devRef main_arg2)) := by
  refine (dats m 0 c).arrAt_eq_of_covers 3 _ (by decide +kernel) fun t hf y => ?_
  blk_simp
  rw [after0_3, out_eq]
  have hlt := lt_N t
  obtain ⟨i, j, rfl⟩ : ∃ (i j : Fin 1024), y = ix2 i j := ⟨y 0, y 1, eq_ix2 y⟩
  refine (pay1_ix _ _ _ i j).trans ?_
  simp only [blk0, blk1, blk2, v0]
  have e0 : (((win0_3.blk t).view.emb (ix2 i j)) 0).val = 1024 * t.val + i.val := by blk_simp [(idx t).2.2.2]; simp; omega
  have e1 : (((win0_3.blk t).view.emb (ix2 i j)) 1).val = j.val := by blk_simp [(idx t).2.2.2]
  exact (result_at _ _ _ _ _ _ (by omega) e0 e1).symm

end Cert.Kernel6Ideal.Out

namespace Cert.Reference6Ideal.Out

open Cert.Reference6Ideal Cert.Reference6Ideal.Gen Idealize.ShloMosaic Idealize.ShloMosaic.TcCoe

variable (m : (ℓ : Loc nD τ sig) → Buf (Elt Ideal) ℓ) (c : Dev nD)

theorem out_ix (a : FVec Ideal S65536x2048 .bf16) (w : FVec Ideal S2048x1024 .f32) (h : FVec Ideal S65536x1024 .f32) (s : Fin 65536) (j : Fin 1024) :
    (addf h (Host.dotGeneral dot_S65536x2048_S2048x1024_S65536x1024_1_0_0_1_n_n none (extf .f32 a bitsLt_bf16_f32) w) (ix2 s j) : EReal)
      = (h (ix2 s j) : EReal) + ∑ k : Fin 2048, (a (ix2 s k) : EReal) * w (ix2 k j) := by
  pointwise

end Cert.Reference6Ideal.Out

namespace Cert.Proof

open Idealize.ShloMosaic Idealize.ShloMosaic.TcCoe Idealize.SL.Sem

theorem frame_K6 : Cert.quiescent_Kernel6 (hKernel6 := Cert.Kernel6.Gen.facts) := fun m g _ => Cert.Kernel6.Gen.frame m g
theorem frame_KI6 : Cert.quiescent_Kernel6Ideal (hKernel6Ideal := Cert.Kernel6Ideal.Gen.facts) := fun m g _ => Cert.Kernel6Ideal.Gen.frame m g
theorem frame_R6 : Cert.quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run m g)

/-- The output projection and its reference compute the same array of extended reals. -/
theorem algebraic6 : Cert.algebraic_Kernel6Ideal_Reference6Ideal (hKernel6Ideal := Cert.Kernel6Ideal.Gen.facts)
    (hReference6Ideal := Cert.Reference6Ideal.Gen.facts) := by
  intro m g m' g' hpre hargs
  refine ⟨fun c => Cert.Kernel6Ideal.Out.result (m (c, Proc.tc.devRef Cert.Kernel6Ideal.main_arg0)) (m (c, Proc.tc.devRef Cert.Kernel6Ideal.main_arg1))
    (m (c, Proc.tc.devRef Cert.Kernel6Ideal.main_arg2)), ?_, ?_⟩
  · exact (θ_run _ _ _).mono (fun r h c => ⟨(h c).1.trans (Cert.Kernel6Ideal.Out.final m c), (h c).2⟩) (Cert.Kernel6Ideal.Value.run_blocks m g)
  · refine (θ_run _ _ _).mono (fun r h c => ⟨(h c).1.trans ?_, (h c).2⟩) (Cert.Reference6Ideal.Value.run m' g')
    have h0 : m' (c, Proc.tc.devRef Cert.Reference6Ideal.main_arg0) = m (c, Proc.tc.devRef Cert.Kernel6Ideal.main_arg0) := (hargs c).1
    have h1 : m' (c, Proc.tc.devRef Cert.Reference6Ideal.main_arg1) = m (c, Proc.tc.devRef Cert.Kernel6Ideal.main_arg1) := (hargs c).2.1
    have h2 : m' (c, Proc.tc.devRef Cert.Reference6Ideal.main_arg2) = m (c, Proc.tc.devRef Cert.Kernel6Ideal.main_arg2) := (hargs c).2.2
    refine funext fun i => ?_
    obtain ⟨s, j, rfl⟩ : ∃ (s : Fin 65536) (j : Fin 1024), i = ix2 s j := ⟨i 0, i 1, eq_ix2 i⟩
    refine (Cert.Reference6Ideal.Out.out_ix (m' (c, Proc.tc.devRef Cert.Reference6Ideal.main_arg0)) (m' (c, Proc.tc.devRef Cert.Reference6Ideal.main_arg1))
      (m' (c, Proc.tc.devRef Cert.Reference6Ideal.main_arg2)) s j).trans ?_
    rw [h0, h1, h2]
    rfl

end Cert.Proof
-- ==== Proof.Proj7.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.StableHlo.RunRead
public import Idealize.ShloMosaic.Lib.Pointwise
public import Idealize.ShloMosaic.Lib.Quiescent

@[expose] public section

set_option maxRecDepth 16384

noncomputable section

/-! The output projection of the attentions with its residual: 1024 columns in. -/

namespace Cert.Kernel7Ideal.Out

open Cert.Kernel7Ideal Cert.Kernel7Ideal.Gen Idealize.ShloMosaic Idealize.ShloMosaic.TcCoe

variable (m : (ℓ : Loc nD τ sig) → Buf (Elt Ideal) ℓ) (c : Dev nD)

theorem lt_N (t : Fin cfg0.N) : t.val < 64 := lt_of_lt_of_eq t.isLt (show cfg0.N = 64 from N_0)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem blk0 (t : Fin cfg0.N) (i : Fin 1024) (k : Fin 1024) :
    iblk m c 0 t (ix2 i k) = m (c, Proc.tc.devRef main_arg0) (ix2 ⟨1024 * t.val + i.val, by have := lt_N t; omega⟩ k) := by
  rw [← V_main_arg0 m c]
  blk_ext [iblk, (idx t).1]
theorem blk1 (t : Fin cfg0.N) (k : Fin 1024) (j : Fin 1024) : iblk m c 1 t (ix2 k j) = V m c main_v0 (ix2 k j) := by
  blk_ext [iblk, (idx t).2.1]
theorem blk2 (t : Fin cfg0.N) (i j : Fin 1024) :
    iblk m c 2 t (ix2 i j) = m (c, Proc.tc.devRef main_arg2) (ix2 ⟨1024 * t.val + i.val, by have := lt_N t; omega⟩ j) := by
  rw [← V_main_arg2 m c]
  blk_ext [iblk, (idx t).2.2.1]
theorem v0 (k : Fin 1024) (j : Fin 1024) : (V m c main_v0 (ix2 k j) : EReal) = m (c, Proc.tc.devRef main_arg1) (ix2 k j) := by
  unfold V
  after_reads_simp
  pointwise

theorem pay1_ix (h : Vec Ideal S1024x1024 .f32) (a : Vec Ideal S1024x1024 .bf16) (w : Vec Ideal S1024x1024 .bf16) (i j : Fin 1024) :
    (k0_pay1 (F := Ideal) h a w (ix2 i j) : EReal) = h (ix2 i j) + ∑ k : Fin 1024, (a (ix2 i k) : EReal) * w (ix2 k j) := by
  unfold_payloads
  pointwise

theorem out_eq (x0 : Vec Ideal S1024x1024 .bf16) (x1 : Vec Ideal S1024x1024 .bf16) (x2 : Vec Ideal S1024x1024 .f32) :
    out0_3 (F := Ideal) x0 x1 x2 = k0_pay1 x2 x0 x1 := by
  frame_out

/-- The residual plus the product. -/
def result (a : Vec Ideal S65536x1024 .bf16) (w : Vec Ideal S1024x1024 .f32) (h : Vec Ideal S65536x1024 .f32) : Vec Ideal S65536x1024 .f32 :=
  fun i => ((h i : EReal) + ∑ k : Fin 1024, (a (ix2 (i 0) k) : EReal) * w (ix2 k (i 1)) : EReal)

theorem result_at (a : Vec Ideal S65536x1024 .bf16) (w : Vec Ideal S1024x1024 .f32) (h : Vec Ideal S65536x1024 .f32) (y : S65536x1024.Idx) (s : ℕ) (j : Fin 1024)
    (hs : s < 65536) (h0 : (y 0).val = s) (h1 : (y 1).val = j.val) :
    (result a w h y : EReal) = (h (ix2 ⟨s, hs⟩ j) : EReal) + ∑ k : Fin 1024, (a (ix2 ⟨s, hs⟩ k) : EReal) * w (ix2 k j) := by
  obtain ⟨y0, y1, rfl⟩ : ∃ (y0 : Fin 65536) (y1 : Fin 1024), y = ix2 y0 y1 := ⟨y 0, y 1, eq_ix2 y⟩
  obtain rfl : y0 = ⟨s, hs⟩ := Fin.ext h0
  obtain rfl : y1 = j := Fin.ext h1
  rfl

theorem final : (dats m 0 c).arrAt 3 cfg0.N
    = result (m (c, Proc.tc.devRef main_arg0)) (m (c, Proc.tc.devRef main_arg1)) (m (c, Proc.tc.devRef main_arg2)) := by
  refine (dats m 0 c).arrAt_eq_of_covers 3 _ (by decide +kernel) fun t hf y => ?_
  blk_simp
  rw [after0_3, out_eq]
  have hlt := lt_N t
  obtain ⟨i, j, rfl⟩ : ∃ (i j : Fin 1024), y = ix2 i j := ⟨y 0, y 1, eq_ix2 y⟩
  refine (pay1_ix _ _ _ i j).trans ?_
  simp only [blk0, blk1, blk2, v0]
  have e0 : (((win0_3.blk t).view.emb (ix2 i j)) 0).val = 1024 * t.val + i.val := by blk_simp [(idx t).2.2.2]; simp; omega
  have e1 : (((win0_3.blk t).view.emb (ix2 i j)) 1).val = j.val := by blk_simp [(idx t).2.2.2]
  exact (result_at _ _ _ _ _ _ (by omega) e0 e1).symm

end Cert.Kernel7Ideal.Out

namespace Cert.Reference7Ideal.Out

open Cert.Reference7Ideal Cert.Reference7Ideal.Gen Idealize.ShloMosaic Idealize.ShloMosaic.TcCoe

variable (m : (ℓ : Loc nD τ sig) → Buf (Elt Ideal) ℓ) (c : Dev nD)

theorem out_ix (a : FVec Ideal S65536x1024 .bf16) (w : FVec Ideal S1024x1024 .f32) (h : FVec Ideal S65536x1024 .f32) (s : Fin 65536) (j : Fin 1024) :
    (addf h (Host.dotGeneral dot_S65536x1024_S1024x1024_S65536x1024_1_0_0_1_n_n none (extf .f32 a bitsLt_bf16_f32) w) (ix2 s j) : EReal)
      = (h (ix2 s j) : EReal) + ∑ k : Fin 1024, (a (ix2 s k) : EReal) * w (ix2 k j) := by
  pointwise

end Cert.Reference7Ideal.Out

namespace Cert.Proof

open Idealize.ShloMosaic Idealize.ShloMosaic.TcCoe Idealize.SL.Sem

theorem frame_K7 : Cert.quiescent_Kernel7 (hKernel7 := Cert.Kernel7.Gen.facts) := fun m g _ => Cert.Kernel7.Gen.frame m g
theorem frame_KI7 : Cert.quiescent_Kernel7Ideal (hKernel7Ideal := Cert.Kernel7Ideal.Gen.facts) := fun m g _ => Cert.Kernel7Ideal.Gen.frame m g
theorem frame_R7 : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

/-- The output projection and its reference compute the same array of extended reals. -/
theorem algebraic7 : Cert.algebraic_Kernel7Ideal_Reference7Ideal (hKernel7Ideal := Cert.Kernel7Ideal.Gen.facts)
    (hReference7Ideal := Cert.Reference7Ideal.Gen.facts) := by
  intro m g m' g' hpre hargs
  refine ⟨fun c => Cert.Kernel7Ideal.Out.result (m (c, Proc.tc.devRef Cert.Kernel7Ideal.main_arg0)) (m (c, Proc.tc.devRef Cert.Kernel7Ideal.main_arg1))
    (m (c, Proc.tc.devRef Cert.Kernel7Ideal.main_arg2)), ?_, ?_⟩
  · exact (θ_run _ _ _).mono (fun r h c => ⟨(h c).1.trans (Cert.Kernel7Ideal.Out.final m c), (h c).2⟩) (Cert.Kernel7Ideal.Value.run_blocks m g)
  · refine (θ_run _ _ _).mono (fun r h c => ⟨(h c).1.trans ?_, (h c).2⟩) (Cert.Reference7Ideal.Value.run m' g')
    have h0 : m' (c, Proc.tc.devRef Cert.Reference7Ideal.main_arg0) = m (c, Proc.tc.devRef Cert.Kernel7Ideal.main_arg0) := (hargs c).1
    have h1 : m' (c, Proc.tc.devRef Cert.Reference7Ideal.main_arg1) = m (c, Proc.tc.devRef Cert.Kernel7Ideal.main_arg1) := (hargs c).2.1
    have h2 : m' (c, Proc.tc.devRef Cert.Reference7Ideal.main_arg2) = m (c, Proc.tc.devRef Cert.Kernel7Ideal.main_arg2) := (hargs c).2.2
    refine funext fun i => ?_
    obtain ⟨s, j, rfl⟩ : ∃ (s : Fin 65536) (j : Fin 1024), i = ix2 s j := ⟨i 0, i 1, eq_ix2 i⟩
    refine (Cert.Reference7Ideal.Out.out_ix (m' (c, Proc.tc.devRef Cert.Reference7Ideal.main_arg0)) (m' (c, Proc.tc.devRef Cert.Reference7Ideal.main_arg1))
      (m' (c, Proc.tc.devRef Cert.Reference7Ideal.main_arg2)) s j).trans ?_
    rw [h0, h1, h2]
    rfl

end Cert.Proof
-- ==== Proof.Proj8.lean ====
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.ProjMath
public import Idealize.ShloMosaic.Lib.Pipeline.ValueKit
public import Idealize.ShloMosaic.Lib.StableHlo.RunRead
public import Idealize.ShloMosaic.Lib.Pointwise
public import Idealize.ShloMosaic.Lib.Quiescent

@[expose] public section

set_option maxRecDepth 16384

noncomputable section

/-! A layer's residual and gated embeddings. -/

namespace Cert.Kernel8Ideal.Out

open Cert.Proj Cert.Kernel8Ideal Cert.Kernel8Ideal.Gen Idealize.ShloMosaic Idealize.ShloMosaic.TcCoe

theorem lt_N (t : Fin cfg0.N) : t.val < 64 := lt_of_lt_of_eq t.isLt (show cfg0.N = 64 from N_0)

theorem idx : ∀ t : Fin cfg0.N, win0_0.index t = ![t.val, 0] ∧ win0_1.index t = ![t.val, 0] ∧ win0_2.index t = ![0, 0] ∧ win0_3.index t = ![0, 0] ∧
    win0_4.index t = ![0, t.val, 0] ∧ win0_5.index t = ![0, 0] ∧ win0_6.index t = ![0, 0] ∧ win0_7.index t = ![t.val, 0] :=
  (by decide +kernel : ∀ t : Fin grid0.N, _)

variable (m : (ℓ : Loc nD τ sig) → Buf (Elt Ideal) ℓ) (c : Dev nD)

theorem blk0 (t : Fin cfg0.N) (i k : Fin 1024) :
    iblk m c 0 t (ix2 i k) = m (c, Proc.tc.devRef main_arg0) (ix2 ⟨1024 * t.val + i.val, by have := lt_N t; omega⟩ k) := by
  rw [← V_main_arg0 m c]
  blk_ext [iblk, (idx t).1]
theorem blk1 (t : Fin cfg0.N) (i k : Fin 1024) :
    iblk m c 1 t (ix2 i k) = m (c, Proc.tc.devRef main_arg1) (ix2 ⟨1024 * t.val + i.val, by have := lt_N t; omega⟩ k) := by
  rw [← V_main_arg1 m c]
  blk_ext [iblk, (idx t).2.1]
theorem blk2 (t : Fin cfg0.N) (k : Fin 1024) : iblk m c 2 t (ix2 0 k) = V m c main_v2 (ix2 0 k) := by
  blk_ext [iblk, (idx t).2.2.1]
theorem blk3 (t : Fin cfg0.N) (k j : Fin 1024) : iblk m c 3 t (ix2 k j) = V m c main_v0 (ix2 k j) := by
  blk_ext [iblk, (idx t).2.2.2.1]
theorem blk4 (t : Fin cfg0.N) (i : Fin 1024) (k : Fin 256) :
    iblk m c 4 t (ix3 0 i k) = m (c, Proc.tc.devRef main_arg4) (ix3 0 ⟨1024 * t.val + i.val, by have := lt_N t; omega⟩ k) := by
  rw [← V_main_arg4 m c]
  blk_ext [iblk, (idx t).2.2.2.2.1]
theorem blk5 (t : Fin cfg0.N) (k : Fin 256) (j : Fin 1024) : iblk m c 5 t (ix2 k j) = V m c main_v1 (ix2 k j) := by
  blk_ext [iblk, (idx t).2.2.2.2.2.1]
theorem blk6 (t : Fin cfg0.N) (k : Fin 1024) : iblk m c 6 t (ix2 0 k) = V m c main_v3 (ix2 0 k) := by
  blk_ext [iblk, (idx t).2.2.2.2.2.2.1]
theorem v0 (k j : Fin 1024) : (V m c main_v0 (ix2 k j) : EReal) = m (c, Proc.tc.devRef main_arg3) (ix2 k j) := by
  unfold V
  after_reads_simp
  pointwise
theorem v1 (k : Fin 256) (j : Fin 1024) : (V m c main_v1 (ix2 k j) : EReal) = m (c, Proc.tc.devRef main_arg5) (ix2 k j) := by
  unfold V
  after_reads_simp
  pointwise
theorem v2 (k : Fin 1024) : (V m c main_v2 (ix2 0 k) : EReal) = m (c, Proc.tc.devRef main_arg2) (ix1 k) := by
  unfold V
  after_reads_simp
  pointwise
theorem v3 (k : Fin 1024) : (V m c main_v3 (ix2 0 k) : EReal) = m (c, Proc.tc.devRef main_arg6) (ix1 k) := by
  unfold V
  after_reads_simp
  pointwise

theorem k0_pay1_ix (h y : Vec Ideal S1024x1024 .f32) (g : Vec Ideal S1x1024 .f32) (wg : Vec Ideal S1024x1024 .bf16) (p : Vec Ideal S1x1024x256 .f32)
    (wp : Vec Ideal S256x1024 .bf16) (i j : Fin 1024) :
    (k0_pay1 (F := Ideal) h y g wg p wp (ix2 i j) : EReal)
      = gated (fun k => (h (ix2 i k) : EReal) + y (ix2 i k)) (fun k => g (ix2 0 k)) (fun k j => wg (ix2 k j)) (fun k => p (ix3 0 i k)) (fun k j => wp (ix2 k j)) j := by
  unfold_payloads
  unfold gated proj nrm
  pointwise

/-- The gated row of a memory, at row `s`. -/
def grow (h y : Vec Ideal S65536x1024 .f32) (g : Vec Ideal S1024 .f32) (wg : Vec Ideal S1024x1024 .f32) (p : Vec Ideal S4x65536x256 .f32)
    (wp : Vec Ideal S256x1024 .f32) (s : Fin 65536) (j : Fin 1024) : EReal :=
  gated (fun k => (h (ix2 s k) : EReal) + y (ix2 s k)) (fun k => g (ix1 k)) (fun k j => wg (ix2 k j)) (fun k => p (ix3 0 s k)) (fun k j => wp (ix2 k j)) j

theorem grow_ix (t : Fin cfg0.N) (i j : Fin 1024) :
    (k0_pay1 (F := Ideal) (iblk m c 0 t) (iblk m c 1 t) (iblk m c 2 t) (iblk m c 3 t) (iblk m c 4 t) (iblk m c 5 t) (ix2 i j) : EReal)
      = grow (m (c, Proc.tc.devRef main_arg0)) (m (c, Proc.tc.devRef main_arg1)) (m (c, Proc.tc.devRef main_arg2)) (m (c, Proc.tc.devRef main_arg3))
          (m (c, Proc.tc.devRef main_arg4)) (m (c, Proc.tc.devRef main_arg5)) ⟨1024 * t.val + i.val, by have := lt_N t; omega⟩ j := by
  rw [k0_pay1_ix]
  unfold grow
  simp only [blk0, blk1, blk2, blk3, blk4, blk5]
  have e0 : (fun k j : Fin 1024 => (V m c main_v0 (ix2 k j) : EReal)) = fun k j => m (c, Proc.tc.devRef main_arg3) (ix2 k j) :=
    funext fun k => funext fun j => v0 m c k j
  have e1 : (fun (k : Fin 256) (j : Fin 1024) => (V m c main_v1 (ix2 k j) : EReal)) = fun k j => m (c, Proc.tc.devRef main_arg5) (ix2 k j) :=
    funext fun k => funext fun j => v1 m c k j
  have e2 : (fun k : Fin 1024 => (V m c main_v2 (ix2 0 k) : EReal)) = fun k => m (c, Proc.tc.devRef main_arg2) (ix1 k) := funext fun k => v2 m c k
  exact (congrArg (fun w => gated _ _ w _ _ j) e0).trans ((congrArg (fun w => gated _ _ _ _ w j) e1).trans (congrArg (fun w => gated _ w _ _ _ j) e2))

theorem out_eq (x0 x1 : Vec Ideal S1024x1024 .f32) (x2 : Vec Ideal S1x1024 .f32) (x3 : Vec Ideal S1024x1024 .bf16) (x4 : Vec Ideal S1x1024x256 .f32)
    (x5 : Vec Ideal S256x1024 .bf16) (x6 : Vec Ideal S1x1024 .f32) :
    out0_7 (F := Ideal) x0 x1 x2 x3 x4 x5 x6 = k0_pay1 x0 x1 x2 x3 x4 x5 := by
  frame_out

/-- The rows with the gated embeddings added. -/
def result (h y : Vec Ideal S65536x1024 .f32) (g : Vec Ideal S1024 .f32) (wg : Vec Ideal S1024x1024 .f32) (p : Vec Ideal S4x65536x256 .f32)
    (wp : Vec Ideal S256x1024 .f32) (fg : Vec Ideal S1024 .f32) : Vec Ideal S65536x1024 .f32 :=
  fun i => (grow h y g wg p wp (i 0) (i 1) : EReal)

theorem result_at (h y : Vec Ideal S65536x1024 .f32) (g : Vec Ideal S1024 .f32) (wg : Vec Ideal S1024x1024 .f32) (p : Vec Ideal S4x65536x256 .f32)
    (wp : Vec Ideal S256x1024 .f32) (fg : Vec Ideal S1024 .f32) (z : S65536x1024.Idx) (s : ℕ) (j : Fin 1024)
    (hs : s < 65536) (h0 : (z 0).val = s) (h1 : (z 1).val = j.val) :
    (result h y g wg p wp fg z : EReal) = grow h y g wg p wp ⟨s, hs⟩ j := by
  obtain ⟨y0, y1, rfl⟩ : ∃ (y0 : Fin 65536) (y1 : Fin 1024), z = ix2 y0 y1 := ⟨z 0, z 1, eq_ix2 z⟩
  obtain rfl : y0 = ⟨s, hs⟩ := Fin.ext h0
  obtain rfl : y1 = j := Fin.ext h1
  rfl

theorem final : (dats m 0 c).arrAt 7 cfg0.N
    = result (m (c, Proc.tc.devRef main_arg0)) (m (c, Proc.tc.devRef main_arg1)) (m (c, Proc.tc.devRef main_arg2)) (m (c, Proc.tc.devRef main_arg3))
        (m (c, Proc.tc.devRef main_arg4)) (m (c, Proc.tc.devRef main_arg5)) (m (c, Proc.tc.devRef main_arg6)) := by
  refine (dats m 0 c).arrAt_eq_of_covers 7 _ (by decide +kernel) fun t hf y => ?_
  blk_simp
  rw [after0_7, out_eq]
  have hlt := lt_N t
  obtain ⟨i, j, rfl⟩ : ∃ (i j : Fin 1024), y = ix2 i j := ⟨y 0, y 1, eq_ix2 y⟩
  refine (grow_ix m c t i j).trans ?_
  have e0 : (((win0_7.blk t).view.emb (ix2 i j)) 0).val = 1024 * t.val + i.val := by blk_simp [(idx t).2.2.2.2.2.2.2]; simp; omega
  have e1 : (((win0_7.blk t).view.emb (ix2 i j)) 1).val = j.val := by blk_simp [(idx t).2.2.2.2.2.2.2]
  exact (result_at _ _ _ _ _ _ _ _ _ _ (by omega) e0 e1).symm

end Cert.Kernel8Ideal.Out

namespace Cert.Reference8Ideal.Out

open Cert.Proj Cert.Reference8Ideal Cert.Reference8Ideal.Gen Idealize.ShloMosaic Idealize.ShloMosaic.TcCoe

/-- The normed rows of an array. -/
def normed (x : FVec Ideal S65536x1024 .f32) (g : FVec Ideal S1024 .f32) : FVec Ideal S65536x1024 .f32 := mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))

theorem normed_ix (x : FVec Ideal S65536x1024 .f32) (g : FVec Ideal S1024 .f32) (s : Fin 65536) (j : Fin 1024) :
    (normed x g (ix2 s j) : EReal) = nrm (fun k => x (ix2 s k)) (fun k => g (ix1 k)) j := by
  unfold normed nrm
  pointwise

/-- The rows with the gated embeddings added, as the reference computes them. -/
def rows (x : FVec Ideal S65536x1024 .f32) (g : FVec Ideal S1024 .f32) (wg : FVec Ideal S1024x1024 .f32) (p : FVec Ideal S4x65536x256 .f32)
    (wp : FVec Ideal S256x1024 .f32) : FVec Ideal S65536x1024 .f32 :=
  addf x (mulf (Host.divf (broadcastInDim S65536x1024 ![] bcast_S_S65536x1024 (constant S_ .f32 0x3F800000#32)) (addf (broadcastInDim S65536x1024 ![] bcast_S_S65536x1024 (constant S_ .f32 0x3F800000#32)) (Host.exp (Host.negf (Host.dotGeneral dot_S65536x1024_S1024x1024_S65536x1024_1_0_0_1_n_n none (normed x g) wg)))))
    (Host.dotGeneral dot_S65536x256_S256x1024_S65536x1024_1_0_0_1_n_n none (shapeCast _ (extractStridedSlice S1x65536x256 ![0, 0, 0] p slices_S4x65536x256_S1x65536x256_0_0_0) shapeCasts_S1x65536x256_S65536x256) wp))

theorem rows_ix (x : FVec Ideal S65536x1024 .f32) (g : FVec Ideal S1024 .f32) (wg : FVec Ideal S1024x1024 .f32) (p : FVec Ideal S4x65536x256 .f32)
    (wp : FVec Ideal S256x1024 .f32) (s : Fin 65536) (j : Fin 1024) :
    (rows x g wg p wp (ix2 s j) : EReal)
      = gated (fun k => x (ix2 s k)) (fun k => g (ix1 k)) (fun k j => wg (ix2 k j)) (fun k => p (ix3 0 s k)) (fun k j => wp (ix2 k j)) j := by
  unfold rows gated proj
  simp only [← normed_ix]
  generalize normed x g = N
  unfold Ideal.logistic
  pointwise

theorem out_ix (h y : FVec Ideal S65536x1024 .f32) (g : FVec Ideal S1024 .f32) (wg : FVec Ideal S1024x1024 .f32) (p : FVec Ideal S4x65536x256 .f32)
    (wp : FVec Ideal S256x1024 .f32) (fg : FVec Ideal S1024 .f32) (s : Fin 65536) (j : Fin 1024) :
    (rows (addf h y) g wg p wp (ix2 s j) : EReal) = Cert.Kernel8Ideal.Out.result h y g wg p wp fg (ix2 s j) := by
  exact rows_ix _ _ _ _ _ _ _

end Cert.Reference8Ideal.Out

namespace Cert.Proof

open Idealize.ShloMosaic Idealize.ShloMosaic.TcCoe Idealize.SL.Sem

theorem frame_K8 : Cert.quiescent_Kernel8 (hKernel8 := Cert.Kernel8.Gen.facts) := fun m g _ => Cert.Kernel8.Gen.frame m g
theorem frame_KI8 : Cert.quiescent_Kernel8Ideal (hKernel8Ideal := Cert.Kernel8Ideal.Gen.facts) := fun m g _ => Cert.Kernel8Ideal.Gen.frame m g
theorem frame_R8 : Cert.quiescent_Reference8Ideal (hReference8Ideal := Cert.Reference8Ideal.Gen.facts) := fun m g _ =>
  (θ_run _ _ _).mono (fun r h => ⟨fun c => (h c).2, sem_eq_zero_of_no_sems (by decide) r.2⟩) (Cert.Reference8Ideal.Value.run m g)

/-- The gated embeddings and their reference compute the same array of extended reals. -/
theorem algebraic8 : Cert.algebraic_Kernel8Ideal_Reference8Ideal (hKernel8Ideal := Cert.Kernel8Ideal.Gen.facts)
    (hReference8Ideal := Cert.Reference8Ideal.Gen.facts) := by
  intro m g m' g' hpre hargs
  refine ⟨fun c => Cert.Kernel8Ideal.Out.result (m (c, Proc.tc.devRef Cert.Kernel8Ideal.main_arg0)) (m (c, Proc.tc.devRef Cert.Kernel8Ideal.main_arg1))
    (m (c, Proc.tc.devRef Cert.Kernel8Ideal.main_arg2)) (m (c, Proc.tc.devRef Cert.Kernel8Ideal.main_arg3)) (m (c, Proc.tc.devRef Cert.Kernel8Ideal.main_arg4))
    (m (c, Proc.tc.devRef Cert.Kernel8Ideal.main_arg5)) (m (c, Proc.tc.devRef Cert.Kernel8Ideal.main_arg6)), ?_, ?_⟩
  · exact (θ_run _ _ _).mono (fun r h c => ⟨(h c).1.trans (Cert.Kernel8Ideal.Out.final m c), (h c).2⟩) (Cert.Kernel8Ideal.Value.run_blocks m g)
  · refine (θ_run _ _ _).mono (fun r h c => ⟨(h c).1.trans ?_, (h c).2⟩) (Cert.Reference8Ideal.Value.run m' g')
    have h0 : m' (c, Proc.tc.devRef Cert.Reference8Ideal.main_arg0) = m (c, Proc.tc.devRef Cert.Kernel8Ideal.main_arg0) := (hargs c).1
    have h1 : m' (c, Proc.tc.devRef Cert.Reference8Ideal.main_arg1) = m (c, Proc.tc.devRef Cert.Kernel8Ideal.main_arg1) := (hargs c).2.1
    have h2 : m' (c, Proc.tc.devRef Cert.Reference8Ideal.main_arg2) = m (c, Proc.tc.devRef Cert.Kernel8Ideal.main_arg2) := (hargs c).2.2.1
    have h3 : m' (c, Proc.tc.devRef Cert.Reference8Ideal.main_arg3) = m (c, Proc.tc.devRef Cert.Kernel8Ideal.main_arg3) := (hargs c).2.2.2.1
    have h4 : m' (c, Proc.tc.devRef Cert.Reference8Ideal.main_arg4) = m (c, Proc.tc.devRef Cert.Kernel8Ideal.main_arg4) := (hargs c).2.2.2.2.1
    have h5 : m' (c, Proc.tc.devRef Cert.Reference8Ideal.main_arg5) = m (c, Proc.tc.devRef Cert.Kernel8Ideal.main_arg5) := (hargs c).2.2.2.2.2.1
    have h6 : m' (c, Proc.tc.devRef Cert.Reference8Ideal.main_arg6) = m (c, Proc.tc.devRef Cert.Kernel8Ideal.main_arg6) := (hargs c).2.2.2.2.2.2
    refine funext fun i => ?_
    obtain ⟨s, j, rfl⟩ : ∃ (s : Fin 65536) (j : Fin 1024), i = ix2 s j := ⟨i 0, i 1, eq_ix2 i⟩
    refine (Cert.Reference8Ideal.Out.out_ix (m' (c, Proc.tc.devRef Cert.Reference8Ideal.main_arg0)) (m' (c, Proc.tc.devRef Cert.Reference8Ideal.main_arg1))
      (m' (c, Proc.tc.devRef Cert.Reference8Ideal.main_arg2)) (m' (c, Proc.tc.devRef Cert.Reference8Ideal.main_arg3))
      (m' (c, Proc.tc.devRef Cert.Reference8Ideal.main_arg4)) (m' (c, Proc.tc.devRef Cert.Reference8Ideal.main_arg5))
      (m' (c, Proc.tc.devRef Cert.Reference8Ideal.main_arg6)) s j).trans ?_
    rw [h0, h1, h2, h3, h4, h5, h6]

end Cert.Proof
-- ==== Proof.Proj9.lean ====
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.ProjMath
public import Idealize.ShloMosaic.Lib.Pipeline.ValueKit
public import Idealize.ShloMosaic.Lib.StableHlo.RunRead
public import Idealize.ShloMosaic.Lib.Pointwise
public import Idealize.ShloMosaic.Lib.Quiescent

@[expose] public section

set_option maxRecDepth 16384

noncomputable section

/-! The last layer's residual and gated embeddings with the final norm: the layer's result. -/

namespace Cert.Kernel9Ideal.Out

open Cert.Proj Cert.Kernel9Ideal Cert.Kernel9Ideal.Gen Idealize.ShloMosaic Idealize.ShloMosaic.TcCoe

theorem lt_N (t : Fin cfg0.N) : t.val < 64 := lt_of_lt_of_eq t.isLt (show cfg0.N = 64 from N_0)

theorem idx : ∀ t : Fin cfg0.N, win0_0.index t = ![t.val, 0] ∧ win0_1.index t = ![t.val, 0] ∧ win0_2.index t = ![0, 0] ∧ win0_3.index t = ![0, 0] ∧
    win0_4.index t = ![3, t.val, 0] ∧ win0_5.index t = ![0, 0] ∧ win0_6.index t = ![0, 0] ∧ win0_7.index t = ![t.val, 0] :=
  (by decide +kernel : ∀ t : Fin grid0.N, _)

variable (m : (ℓ : Loc nD τ sig) → Buf (Elt Ideal) ℓ) (c : Dev nD)

theorem blk0 (t : Fin cfg0.N) (i k : Fin 1024) :
    iblk m c 0 t (ix2 i k) = m (c, Proc.tc.devRef main_arg0) (ix2 ⟨1024 * t.val + i.val, by have := lt_N t; omega⟩ k) := by
  rw [← V_main_arg0 m c]
  blk_ext [iblk, (idx t).1]
theorem blk1 (t : Fin cfg0.N) (i k : Fin 1024) :
    iblk m c 1 t (ix2 i k) = m (c, Proc.tc.devRef main_arg1) (ix2 ⟨1024 * t.val + i.val, by have := lt_N t; omega⟩ k) := by
  rw [← V_main_arg1 m c]
  blk_ext [iblk, (idx t).2.1]
theorem blk2 (t : Fin cfg0.N) (k : Fin 1024) : iblk m c 2 t (ix2 0 k) = V m c main_v2 (ix2 0 k) := by
  blk_ext [iblk, (idx t).2.2.1]
theorem blk3 (t : Fin cfg0.N) (k j : Fin 1024) : iblk m c 3 t (ix2 k j) = V m c main_v0 (ix2 k j) := by
  blk_ext [iblk, (idx t).2.2.2.1]
theorem blk4 (t : Fin cfg0.N) (i : Fin 1024) (k : Fin 256) :
    iblk m c 4 t (ix3 0 i k) = m (c, Proc.tc.devRef main_arg4) (ix3 3 ⟨1024 * t.val + i.val, by have := lt_N t; omega⟩ k) := by
  rw [← V_main_arg4 m c]
  blk_ext [iblk, (idx t).2.2.2.2.1]
theorem blk5 (t : Fin cfg0.N) (k : Fin 256) (j : Fin 1024) : iblk m c 5 t (ix2 k j) = V m c main_v1 (ix2 k j) := by
  blk_ext [iblk, (idx t).2.2.2.2.2.1]
theorem blk6 (t : Fin cfg0.N) (k : Fin 1024) : iblk m c 6 t (ix2 0 k) = V m c main_v3 (ix2 0 k) := by
  blk_ext [iblk, (idx t).2.2.2.2.2.2.1]
theorem v0 (k j : Fin 1024) : (V m c main_v0 (ix2 k j) : EReal) = m (c, Proc.tc.devRef main_arg3) (ix2 k j) := by
  unfold V
  after_reads_simp
  pointwise
theorem v1 (k : Fin 256) (j : Fin 1024) : (V m c main_v1 (ix2 k j) : EReal) = m (c, Proc.tc.devRef main_arg5) (ix2 k j) := by
  unfold V
  after_reads_simp
  pointwise
theorem v2 (k : Fin 1024) : (V m c main_v2 (ix2 0 k) : EReal) = m (c, Proc.tc.devRef main_arg2) (ix1 k) := by
  unfold V
  after_reads_simp
  pointwise
theorem v3 (k : Fin 1024) : (V m c main_v3 (ix2 0 k) : EReal) = m (c, Proc.tc.devRef main_arg6) (ix1 k) := by
  unfold V
  after_reads_simp
  pointwise

theorem k0_pay2_ix (h y : Vec Ideal S1024x1024 .f32) (g : Vec Ideal S1x1024 .f32) (wg : Vec Ideal S1024x1024 .bf16) (p : Vec Ideal S1x1024x256 .f32)
    (wp : Vec Ideal S256x1024 .bf16) (i j : Fin 1024) :
    (k0_pay2 (F := Ideal) h y g wg p wp (ix2 i j) : EReal)
      = gated (fun k => (h (ix2 i k) : EReal) + y (ix2 i k)) (fun k => g (ix2 0 k)) (fun k j => wg (ix2 k j)) (fun k => p (ix3 0 i k)) (fun k j => wp (ix2 k j)) j := by
  unfold_payloads
  unfold gated proj nrm
  pointwise
theorem pay1_ix (x : FVec Ideal S1024x1024 .f32) (g : FVec Ideal S1x1024 .f32) (v : FVec Ideal S1024x1 .f32) (i j : Fin 1024) :
    (k0_pay1 (F := Ideal) x g v (ix2 i j) : EReal)
      = (x (ix2 i j) : EReal) * Ideal.rsqrt ((v (ix2 i 0) : EReal) + Ideal.ofBits FTy.f32 897988541#32) * g (ix2 0 j) := by
  unfold_payloads
  pointwise
theorem pay3_ix (g : Vec Ideal S1x1024 .f32) (j : Fin 1024) : (k0_pay3 (F := Ideal) g (ix2 0 j) : EReal) = g (ix2 0 j) := by
  unfold_payloads
  pointwise
theorem mean_ix (x : FVec Ideal S1024x1024 .f32) (i : Fin 1024) :
    (divf (shapeCast S1024x1 (multiReduction .add [1] S1024 (mulf x x) 0x00000000#32 reduces_S1024x1024_S1024 (.inl rfl) rfl) shapeCasts_S1024_S1024x1) (broadcast S1024x1 (Scalar.ofBits .f32 0x44800000#32)) (ix2 i 0) : EReal)
      = Ideal.div (∑ k : Fin 1024, (x (ix2 i k) : EReal) * x (ix2 i k)) (Ideal.ofBits FTy.f32 1149239296#32) := by
  pointwise

/-- The gated row of a memory, at row `s`. -/
def grow (h y : Vec Ideal S65536x1024 .f32) (g : Vec Ideal S1024 .f32) (wg : Vec Ideal S1024x1024 .f32) (p : Vec Ideal S4x65536x256 .f32)
    (wp : Vec Ideal S256x1024 .f32) (s : Fin 65536) (j : Fin 1024) : EReal :=
  gated (fun k => (h (ix2 s k) : EReal) + y (ix2 s k)) (fun k => g (ix1 k)) (fun k j => wg (ix2 k j)) (fun k => p (ix3 3 s k)) (fun k j => wp (ix2 k j)) j

theorem grow_ix (t : Fin cfg0.N) (i j : Fin 1024) :
    (k0_pay2 (F := Ideal) (iblk m c 0 t) (iblk m c 1 t) (iblk m c 2 t) (iblk m c 3 t) (iblk m c 4 t) (iblk m c 5 t) (ix2 i j) : EReal)
      = grow (m (c, Proc.tc.devRef main_arg0)) (m (c, Proc.tc.devRef main_arg1)) (m (c, Proc.tc.devRef main_arg2)) (m (c, Proc.tc.devRef main_arg3))
          (m (c, Proc.tc.devRef main_arg4)) (m (c, Proc.tc.devRef main_arg5)) ⟨1024 * t.val + i.val, by have := lt_N t; omega⟩ j := by
  rw [k0_pay2_ix]
  unfold grow
  simp only [blk0, blk1, blk2, blk3, blk4, blk5]
  have e0 : (fun k j : Fin 1024 => (V m c main_v0 (ix2 k j) : EReal)) = fun k j => m (c, Proc.tc.devRef main_arg3) (ix2 k j) :=
    funext fun k => funext fun j => v0 m c k j
  have e1 : (fun (k : Fin 256) (j : Fin 1024) => (V m c main_v1 (ix2 k j) : EReal)) = fun k j => m (c, Proc.tc.devRef main_arg5) (ix2 k j) :=
    funext fun k => funext fun j => v1 m c k j
  have e2 : (fun k : Fin 1024 => (V m c main_v2 (ix2 0 k) : EReal)) = fun k => m (c, Proc.tc.devRef main_arg2) (ix1 k) := funext fun k => v2 m c k
  exact (congrArg (fun w => gated _ _ w _ _ j) e0).trans ((congrArg (fun w => gated _ _ _ _ w j) e1).trans (congrArg (fun w => gated _ w _ _ _ j) e2))

/-- What a grid point writes back. -/
theorem block_ix (t : Fin cfg0.N) (i j : Fin 1024) :
    (k0_pay1 (F := Ideal) (k0_pay2 (iblk m c 0 t) (iblk m c 1 t) (iblk m c 2 t) (iblk m c 3 t) (iblk m c 4 t) (iblk m c 5 t)) (k0_pay3 (iblk m c 6 t))
        (k0_pay4 (iblk m c 0 t) (iblk m c 1 t) (iblk m c 2 t) (iblk m c 3 t) (iblk m c 4 t) (iblk m c 5 t)) (ix2 i j) : EReal)
      = nrm (grow (m (c, Proc.tc.devRef main_arg0)) (m (c, Proc.tc.devRef main_arg1)) (m (c, Proc.tc.devRef main_arg2)) (m (c, Proc.tc.devRef main_arg3))
          (m (c, Proc.tc.devRef main_arg4)) (m (c, Proc.tc.devRef main_arg5)) ⟨1024 * t.val + i.val, by have := lt_N t; omega⟩)
          (fun k => m (c, Proc.tc.devRef main_arg6) (ix1 k)) j := by
  rw [pay1_ix, pay3_ix, blk6]
  unfold k0_pay4
  dsimp only
  rw [mean_ix]
  simp only [grow_ix]
  exact congrArg (fun x => _ * x) (v3 m c j)

theorem out_eq (x0 x1 : Vec Ideal S1024x1024 .f32) (x2 : Vec Ideal S1x1024 .f32) (x3 : Vec Ideal S1024x1024 .bf16) (x4 : Vec Ideal S1x1024x256 .f32)
    (x5 : Vec Ideal S256x1024 .bf16) (x6 : Vec Ideal S1x1024 .f32) :
    out0_7 (F := Ideal) x0 x1 x2 x3 x4 x5 x6 = k0_pay1 (k0_pay2 x0 x1 x2 x3 x4 x5) (k0_pay3 x6) (k0_pay4 x0 x1 x2 x3 x4 x5) := by
  frame_out

/-- The normed rows of the last layer. -/
def result (h y : Vec Ideal S65536x1024 .f32) (g : Vec Ideal S1024 .f32) (wg : Vec Ideal S1024x1024 .f32) (p : Vec Ideal S4x65536x256 .f32)
    (wp : Vec Ideal S256x1024 .f32) (fg : Vec Ideal S1024 .f32) : Vec Ideal S65536x1024 .f32 :=
  fun i => (nrm (grow h y g wg p wp (i 0)) (fun k => fg (ix1 k)) (i 1) : EReal)

theorem result_at (h y : Vec Ideal S65536x1024 .f32) (g : Vec Ideal S1024 .f32) (wg : Vec Ideal S1024x1024 .f32) (p : Vec Ideal S4x65536x256 .f32)
    (wp : Vec Ideal S256x1024 .f32) (fg : Vec Ideal S1024 .f32) (z : S65536x1024.Idx) (s : ℕ) (j : Fin 1024)
    (hs : s < 65536) (h0 : (z 0).val = s) (h1 : (z 1).val = j.val) :
    (result h y g wg p wp fg z : EReal) = nrm (grow h y g wg p wp ⟨s, hs⟩) (fun k => fg (ix1 k)) j := by
  obtain ⟨y0, y1, rfl⟩ : ∃ (y0 : Fin 65536) (y1 : Fin 1024), z = ix2 y0 y1 := ⟨z 0, z 1, eq_ix2 z⟩
  obtain rfl : y0 = ⟨s, hs⟩ := Fin.ext h0
  obtain rfl : y1 = j := Fin.ext h1
  rfl

theorem final : (dats m 0 c).arrAt 7 cfg0.N
    = result (m (c, Proc.tc.devRef main_arg0)) (m (c, Proc.tc.devRef main_arg1)) (m (c, Proc.tc.devRef main_arg2)) (m (c, Proc.tc.devRef main_arg3))
        (m (c, Proc.tc.devRef main_arg4)) (m (c, Proc.tc.devRef main_arg5)) (m (c, Proc.tc.devRef main_arg6)) := by
  refine (dats m 0 c).arrAt_eq_of_covers 7 _ (by decide +kernel) fun t hf y => ?_
  blk_simp
  rw [after0_7, out_eq]
  have hlt := lt_N t
  obtain ⟨i, j, rfl⟩ : ∃ (i j : Fin 1024), y = ix2 i j := ⟨y 0, y 1, eq_ix2 y⟩
  refine (block_ix m c t i j).trans ?_
  have e0 : (((win0_7.blk t).view.emb (ix2 i j)) 0).val = 1024 * t.val + i.val := by blk_simp [(idx t).2.2.2.2.2.2.2]; simp; omega
  have e1 : (((win0_7.blk t).view.emb (ix2 i j)) 1).val = j.val := by blk_simp [(idx t).2.2.2.2.2.2.2]
  exact (result_at _ _ _ _ _ _ _ _ _ _ (by omega) e0 e1).symm

end Cert.Kernel9Ideal.Out

namespace Cert.Reference9Ideal.Out

open Cert.Proj Cert.Reference9Ideal Cert.Reference9Ideal.Gen Idealize.ShloMosaic Idealize.ShloMosaic.TcCoe

/-- The normed rows of an array. -/
def normed (x : FVec Ideal S65536x1024 .f32) (g : FVec Ideal S1024 .f32) : FVec Ideal S65536x1024 .f32 := mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 g))

theorem normed_ix (x : FVec Ideal S65536x1024 .f32) (g : FVec Ideal S1024 .f32) (s : Fin 65536) (j : Fin 1024) :
    (normed x g (ix2 s j) : EReal) = nrm (fun k => x (ix2 s k)) (fun k => g (ix1 k)) j := by
  unfold normed nrm
  pointwise

/-- The rows with the gated embeddings added, as the reference computes them. -/
def rows (x : FVec Ideal S65536x1024 .f32) (g : FVec Ideal S1024 .f32) (wg : FVec Ideal S1024x1024 .f32) (p : FVec Ideal S4x65536x256 .f32)
    (wp : FVec Ideal S256x1024 .f32) : FVec Ideal S65536x1024 .f32 :=
  addf x (mulf (Host.divf (broadcastInDim S65536x1024 ![] bcast_S_S65536x1024 (constant S_ .f32 0x3F800000#32)) (addf (broadcastInDim S65536x1024 ![] bcast_S_S65536x1024 (constant S_ .f32 0x3F800000#32)) (Host.exp (Host.negf (Host.dotGeneral dot_S65536x1024_S1024x1024_S65536x1024_1_0_0_1_n_n none (normed x g) wg)))))
    (Host.dotGeneral dot_S65536x256_S256x1024_S65536x1024_1_0_0_1_n_n none (shapeCast _ (extractStridedSlice S1x65536x256 ![3, 0, 0] p slices_S4x65536x256_S1x65536x256_3_0_0) shapeCasts_S1x65536x256_S65536x256) wp))

theorem rows_ix (x : FVec Ideal S65536x1024 .f32) (g : FVec Ideal S1024 .f32) (wg : FVec Ideal S1024x1024 .f32) (p : FVec Ideal S4x65536x256 .f32)
    (wp : FVec Ideal S256x1024 .f32) (s : Fin 65536) (j : Fin 1024) :
    (rows x g wg p wp (ix2 s j) : EReal)
      = gated (fun k => x (ix2 s k)) (fun k => g (ix1 k)) (fun k j => wg (ix2 k j)) (fun k => p (ix3 3 s k)) (fun k j => wp (ix2 k j)) j := by
  unfold rows gated proj
  simp only [← normed_ix]
  generalize normed x g = N
  unfold Ideal.logistic
  pointwise

theorem out_ix (h y : FVec Ideal S65536x1024 .f32) (g : FVec Ideal S1024 .f32) (wg : FVec Ideal S1024x1024 .f32) (p : FVec Ideal S4x65536x256 .f32)
    (wp : FVec Ideal S256x1024 .f32) (fg : FVec Ideal S1024 .f32) (s : Fin 65536) (j : Fin 1024) :
    (normed (rows (addf h y) g wg p wp) fg (ix2 s j) : EReal) = Cert.Kernel9Ideal.Out.result h y g wg p wp fg (ix2 s j) := by
  refine (normed_ix _ _ _ _).trans ?_
  exact congrArg (fun x => nrm x _ j) (funext fun k => rows_ix _ _ _ _ _ _ _)

end Cert.Reference9Ideal.Out

namespace Cert.Proof

open Idealize.ShloMosaic Idealize.ShloMosaic.TcCoe Idealize.SL.Sem

theorem frame_K9 : Cert.quiescent_Kernel9 (hKernel9 := Cert.Kernel9.Gen.facts) := fun m g _ => Cert.Kernel9.Gen.frame m g
theorem frame_KI9 : Cert.quiescent_Kernel9Ideal (hKernel9Ideal := Cert.Kernel9Ideal.Gen.facts) := fun m g _ => Cert.Kernel9Ideal.Gen.frame m g
theorem frame_R9 : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run m g)

/-- The gated embeddings and their reference compute the same array of extended reals. -/
theorem algebraic9 : Cert.algebraic_Kernel9Ideal_Reference9Ideal (hKernel9Ideal := Cert.Kernel9Ideal.Gen.facts)
    (hReference9Ideal := Cert.Reference9Ideal.Gen.facts) := by
  intro m g m' g' hpre hargs
  refine ⟨fun c => Cert.Kernel9Ideal.Out.result (m (c, Proc.tc.devRef Cert.Kernel9Ideal.main_arg0)) (m (c, Proc.tc.devRef Cert.Kernel9Ideal.main_arg1))
    (m (c, Proc.tc.devRef Cert.Kernel9Ideal.main_arg2)) (m (c, Proc.tc.devRef Cert.Kernel9Ideal.main_arg3)) (m (c, Proc.tc.devRef Cert.Kernel9Ideal.main_arg4))
    (m (c, Proc.tc.devRef Cert.Kernel9Ideal.main_arg5)) (m (c, Proc.tc.devRef Cert.Kernel9Ideal.main_arg6)), ?_, ?_⟩
  · exact (θ_run _ _ _).mono (fun r h c => ⟨(h c).1.trans (Cert.Kernel9Ideal.Out.final m c), (h c).2⟩) (Cert.Kernel9Ideal.Value.run_blocks m g)
  · refine (θ_run _ _ _).mono (fun r h c => ⟨(h c).1.trans ?_, (h c).2⟩) (Cert.Reference9Ideal.Value.run m' g')
    have h0 : m' (c, Proc.tc.devRef Cert.Reference9Ideal.main_arg0) = m (c, Proc.tc.devRef Cert.Kernel9Ideal.main_arg0) := (hargs c).1
    have h1 : m' (c, Proc.tc.devRef Cert.Reference9Ideal.main_arg1) = m (c, Proc.tc.devRef Cert.Kernel9Ideal.main_arg1) := (hargs c).2.1
    have h2 : m' (c, Proc.tc.devRef Cert.Reference9Ideal.main_arg2) = m (c, Proc.tc.devRef Cert.Kernel9Ideal.main_arg2) := (hargs c).2.2.1
    have h3 : m' (c, Proc.tc.devRef Cert.Reference9Ideal.main_arg3) = m (c, Proc.tc.devRef Cert.Kernel9Ideal.main_arg3) := (hargs c).2.2.2.1
    have h4 : m' (c, Proc.tc.devRef Cert.Reference9Ideal.main_arg4) = m (c, Proc.tc.devRef Cert.Kernel9Ideal.main_arg4) := (hargs c).2.2.2.2.1
    have h5 : m' (c, Proc.tc.devRef Cert.Reference9Ideal.main_arg5) = m (c, Proc.tc.devRef Cert.Kernel9Ideal.main_arg5) := (hargs c).2.2.2.2.2.1
    have h6 : m' (c, Proc.tc.devRef Cert.Reference9Ideal.main_arg6) = m (c, Proc.tc.devRef Cert.Kernel9Ideal.main_arg6) := (hargs c).2.2.2.2.2.2
    refine funext fun i => ?_
    obtain ⟨s, j, rfl⟩ : ∃ (s : Fin 65536) (j : Fin 1024), i = ix2 s j := ⟨i 0, i 1, eq_ix2 i⟩
    refine (Cert.Reference9Ideal.Out.out_ix (m' (c, Proc.tc.devRef Cert.Reference9Ideal.main_arg0)) (m' (c, Proc.tc.devRef Cert.Reference9Ideal.main_arg1))
      (m' (c, Proc.tc.devRef Cert.Reference9Ideal.main_arg2)) (m' (c, Proc.tc.devRef Cert.Reference9Ideal.main_arg3))
      (m' (c, Proc.tc.devRef Cert.Reference9Ideal.main_arg4)) (m' (c, Proc.tc.devRef Cert.Reference9Ideal.main_arg5))
      (m' (c, Proc.tc.devRef Cert.Reference9Ideal.main_arg6)) s j).trans ?_
    rw [h0, h1, h2, h3, h4, h5, h6]

end Cert.Proof
-- ==== Proof.FoxRun.lean ====
module

public import proofs.«01_k».proof.Proof.Gen.Kernel12Ideal.Frame.Runs
public import Idealize.ShloMosaic.Lib.Claim

/-! The run of the attention core's body and its pipeline, point by point: the body's stores as pieces, what the
result's block holds after each point, and the frame.  The body's first loop goes by its generated invariant; the
second runs no trip. -/

@[expose] public section

set_option maxRecDepth 16384

noncomputable section

namespace Cert.FoxI

open Cert.Kernel12Ideal Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option warn.classDefReducibility false in
/-- The first counted loop by its generated invariant, at the two words the loop's region passes along without
    using them. -/
@[sl_loop] def loopRun (𝒱 : Variants) (c : Dev nD) (bd : Option 𝒱.V) (E : Set ℕ) (i : grid0.Coords) (arg3 : Memref sig .tc .vmem S1x2048x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x1x2048x2 .f32) (harg7 : arg7.IsWhole) (arg8 : Memref sig .tc .vmem S1x2048x128 .bf16) (harg8 : arg8.IsWhole) (arg9 : Memref sig .tc .vmem S4x2x512x128 .f32) (harg9 : arg9.IsWhole) (arg10 : Memref sig .tc .vmem S4x2x512x128 .f32) (harg10 : arg10.IsWhole) (arg11 : Memref sig .tc .vmem S4x2x512x512 .f32) (harg11 : arg11.IsWhole) (v2 : IVec S1x128 1) (v3 : IVec S1x128 1) (v13 : FVec F S512x128 .bf16) (v16 : FVec F S512x128 .bf16) (v26 : FVec F S512x128 .bf16) (v29 : FVec F S512x128 .bf16) (v39 : FVec F S512x128 .bf16) (v42 : FVec F S512x128 .bf16) (v52 : FVec F S512x128 .bf16) (v55 : FVec F S512x128 .bf16) (c0_i32_87 : BitVec 32) (c1_i32_88 : BitVec 32) (X_arg4 : BufTy.Contents (Elt F) arg4.view.ty) (X_arg5 : BufTy.Contents (Elt F) arg5.view.ty) (X_arg6 : BufTy.Contents (Elt F) arg6.view.ty) (X_arg11 : BufTy.Contents (Elt F) arg11.view.ty) (G_arg9 : BufTy.Contents (Elt F) arg9.view.ty) (G_arg10 : BufTy.Contents (Elt F) arg10.view.ty) :=
  loopInv_k0_t1 (F := F) 𝒱 c bd E i arg3 harg3 arg4 harg4 arg5 harg5 arg6 harg6 arg7 harg7 arg8 harg8 arg9 harg9 arg10 harg10 arg11 harg11 0#32 v2 v3 v13 v16 v26 v29 v39 v42 v52 v55 c0_i32_87 0#32 c1_i32_88 X_arg4 X_arg5 X_arg6 X_arg11 G_arg9 G_arg10

/-- The second counted loop runs no trip: its bounds are the same word. -/
theorem trips_rest (i : grid0.Coords) : (k0_t2_loop i).trips = 0 := by
  have h : ∀ j : Fin 2, ∀ i : grid0.Coords, i 2 = j → (k0_t2_loop i).trips = 0 := by
    intro j i hi
    unfold k0_t2_loop
    rw [hi]
    clear hi
    revert j
    decide
  exact h (i 2) i rfl

set_option maxHeartbeats 1784000 in

noncomputable def kernelRun0_A (c : Dev nD) (i : grid0.Coords) (arg3 : Memref sig .tc .vmem S1x2048x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x1x2048x2 .f32) (harg7 : arg7.IsWhole) (arg8 : Memref sig .tc .vmem S1x2048x128 .bf16) (harg8 : arg8.IsWhole) (arg9 : Memref sig .tc .vmem S4x2x512x128 .f32) (harg9 : arg9.IsWhole) (arg10 : Memref sig .tc .vmem S4x2x512x128 .f32) (harg10 : arg10.IsWhole) (arg11 : Memref sig .tc .vmem S4x2x512x512 .f32) (harg11 : arg11.IsWhole)
    (x0 : Vec F S1x2048x128 .bf16) (x1 : Vec F S1x4096x128 .bf16) (x2 : Vec F S1x4096x128 .bf16) (x3 : Vec F S1x1x8x2x512 .f32) (x4 : Vec F S1x1x2048x2 .f32) :
    { L5 : List (View.Piece (Elt F) S1x2048x128 .bf16) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_fox_attention i arg3 harg3 arg4 harg4 arg5 harg5 arg6 harg6 arg7 harg7 arg8 harg8 arg9 harg9 arg10 harg10 arg11 harg11) K } := by
  refine ⟨?_, fun E K => ?run⟩
  case run =>
    simp only [cc0_fox_attention_eq_skeleton]; unfold cc0_fox_attention_skel
    simp only [k0_part45_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    have htr : (k0_t2_loop i).trips = 0 := trips_rest i
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

theorem cover0_A_5 (c : Dev nD) (i : grid0.Coords) (arg3 : Memref sig .tc .vmem S1x2048x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x1x2048x2 .f32) (harg7 : arg7.IsWhole) (arg8 : Memref sig .tc .vmem S1x2048x128 .bf16) (harg8 : arg8.IsWhole) (arg9 : Memref sig .tc .vmem S4x2x512x128 .f32) (harg9 : arg9.IsWhole) (arg10 : Memref sig .tc .vmem S4x2x512x128 .f32) (harg10 : arg10.IsWhole) (arg11 : Memref sig .tc .vmem S4x2x512x512 .f32) (harg11 : arg11.IsWhole)
    (x0 : Vec F S1x2048x128 .bf16) (x1 : Vec F S1x4096x128 .bf16) (x2 : Vec F S1x4096x128 .bf16) (x3 : Vec F S1x1x8x2x512 .f32) (x4 : Vec F S1x1x2048x2 .f32) (y : S1x2048x128.Idx) :
    ∃ pc ∈ (kernelRun0_A c i arg3 harg3 arg4 harg4 arg5 harg5 arg6 harg6 arg7 harg7 arg8 harg8 arg9 harg9 arg10 harg10 arg11 harg11 x0 x1 x2 x3 x4).1, y ∈ pc.1.set :=
  View.cover_of_tiledL (kernelRun0_A c i arg3 harg3 arg4 harg4 arg5 harg5 arg6 harg6 arg7 harg7 arg8 harg8 arg9 harg9 arg10 harg10 arg11 harg11 x0 x1 x2 x3 x4).1 S1x512x128.size (by sl_kernel_rfl) y

def out0_A_5 (c : Dev nD) (i : grid0.Coords) (arg3 : Memref sig .tc .vmem S1x2048x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x1x2048x2 .f32) (harg7 : arg7.IsWhole) (arg8 : Memref sig .tc .vmem S1x2048x128 .bf16) (harg8 : arg8.IsWhole) (arg9 : Memref sig .tc .vmem S4x2x512x128 .f32) (harg9 : arg9.IsWhole) (arg10 : Memref sig .tc .vmem S4x2x512x128 .f32) (harg10 : arg10.IsWhole) (arg11 : Memref sig .tc .vmem S4x2x512x512 .f32) (harg11 : arg11.IsWhole)
    (x0 : Vec F S1x2048x128 .bf16) (x1 : Vec F S1x4096x128 .bf16) (x2 : Vec F S1x4096x128 .bf16) (x3 : Vec F S1x1x8x2x512 .f32) (x4 : Vec F S1x1x2048x2 .f32) : Vec F S1x2048x128 .bf16 :=
  VO0_5.read (Elt F) (VO0_5.writes (Elt F) VO0_5.junk (kernelRun0_A c i arg3 harg3 arg4 harg4 arg5 harg5 arg6 harg6 arg7 harg7 arg8 harg8 arg9 harg9 arg10 harg10 arg11 harg11 x0 x1 x2 x3 x4).1)

def outsAt0 (c : Dev nD) (t : Fin cfg0.N) : Vec F S1x2048x128 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in

theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.FoxI

end
-- ==== Proof.AttnMath.lean ====
module

public import Idealize.ShloMosaic.Lib.Pointwise

@[expose] public section

noncomputable section

/-! Softmax over a row of scores, and the same taken a tile of keys at a time: a running maximum and a weighted sum kept relative to it. -/

namespace Cert.Attn

open Idealize.ShloMosaic

/-- A power of two is never negative and never infinite unless the exponent is. -/
theorem exp2_nonneg (x : EReal) : 0 ≤ Ideal.exp2 x := by
  induction x with
  | bot => simp
  | coe r => simp only [Ideal.exp2_coe]; exact_mod_cast (Real.rpow_pos_of_pos (by norm_num : (0 : ℝ) < 2) r).le
  | top => simp

theorem exp2_ne_top (x : EReal) (h : x ≠ ⊤) : Ideal.exp2 x ≠ ⊤ := by
  induction x with
  | bot => simp
  | coe r => simp only [Ideal.exp2_coe]; exact EReal.coe_ne_top _
  | top => exact absurd rfl h

theorem sub_ne_top (x y : EReal) (h : x ≤ y) : x - y ≠ ⊤ := by
  induction x with
  | bot => simp
  | coe r =>
    induction y with
    | bot => simp at h
    | coe s => rw [← EReal.coe_sub]; exact EReal.coe_ne_top _
    | top => simp
  | top =>
    have : y = ⊤ := top_le_iff.mp h
    subst this; simp

/-- Weights relative to one maximum, rescaled, are the weights relative to a larger one. -/
theorem exp2_shift (s m m' : EReal) (h : s ≤ m) (h' : m ≤ m') :
    Ideal.exp2 (m - m') * Ideal.exp2 (s - m) = Ideal.exp2 (s - m') := by
  induction s with
  | bot => simp
  | top =>
    have hm : m = ⊤ := top_le_iff.mp h
    subst hm
    have hm' : m' = ⊤ := top_le_iff.mp h'
    subst hm'
    simp
  | coe r =>
    induction m with
    | bot => simp at h
    | top =>
      have hm' : m' = ⊤ := top_le_iff.mp h'
      subst hm'
      simp
    | coe a =>
      induction m' with
      | bot => simp at h'
      | top => simp
      | coe b =>
        rw [← EReal.coe_sub, ← EReal.coe_sub, ← EReal.coe_sub]
        simp only [Ideal.exp2_coe]
        rw [← EReal.coe_mul]
        congr 1
        show (2 : ℝ) ^ (a - b) * (2 : ℝ) ^ (r - a) = (2 : ℝ) ^ (r - b)
        rw [← Real.rpow_add (by norm_num : (0 : ℝ) < 2)]
        congr 1; ring

/-- A number that is not negative and not infinite distributes over a sum. -/
theorem mul_sum {ι : Type*} (S : Finset ι) (a : EReal) (f : ι → EReal) (h0 : 0 ≤ a) (h : a ≠ ⊤) :
    a * ∑ k ∈ S, f k = ∑ k ∈ S, a * f k := by
  classical
  induction S using Finset.induction_on with
  | empty => simp
  | insert x S hx ih => rw [Finset.sum_insert hx, Finset.sum_insert hx, EReal.left_distrib_of_nonneg_of_ne_top h0 h, ih]

/-- A sum of real numbers is real. -/
theorem coe_sum {ι : Type*} (S : Finset ι) (f : ι → ℝ) : ((∑ k ∈ S, f k : ℝ) : EReal) = ∑ k ∈ S, (f k : EReal) := by
  classical
  induction S using Finset.induction_on with
  | empty => simp
  | insert x S hx ih => rw [Finset.sum_insert hx, Finset.sum_insert hx, EReal.coe_add, ih]

/-- The largest score of the first `n` keys. -/
def top (t : ℕ → EReal) (n : ℕ) : EReal := (Finset.range n).sup t

/-- The weighted sum over the first `n` keys, relative to their largest score. -/
def wsum (t w : ℕ → EReal) (n : ℕ) : EReal := ∑ k ∈ Finset.range n, Ideal.exp2 (t k - top t n) * w k

theorem top_zero (t : ℕ → EReal) : top t 0 = ⊥ := rfl
theorem wsum_zero (t w : ℕ → EReal) : wsum t w 0 = 0 := rfl

theorem range_add_eq (n : ℕ) : Finset.range (n + 512) = Finset.range n ∪ Finset.univ.image (fun c : Fin 512 => n + c.val) := by
  ext k
  simp only [Finset.mem_range, Finset.mem_union, Finset.mem_image, Finset.mem_univ, true_and]
  constructor
  · intro h
    by_cases h' : k < n
    · exact .inl h'
    · exact .inr ⟨⟨k - n, by omega⟩, by dsimp only; omega⟩
  · rintro (h | ⟨c, rfl⟩)
    · omega
    · have := c.isLt; omega

theorem top_add (t : ℕ → EReal) (n : ℕ) :
    top t (n + 512) = max (top t n) ((Finset.univ : Finset (Fin 512)).sup fun c => t (n + c.val)) := by
  unfold top
  rw [range_add_eq, Finset.sup_union, Finset.sup_image]
  rfl

theorem sum_add (f : ℕ → EReal) (n : ℕ) :
    ∑ k ∈ Finset.range (n + 512), f k = ∑ k ∈ Finset.range n, f k + ∑ c : Fin 512, f (n + c.val) := by
  rw [Finset.sum_range_add, ← Fin.sum_univ_eq_sum_range (fun x => f (n + x)) 512]

theorem le_top (t : ℕ → EReal) (n k : ℕ) (h : k < n) : t k ≤ top t n := Finset.le_sup (f := t) (Finset.mem_range.mpr h)

theorem wsum_add (t w : ℕ → EReal) (n : ℕ) :
    wsum t w (n + 512) = Ideal.exp2 (top t n - top t (n + 512)) * wsum t w n
      + ∑ c : Fin 512, Ideal.exp2 (t (n + c.val) - top t (n + 512)) * w (n + c.val) := by
  have hle : top t n ≤ top t (n + 512) := by rw [top_add]; exact le_max_left _ _
  unfold wsum
  rw [sum_add, mul_sum _ _ _ (exp2_nonneg _) (exp2_ne_top _ (sub_ne_top _ _ hle))]
  congr 1
  refine Finset.sum_congr rfl fun k hk => ?_
  rw [← mul_assoc, exp2_shift _ _ _ (le_top t n k (Finset.mem_range.mp hk)) hle]

/-- Keys that no query sees change nothing. -/
theorem top_of_bot (t : ℕ → EReal) (n n' : ℕ) (h : n ≤ n') (hb : ∀ k, n ≤ k → t k = ⊥) : top t n' = top t n := by
  unfold top
  apply le_antisymm
  · refine Finset.sup_le fun k hk => ?_
    by_cases hkn : k < n
    · exact Finset.le_sup (f := t) (Finset.mem_range.mpr hkn)
    · rw [hb k (by omega)]; exact bot_le
  · exact Finset.sup_mono (Finset.range_mono h)

theorem wsum_of_bot (t w : ℕ → EReal) (n n' : ℕ) (h : n ≤ n') (hb : ∀ k, n ≤ k → t k = ⊥) : wsum t w n' = wsum t w n := by
  unfold wsum
  rw [top_of_bot t n n' h hb]
  refine (Finset.sum_subset (Finset.range_mono h) fun k _ hk => ?_).symm
  rw [hb k (by simpa using hk)]
  simp

/-- The exponential is a power of two. -/
theorem exp2_eq_exp (x : EReal) : Ideal.exp2 ((((Real.log 2)⁻¹ : ℝ) : EReal) * x) = Ideal.exp x := by
  have hl : 0 < (Real.log 2)⁻¹ := inv_pos.mpr (Real.log_pos (by norm_num))
  induction x with
  | bot => rw [EReal.coe_mul_bot_of_pos hl]; simp
  | top => rw [EReal.coe_mul_top_of_pos hl]; simp
  | coe r =>
    rw [← EReal.coe_mul]
    simp only [Ideal.exp2_coe, Ideal.exp_coe]
    congr 1
    show (2 : ℝ) ^ ((Real.log 2)⁻¹ * r) = Real.exp r
    rw [Real.rpow_def_of_pos (by norm_num), ← mul_assoc, mul_inv_cancel₀ (Real.log_pos (by norm_num : (1 : ℝ) < 2)).ne', one_mul]

/-- Some key has the largest score. -/
theorem exists_top (t : ℕ → EReal) (n : ℕ) (hn : 0 < n) : ∃ k < n, top t n = t k := by
  obtain ⟨k, hk, h⟩ := Finset.exists_mem_eq_sup (Finset.range n) ⟨0, Finset.mem_range.mpr hn⟩ t
  exact ⟨k, Finset.mem_range.mp hk, h⟩

/-- Where the largest score is a real number, the weights' sum is a positive real number. -/
theorem wsum_one_real (t : ℕ → EReal) (n : ℕ) (hn : 0 < n) (T : ℝ) (hT : top t n = (T : EReal)) :
    ∃ L : ℝ, 0 < L ∧ wsum t (fun _ => 1) n = (L : EReal) := by
  have hr : ∀ k, ∃ r : ℝ, 0 ≤ r ∧ (k < n → Ideal.exp2 (t k - (T : EReal)) = (r : EReal)) ∧ (t k = (T : EReal) → r = 1) := by
    intro k
    by_cases hk : k < n
    · have h := hT ▸ le_top t n k hk
      cases hx : t k with
      | bot => exact ⟨0, le_rfl, fun _ => by simp, fun h => absurd h (by simp)⟩
      | top => rw [hx] at h; simp at h
      | coe r =>
        refine ⟨(2 : ℝ) ^ (r - T), (Real.rpow_pos_of_pos (by norm_num) _).le, fun _ => ?_, fun h => ?_⟩
        · rw [← EReal.coe_sub, Ideal.exp2_coe]; rfl
        · have : r = T := by exact_mod_cast h
          rw [this, sub_self, Real.rpow_zero]
    · by_cases h : t k = (T : EReal)
      · exact ⟨1, zero_le_one, fun h => absurd h hk, fun _ => rfl⟩
      · exact ⟨0, le_rfl, fun h => absurd h hk, fun h' => absurd h' h⟩
  choose r hr0 hr1 hr2 using hr
  obtain ⟨k0, hk0, hk0'⟩ := exists_top t n hn
  refine ⟨∑ k ∈ Finset.range n, r k, ?_, ?_⟩
  · refine lt_of_lt_of_le ?_ (Finset.single_le_sum (fun k _ => hr0 k) (Finset.mem_range.mpr hk0))
    rw [hr2 k0 (hk0'.symm.trans hT)]; exact one_pos
  · unfold wsum
    rw [hT, coe_sum]
    exact Finset.sum_congr rfl fun k hk => by rw [mul_one, hr1 k (Finset.mem_range.mp hk)]

/-- The weighted sum over the weights' sum is the sum with normalized weights. -/
theorem div_eq (t w : ℕ → EReal) (n : ℕ) (hn : 0 < n) (T : ℝ) (hT : top t n = (T : EReal)) :
    Ideal.div (wsum t w n) (wsum t (fun _ => 1) n)
      = ∑ k ∈ Finset.range n, Ideal.div (Ideal.exp2 (t k - top t n)) (wsum t (fun _ => 1) n) * w k := by
  obtain ⟨L, hL, h⟩ := wsum_one_real t n hn T hT
  rw [h, Ideal.div_coe hL.ne']
  unfold wsum
  rw [mul_comm, mul_sum _ _ _ (by exact_mod_cast (by positivity)) (EReal.coe_ne_top _)]
  refine Finset.sum_congr rfl fun k _ => ?_
  rw [Ideal.div_coe hL.ne', ← mul_assoc, mul_comm (((1 / L : ℝ)) : EReal)]

end Cert.Attn
-- ==== Proof.FoxStep.lean ====
module

public import proofs.«01_k».proof.Proof.FoxRun
public import proofs.«01_k».proof.Proof.AttnMath
public import Idealize.ShloMosaic.Lib.Pipeline.ValueKit
public import Idealize.ShloMosaic.Lib.Pointwise

@[expose] public section

set_option maxRecDepth 16384

noncomputable section

/-! One tile of keys folded into the running maximum and weighted sum of a block of queries. -/

namespace Cert.FoxI

open Cert.Attn Cert.Kernel12Ideal Cert.Kernel12Ideal.Gen Idealize.ShloMosaic Idealize.ShloMosaic.TcCoe

/-- A tile's scores. -/
def tileS (q : FVec Ideal S512x128 .bf16) (k : FVec Ideal S1x512x128 .bf16) (ck : Vec Ideal S1x1x1x1x512 .f32) (cq : Vec Ideal S1x1x512x512 .f32) :
    FVec Ideal S512x512 .f32 :=
  addf (subf (matmul dot_S512x128_S512x128_S512x512_1_1_0_0_n_n none q (shapeCast S512x128 k shapeCasts_S1x512x128_S512x128) (constant S512x512 .f32 0#32))
    (broadcastTo S512x512 (shapeCast S1x512 ck shapeCasts_S1x1x1x1x512_S1x512) broadcasts_S1x512_S512x512))
    (shapeCast S512x512 cq shapeCasts_S1x1x512x512_S512x512)

/-- The tile a query's own position falls in, later keys hidden. -/
def maskS (s : FVec Ideal S512x512 .f32) : FVec Ideal S512x512 .f32 :=
  select (cmpi .sle (iota .tc S512x512 32 [1] iota_S512x512_d1_w32) (iota .tc S512x512 32 [0] iota_S512x512_d0_w32)) s
    (broadcast S512x512 (FloatOps.ofBits (F := Ideal) FTy.f32 4286578688#32))

/-- The new maximum. -/
def newM (s : FVec Ideal S512x512 .f32) (m : Vec Ideal S1x1x512x128 .f32) : FVec Ideal S512x128 .f32 :=
  maximumf (shapeCast S512x128 m shapeCasts_S1x1x512x128_S512x128)
    (broadcastTo S512x128 (shapeCast S512x1 (multiReduction .maximumf [1] S512 s 4286578688#32 reduces_S512x512_S512 (.inl rfl) rfl)
      shapeCasts_S512_S512x1) broadcasts_S512x1_S512x128)

/-- The new weighted sum. -/
def newA (s : FVec Ideal S512x512 .f32) (m a : Vec Ideal S1x1x512x128 .f32) (w : FVec Ideal S512x128 .bf16) : FVec Ideal S512x128 .f32 :=
  addf (mulf (exp2 (subf (shapeCast S512x128 m shapeCasts_S1x1x512x128_S512x128) (newM s m))) (shapeCast S512x128 a shapeCasts_S1x1x512x128_S512x128))
    (matmul dot_S512x512_S512x128_S512x128_1_0_0_1_n_n none
      (truncf .bf16 (exp2 (subf s (concatenate S512x512 1 [⟨S512x128, newM s m⟩, ⟨S512x128, newM s m⟩, ⟨S512x128, newM s m⟩, ⟨S512x128, newM s m⟩]
        concatenates_S512x128_S512x128_S512x128_S512x128_S512x512_d1))) bitsLt_bf16_f32) w (constant S512x128 .f32 0#32))

def putM (s : FVec Ideal S512x512 .f32) (m : Vec Ideal S1x1x512x128 .f32) : FVec Ideal S1x1x512x128 .f32 :=
  shapeCast S1x1x512x128 (newM s m) shapeCasts_S512x128_S1x1x512x128
def putA (s : FVec Ideal S512x512 .f32) (m a : Vec Ideal S1x1x512x128 .f32) (w : FVec Ideal S512x128 .bf16) : FVec Ideal S1x1x512x128 .f32 :=
  shapeCast S1x1x512x128 (newA s m a w) shapeCasts_S512x128_S1x1x512x128

/-- A half's values, with ones in the other half's lanes. -/
def halfW (p : IVec S1x128 1) (v : Vec Ideal S1x512x128 .bf16) : FVec Ideal S512x128 .bf16 :=
  select (broadcastTo S512x128 (shapeCast S1x128 p shapeCasts_S1x128_S1x128) broadcasts_S1x128_S512x128) (shapeCast S512x128 v shapeCasts_S1x512x128_S512x128)
    (broadcast S512x128 (FloatOps.ofBits (F := Ideal) FTy.bf16 16256#16))

theorem negInf : Ideal.ofBits FTy.f32 4286578688#32 = ⊥ := by
  simp [Ideal.ofBits, Ideal.ieee]

theorem sle_ofNat (a b : ℕ) (ha : a < 4096) (hb : b < 4096) :
    IntOp.cmpi CmpIPredicate.sle (BitVec.ofNat 32 a) (BitVec.ofNat 32 b) = if a ≤ b then 1#1 else 0#1 := by
  have e : ∀ a : ℕ, a < 4096 → (BitVec.ofNat 32 a).toInt = (a : ℤ) := by
    intro a ha
    have h : (BitVec.ofNat 32 a).toNat = a := by
      rw [BitVec.toNat_ofNat]; exact Nat.mod_eq_of_lt (by omega)
    rw [BitVec.toInt_eq_toNat_of_lt (by rw [h]; omega), h]
  change BitVec.ofBool (decide ((BitVec.ofNat 32 a).toInt ≤ (BitVec.ofNat 32 b).toInt)) = _
  rw [e a ha, e b hb]
  by_cases h : a ≤ b <;> simp [h]

theorem tileS_ix (q : FVec Ideal S512x128 .bf16) (k : FVec Ideal S1x512x128 .bf16) (ck : Vec Ideal S1x1x1x1x512 .f32) (cq : Vec Ideal S1x1x512x512 .f32)
    (r c : Fin 512) :
    (tileS q k ck cq (ix2 r c) : EReal) = (∑ d : Fin 128, (q (ix2 r d) : EReal) * k (ix3 0 c d)) - ck (ix5 0 0 0 0 c) + cq (ix4 0 0 r c) := by
  unfold tileS
  pointwise
theorem maskS_ix (s : FVec Ideal S512x512 .f32) (r c : Fin 512) :
    (maskS s (ix2 r c) : EReal) = if c.val ≤ r.val then (s (ix2 r c) : EReal) else ⊥ := by
  unfold maskS
  pointwise
  rw [sle_ofNat _ _ (by omega) (by omega), negInf]
  split <;> rfl
theorem rowmax_ix (s : FVec Ideal S512x512 .f32) (r : Fin 512) :
    (multiReduction (F := Ideal) .maximumf [1] S512 s 4286578688#32 reduces_S512x512_S512 (.inl rfl) rfl (ix1 r) : EReal)
      = (Finset.univ : Finset (Fin 512)).sup fun c => (s (ix2 r c) : EReal) := by
  refine (Ideal.multiReduction_maximumf_single (a := 1) s 4286578688#32 reduces_S512x512_S512 (.inl rfl) rfl (ix1 r)).trans ?_
  have hb : (FloatOps.ofBits (F := Ideal) FTy.f32 4286578688#32 : EReal) = ⊥ := negInf
  have hl : (s ∘ reduces_S512x512_S512.lift (ix1 r)) = fun c : Fin 512 => (s (ix2 r c) : EReal) := by
    funext c
    exact congrArg s (funext fun a => by fin_cases a <;> rfl)
  rw [hl, hb]
  rfl
theorem newM_ix (s : FVec Ideal S512x512 .f32) (m : Vec Ideal S1x1x512x128 .f32) (r : Fin 512) (l : Fin 128) :
    (newM s m (ix2 r l) : EReal) = max (m (ix4 0 0 r l) : EReal) ((Finset.univ : Finset (Fin 512)).sup fun c => (s (ix2 r c) : EReal)) := by
  rw [← rowmax_ix]
  unfold newM
  pointwise
theorem newA_ix (s : FVec Ideal S512x512 .f32) (m a : Vec Ideal S1x1x512x128 .f32) (w : FVec Ideal S512x128 .bf16) (r : Fin 512) (l : Fin 128)
    (M : EReal) (hM : ∀ l : Fin 128, (newM s m (ix2 r l) : EReal) = M) :
    (newA s m a w (ix2 r l) : EReal)
      = Ideal.exp2 ((m (ix4 0 0 r l) : EReal) - M) * a (ix4 0 0 r l) + ∑ c : Fin 512, Ideal.exp2 ((s (ix2 r c) : EReal) - M) * w (ix2 c l) := by
  unfold newA
  generalize newM s m = n at *
  pointwise
  simp only [hM]
  simp only [dite_eq_ite, ite_self]
  rfl
theorem halfW_ix (p : IVec S1x128 1) (v : Vec Ideal S1x512x128 .bf16) (c : Fin 512) (l : Fin 128) :
    (halfW p v (ix2 c l) : EReal) = if p (ix2 0 l) = 1#1 then (v (ix3 0 c l) : EReal) else 1 := by
  unfold halfW
  pointwise
  rfl

theorem putM_val (s : FVec Ideal S512x512 .f32) (m : Vec Ideal S1x1x512x128 .f32) (t : ℕ → EReal) (n : ℕ) (r : Fin 512)
    (hm : ∀ l : Fin 128, (m (ix4 0 0 r l) : EReal) = top t n) (hs : ∀ c : Fin 512, (s (ix2 r c) : EReal) = t (n + c.val)) (l : Fin 128) :
    (newM s m (ix2 r l) : EReal) = top t (n + 512) := by
  rw [newM_ix, hm, top_add]
  simp only [hs]

theorem putA_val (s : FVec Ideal S512x512 .f32) (m a : Vec Ideal S1x1x512x128 .f32) (W : FVec Ideal S512x128 .bf16) (t w : ℕ → EReal) (n : ℕ)
    (r : Fin 512) (l : Fin 128) (hm : ∀ l : Fin 128, (m (ix4 0 0 r l) : EReal) = top t n) (ha : (a (ix4 0 0 r l) : EReal) = wsum t w n)
    (hs : ∀ c : Fin 512, (s (ix2 r c) : EReal) = t (n + c.val)) (hw : ∀ c : Fin 512, (W (ix2 c l) : EReal) = w (n + c.val)) :
    (newA s m a W (ix2 r l) : EReal) = wsum t w (n + 512) := by
  rw [newA_ix s m a W r l _ (putM_val s m t n r hm hs), hm, ha, wsum_add]
  simp only [hs, hw]

theorem putM_ix (s : FVec Ideal S512x512 .f32) (m : Vec Ideal S1x1x512x128 .f32) (r : Fin 512) (l : Fin 128) :
    (putM s m (ix4 0 0 r l) : EReal) = newM s m (ix2 r l) := by
  unfold putM
  pointwise
theorem putA_ix (s : FVec Ideal S512x512 .f32) (m a : Vec Ideal S1x1x512x128 .f32) (W : FVec Ideal S512x128 .bf16) (r : Fin 512) (l : Fin 128) :
    (putA s m a W (ix4 0 0 r l) : EReal) = newA s m a W (ix2 r l) := by
  unfold putA
  pointwise

end Cert.FoxI
-- ==== Proof.FoxLoop.lean ====
module

public import proofs.«01_k».proof.Proof.FoxStep
public import Idealize.ShloMosaic.Lib.WritesUnit

@[expose] public section

set_option maxRecDepth 16384

noncomputable section

/-! The running maxima and weighted sums through the loop over the tiles of keys. -/

namespace Cert.FoxI

open Cert.Attn Cert.Kernel12Ideal Cert.Kernel12Ideal.Gen Idealize.ShloMosaic Idealize.ShloMosaic.TcCoe

theorem rectM_inb (u : Fin 4) (a : Fin 2) : ∀ x, (![u.val, a.val, 0, 0] : Fin 4 → ℕ) x + S1x1x512x128.size x ≤ S4x2x512x128.size x := by
  revert u a; decide
theorem rectC_inb (u : Fin 4) (a : Fin 2) : ∀ x, (![u.val, a.val, 0, 0] : Fin 4 → ℕ) x + S1x1x512x512.size x ≤ S4x2x512x512.size x := by
  revert u a; decide

/-- The part of a running maximum or sum that belongs to a block of queries and a head. -/
abbrev rectM (u : Fin 4) (a : Fin 2) : Rect S4x2x512x128 := Rect.unit ![u.val, a.val, 0, 0] S1x1x512x128.size (rectM_inb u a)
abbrev rectC (u : Fin 4) (a : Fin 2) : Rect S4x2x512x512 := Rect.unit ![u.val, a.val, 0, 0] S1x1x512x512.size (rectC_inb u a)

abbrev rdM (v : Memref sig .tc .vmem S4x2x512x128 .f32) (f : v.view.ty.Contents (Elt Ideal)) (u : Fin 4) (a : Fin 2) : Vec Ideal S1x1x512x128 .f32 :=
  v.view.readAt (Elt Ideal) (rectM u a).toLoadRect f
abbrev cT (v : Memref sig .tc .vmem S4x2x512x512 .f32) (f : v.view.ty.Contents (Elt Ideal)) (u : Fin 4) (a : Fin 2) : Vec Ideal S1x1x512x512 .f32 :=
  v.view.readAt (Elt Ideal) (rectC u a).toLoadRect f
abbrev kT (i : grid0.Coords) (v : Memref sig .tc .vmem S1x4096x128 .bf16) (f : v.view.ty.Contents (Elt Ideal)) (k : Fin (k0_t1_loop i).trips) : FVec Ideal S1x512x128 .bf16 :=
  v.view.readAt (Elt Ideal) (Rect.unit (s := S1x4096x128) (k0_off1 i k) S1x512x128.size (k0_off1_inb i k)).toLoadRect f
abbrev vT (i : grid0.Coords) (v : Memref sig .tc .vmem S1x4096x128 .bf16) (f : v.view.ty.Contents (Elt Ideal)) (k : Fin (k0_t1_loop i).trips) : FVec Ideal S1x512x128 .bf16 :=
  v.view.readAt (Elt Ideal) (Rect.unit (s := S1x4096x128) (k0_off1 i k) S1x512x128.size (k0_off1_inb i k)).toLoadRect f
abbrev ckT0 (i : grid0.Coords) (v : Memref sig .tc .vmem S1x1x8x2x512 .f32) (f : v.view.ty.Contents (Elt Ideal)) (k : Fin (k0_t1_loop i).trips) : Vec Ideal S1x1x1x1x512 .f32 :=
  v.view.readAt (Elt Ideal) (Rect.unit (s := S1x1x8x2x512) (k0_off2 i k) S1x1x1x1x512.size (k0_off2_inb i k)).toLoadRect f
abbrev ckT1 (i : grid0.Coords) (v : Memref sig .tc .vmem S1x1x8x2x512 .f32) (f : v.view.ty.Contents (Elt Ideal)) (k : Fin (k0_t1_loop i).trips) : Vec Ideal S1x1x1x1x512 .f32 :=
  v.view.readAt (Elt Ideal) (Rect.unit (s := S1x1x8x2x512) (k0_off3 i k) S1x1x1x1x512.size (k0_off3_inb i k)).toLoadRect f

theorem rdM_ix (v : Memref sig .tc .vmem S4x2x512x128 .f32) (f : v.view.ty.Contents (Elt Ideal)) (u : Fin 4) (a : Fin 2) (r : Fin 512) (l : Fin 128) :
    (rdM v f u a (ix4 0 0 r l) : EReal) = v.view.read (Elt Ideal) f (ix4 u a r l) := by
  show v.view.read (Elt Ideal) f ((rectM u a).toLoadRect.idx (ix4 0 0 r l)) = _
  congr 1
  funext x
  apply Fin.ext
  fin_cases x
  · show u.val + 1 * 0 = u.val; omega
  · show a.val + 1 * 0 = a.val; omega
  · show 0 + 1 * r.val = r.val; omega
  · show 0 + 1 * l.val = l.val; omega

/-- The maxima and sums cover the first `N u a` keys. -/
def Good (arg9 arg10 : Memref sig .tc .vmem S4x2x512x128 .f32) (t : Fin 4 → Fin 2 → Fin 512 → ℕ → EReal) (w : Fin 2 → Fin 128 → ℕ → EReal)
    (N : Fin 4 → Fin 2 → ℕ) (f9 : arg9.view.ty.Contents (Elt Ideal)) (f10 : arg10.view.ty.Contents (Elt Ideal)) : Prop :=
  ∀ (u : Fin 4) (a : Fin 2) (r : Fin 512) (l : Fin 128),
    (arg9.view.read (Elt Ideal) f9 (ix4 u a r l) : EReal) = top (t u a r) (N u a)
    ∧ (arg10.view.read (Elt Ideal) f10 (ix4 u a r l) : EReal) = wsum (t u a r) (w a l) (N u a)

/-- One block's keys advanced by a tile. -/
def upd (N : Fin 4 → Fin 2 → ℕ) (u : Fin 4) (a : Fin 2) (u' : Fin 4) (a' : Fin 2) : ℕ := if u' = u ∧ a' = a then N u' a' + 512 else N u' a'

theorem read_hit (v : Memref sig .tc .vmem S4x2x512x128 .f32) (g : v.view.ty.Contents (Elt Ideal)) (L : List (View.Piece (Elt Ideal) S4x2x512x128 .f32))
    (u : Fin 4) (a : Fin 2) (p : Vec Ideal S1x1x512x128 .f32) (r : Fin 512) (l : Fin 128) :
    (v.view.read (Elt Ideal) (v.view.writes (Elt Ideal) g (⟨rectM u a, p⟩ :: L)) (ix4 u a r l) : EReal) = p (ix4 0 0 r l) := by
  refine View.read_writes_cons_unit_of_mem v.view g (rectM_inb u a) p L (ix4 u a r l) (ix4 0 0 r l) rfl fun x => ?_
  fin_cases x
  · show u.val = u.val + 0; omega
  · show a.val = a.val + 0; omega
  · show r.val = 0 + r.val; omega
  · show l.val = 0 + l.val; omega

theorem read_miss (v : Memref sig .tc .vmem S4x2x512x128 .f32) (g : v.view.ty.Contents (Elt Ideal)) (L : List (View.Piece (Elt Ideal) S4x2x512x128 .f32))
    (u : Fin 4) (a : Fin 2) (p : Vec Ideal S1x1x512x128 .f32) (u' : Fin 4) (a' : Fin 2) (h : ¬(u' = u ∧ a' = a)) (r : Fin 512) (l : Fin 128) :
    (v.view.read (Elt Ideal) (v.view.writes (Elt Ideal) g (⟨rectM u a, p⟩ :: L)) (ix4 u' a' r l) : EReal)
      = v.view.read (Elt Ideal) (v.view.writes (Elt Ideal) g L) (ix4 u' a' r l) := by
  by_cases hu : u' = u
  · have ha : a'.val ≠ a.val := fun e => h ⟨hu, Fin.ext e⟩
    refine View.read_writes_cons_unit_of_not_mem v.view g (rectM_inb u a) p L (ix4 u' a' r l) rfl (1 : Fin 4) ?_
    show a'.val < a.val ∨ a.val + 1 ≤ a'.val
    omega
  · have hu' : u'.val ≠ u.val := fun e => hu (Fin.ext e)
    refine View.read_writes_cons_unit_of_not_mem v.view g (rectM_inb u a) p L (ix4 u' a' r l) rfl (0 : Fin 4) ?_
    show u'.val < u.val ∨ u.val + 1 ≤ u'.val
    omega

theorem good_step (arg9 arg10 : Memref sig .tc .vmem S4x2x512x128 .f32) (t : Fin 4 → Fin 2 → Fin 512 → ℕ → EReal) (w : Fin 2 → Fin 128 → ℕ → EReal)
    (N : Fin 4 → Fin 2 → ℕ) (g9 : arg9.view.ty.Contents (Elt Ideal)) (g10 : arg10.view.ty.Contents (Elt Ideal))
    (L9 L10 : List (View.Piece (Elt Ideal) S4x2x512x128 .f32))
    (h : Good arg9 arg10 t w N (arg9.view.writes (Elt Ideal) g9 L9) (arg10.view.writes (Elt Ideal) g10 L10))
    (u : Fin 4) (a : Fin 2) (s : FVec Ideal S512x512 .f32) (m A : Vec Ideal S1x1x512x128 .f32) (W : FVec Ideal S512x128 .bf16)
    (hm : ∀ (r : Fin 512) (l : Fin 128), (m (ix4 0 0 r l) : EReal) = top (t u a r) (N u a))
    (hA : ∀ (r : Fin 512) (l : Fin 128), (A (ix4 0 0 r l) : EReal) = wsum (t u a r) (w a l) (N u a))
    (hs : ∀ r c : Fin 512, (s (ix2 r c) : EReal) = t u a r (N u a + c.val))
    (hw : ∀ (c : Fin 512) (l : Fin 128), (W (ix2 c l) : EReal) = w a l (N u a + c.val)) :
    Good arg9 arg10 t w (upd N u a) (arg9.view.writes (Elt Ideal) g9 (⟨rectM u a, putM s m⟩ :: L9))
      (arg10.view.writes (Elt Ideal) g10 (⟨rectM u a, putA s m A W⟩ :: L10)) := by
  intro u' a' r l
  unfold upd
  by_cases hh : u' = u ∧ a' = a
  · rw [if_pos hh]
    obtain ⟨rfl, rfl⟩ := hh
    exact ⟨(read_hit arg9 g9 L9 u' a' _ r l).trans ((putM_ix s m r l).trans (putM_val s m _ _ r (hm r) (hs r) l)),
      (read_hit arg10 g10 L10 u' a' _ r l).trans ((putA_ix s m A W r l).trans (putA_val s m A W _ _ _ r l (hm r) (hA r l) (hs r) fun c => hw c l))⟩
  · rw [if_neg hh]
    exact ⟨(read_miss arg9 g9 L9 u a _ u' a' hh r l).trans (h u' a' r l).1, (read_miss arg10 g10 L10 u a _ u' a' hh r l).trans (h u' a' r l).2⟩

section

variable (c : Dev nD) (i : grid0.Coords) (arg3 : Memref sig .tc .vmem S1x2048x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x1x2048x2 .f32) (harg7 : arg7.IsWhole) (arg8 : Memref sig .tc .vmem S1x2048x128 .bf16) (harg8 : arg8.IsWhole) (arg9 : Memref sig .tc .vmem S4x2x512x128 .f32) (harg9 : arg9.IsWhole) (arg10 : Memref sig .tc .vmem S4x2x512x128 .f32) (harg10 : arg10.IsWhole) (arg11 : Memref sig .tc .vmem S4x2x512x512 .f32) (harg11 : arg11.IsWhole)
  (arg2 : BitVec 32) (v2 v3 : IVec S1x128 1) (Q : Fin 4 → Fin 2 → FVec Ideal S512x128 .bf16) (c0 v125 c1 : BitVec 32)
  (X4 : arg4.view.ty.Contents (Elt Ideal)) (X5 : arg5.view.ty.Contents (Elt Ideal)) (X6 : arg6.view.ty.Contents (Elt Ideal)) (X11 : arg11.view.ty.Contents (Elt Ideal))

theorem trip_eq (k : Fin (k0_t1_loop i).trips) (f9 : arg9.view.ty.Contents (Elt Ideal)) (f10 : arg10.view.ty.Contents (Elt Ideal)) :
    tripL_k0_t1 (F := Ideal) Variants.none c none i arg3 harg3 arg4 harg4 arg5 harg5 arg6 harg6 arg7 harg7 arg8 harg8 arg9 harg9 arg10 harg10 arg11 harg11 arg2 v2 v3 (Q 0 0) (Q 0 1) (Q 1 0) (Q 1 1) (Q 2 0) (Q 2 1) (Q 3 0) (Q 3 1) c0 v125 c1 X4 X5 X6 X11 k f9 f10
      = ([⟨rectM 3 1, putM (tileS (Q 3 1) (kT i arg4 X4 k) (ckT1 i arg6 X6 k) (cT arg11 X11 3 1)) (rdM arg9 f9 3 1)⟩,
        ⟨rectM 3 0, putM (tileS (Q 3 0) (kT i arg4 X4 k) (ckT0 i arg6 X6 k) (cT arg11 X11 3 0)) (rdM arg9 f9 3 0)⟩,
        ⟨rectM 2 1, putM (tileS (Q 2 1) (kT i arg4 X4 k) (ckT1 i arg6 X6 k) (cT arg11 X11 2 1)) (rdM arg9 f9 2 1)⟩,
        ⟨rectM 2 0, putM (tileS (Q 2 0) (kT i arg4 X4 k) (ckT0 i arg6 X6 k) (cT arg11 X11 2 0)) (rdM arg9 f9 2 0)⟩,
        ⟨rectM 1 1, putM (tileS (Q 1 1) (kT i arg4 X4 k) (ckT1 i arg6 X6 k) (cT arg11 X11 1 1)) (rdM arg9 f9 1 1)⟩,
        ⟨rectM 1 0, putM (tileS (Q 1 0) (kT i arg4 X4 k) (ckT0 i arg6 X6 k) (cT arg11 X11 1 0)) (rdM arg9 f9 1 0)⟩,
        ⟨rectM 0 1, putM (tileS (Q 0 1) (kT i arg4 X4 k) (ckT1 i arg6 X6 k) (cT arg11 X11 0 1)) (rdM arg9 f9 0 1)⟩,
        ⟨rectM 0 0, putM (tileS (Q 0 0) (kT i arg4 X4 k) (ckT0 i arg6 X6 k) (cT arg11 X11 0 0)) (rdM arg9 f9 0 0)⟩],
        [⟨rectM 3 1, putA (tileS (Q 3 1) (kT i arg4 X4 k) (ckT1 i arg6 X6 k) (cT arg11 X11 3 1)) (rdM arg9 f9 3 1) (rdM arg10 f10 3 1) (halfW v3 (vT i arg5 X5 k))⟩,
        ⟨rectM 3 0, putA (tileS (Q 3 0) (kT i arg4 X4 k) (ckT0 i arg6 X6 k) (cT arg11 X11 3 0)) (rdM arg9 f9 3 0) (rdM arg10 f10 3 0) (halfW v2 (vT i arg5 X5 k))⟩,
        ⟨rectM 2 1, putA (tileS (Q 2 1) (kT i arg4 X4 k) (ckT1 i arg6 X6 k) (cT arg11 X11 2 1)) (rdM arg9 f9 2 1) (rdM arg10 f10 2 1) (halfW v3 (vT i arg5 X5 k))⟩,
        ⟨rectM 2 0, putA (tileS (Q 2 0) (kT i arg4 X4 k) (ckT0 i arg6 X6 k) (cT arg11 X11 2 0)) (rdM arg9 f9 2 0) (rdM arg10 f10 2 0) (halfW v2 (vT i arg5 X5 k))⟩,
        ⟨rectM 1 1, putA (tileS (Q 1 1) (kT i arg4 X4 k) (ckT1 i arg6 X6 k) (cT arg11 X11 1 1)) (rdM arg9 f9 1 1) (rdM arg10 f10 1 1) (halfW v3 (vT i arg5 X5 k))⟩,
        ⟨rectM 1 0, putA (tileS (Q 1 0) (kT i arg4 X4 k) (ckT0 i arg6 X6 k) (cT arg11 X11 1 0)) (rdM arg9 f9 1 0) (rdM arg10 f10 1 0) (halfW v2 (vT i arg5 X5 k))⟩,
        ⟨rectM 0 1, putA (tileS (Q 0 1) (kT i arg4 X4 k) (ckT1 i arg6 X6 k) (cT arg11 X11 0 1)) (rdM arg9 f9 0 1) (rdM arg10 f10 0 1) (halfW v3 (vT i arg5 X5 k))⟩,
        ⟨rectM 0 0, putA (tileS (Q 0 0) (kT i arg4 X4 k) (ckT0 i arg6 X6 k) (cT arg11 X11 0 0)) (rdM arg9 f9 0 0) (rdM arg10 f10 0 0) (halfW v2 (vT i arg5 X5 k))⟩]) := by
  unfold tripL_k0_t1 trip_k0_t1
  rfl

theorem trip_good (k : Fin (k0_t1_loop i).trips) (t : Fin 4 → Fin 2 → Fin 512 → ℕ → EReal) (w : Fin 2 → Fin 128 → ℕ → EReal) (n : ℕ)
    (g9 : arg9.view.ty.Contents (Elt Ideal)) (g10 : arg10.view.ty.Contents (Elt Ideal)) (L9 L10 : List (View.Piece (Elt Ideal) S4x2x512x128 .f32))
    (hS0 : ∀ (u : Fin 4) (r c : Fin 512), (tileS (Q u 0) (kT i arg4 X4 k) (ckT0 i arg6 X6 k) (cT arg11 X11 u 0) (ix2 r c) : EReal) = t u 0 r (n + c.val))
    (hS1 : ∀ (u : Fin 4) (r c : Fin 512), (tileS (Q u 1) (kT i arg4 X4 k) (ckT1 i arg6 X6 k) (cT arg11 X11 u 1) (ix2 r c) : EReal) = t u 1 r (n + c.val))
    (hW0 : ∀ (c : Fin 512) (l : Fin 128), (halfW v2 (vT i arg5 X5 k) (ix2 c l) : EReal) = w 0 l (n + c.val))
    (hW1 : ∀ (c : Fin 512) (l : Fin 128), (halfW v3 (vT i arg5 X5 k) (ix2 c l) : EReal) = w 1 l (n + c.val))
    (hg : Good arg9 arg10 t w (fun _ _ => n) (arg9.view.writes (Elt Ideal) g9 L9) (arg10.view.writes (Elt Ideal) g10 L10)) :
    Good arg9 arg10 t w (fun _ _ => n + 512)
      (arg9.view.writes (Elt Ideal) g9 ((tripL_k0_t1 (F := Ideal) Variants.none c none i arg3 harg3 arg4 harg4 arg5 harg5 arg6 harg6 arg7 harg7 arg8 harg8 arg9 harg9 arg10 harg10 arg11 harg11 arg2 v2 v3 (Q 0 0) (Q 0 1) (Q 1 0) (Q 1 1) (Q 2 0) (Q 2 1) (Q 3 0) (Q 3 1) c0 v125 c1 X4 X5 X6 X11 k (arg9.view.writes (Elt Ideal) g9 L9) (arg10.view.writes (Elt Ideal) g10 L10)).1 ++ L9))
      (arg10.view.writes (Elt Ideal) g10 ((tripL_k0_t1 (F := Ideal) Variants.none c none i arg3 harg3 arg4 harg4 arg5 harg5 arg6 harg6 arg7 harg7 arg8 harg8 arg9 harg9 arg10 harg10 arg11 harg11 arg2 v2 v3 (Q 0 0) (Q 0 1) (Q 1 0) (Q 1 1) (Q 2 0) (Q 2 1) (Q 3 0) (Q 3 1) c0 v125 c1 X4 X5 X6 X11 k (arg9.view.writes (Elt Ideal) g9 L9) (arg10.view.writes (Elt Ideal) g10 L10)).2 ++ L10)) := by
  rw [trip_eq]
  generalize hf9 : arg9.view.writes (Elt Ideal) g9 L9 = f9 at hg ⊢
  generalize hf10 : arg10.view.writes (Elt Ideal) g10 L10 = f10 at hg ⊢
  have h0 : Good arg9 arg10 t w (fun _ _ => n) (arg9.view.writes (Elt Ideal) g9 L9) (arg10.view.writes (Elt Ideal) g10 L10) := by rw [hf9, hf10]; exact hg
  have h1 := good_step arg9 arg10 t w _ _ _ _ _ h0 0 0 (tileS (Q 0 0) (kT i arg4 X4 k) (ckT0 i arg6 X6 k) (cT arg11 X11 0 0)) (rdM arg9 f9 0 0) (rdM arg10 f10 0 0)
    (halfW v2 (vT i arg5 X5 k)) (fun r l => (rdM_ix arg9 f9 0 0 r l).trans (hg 0 0 r l).1) (fun r l => (rdM_ix arg10 f10 0 0 r l).trans (hg 0 0 r l).2)
    (fun r c => hS0 0 r c) (fun c l => hW0 c l)
  have h2 := good_step arg9 arg10 t w _ _ _ _ _ h1 0 1 (tileS (Q 0 1) (kT i arg4 X4 k) (ckT1 i arg6 X6 k) (cT arg11 X11 0 1)) (rdM arg9 f9 0 1) (rdM arg10 f10 0 1)
    (halfW v3 (vT i arg5 X5 k)) (fun r l => (rdM_ix arg9 f9 0 1 r l).trans (hg 0 1 r l).1) (fun r l => (rdM_ix arg10 f10 0 1 r l).trans (hg 0 1 r l).2)
    (fun r c => hS1 0 r c) (fun c l => hW1 c l)
  have h3 := good_step arg9 arg10 t w _ _ _ _ _ h2 1 0 (tileS (Q 1 0) (kT i arg4 X4 k) (ckT0 i arg6 X6 k) (cT arg11 X11 1 0)) (rdM arg9 f9 1 0) (rdM arg10 f10 1 0)
    (halfW v2 (vT i arg5 X5 k)) (fun r l => (rdM_ix arg9 f9 1 0 r l).trans (hg 1 0 r l).1) (fun r l => (rdM_ix arg10 f10 1 0 r l).trans (hg 1 0 r l).2)
    (fun r c => hS0 1 r c) (fun c l => hW0 c l)
  have h4 := good_step arg9 arg10 t w _ _ _ _ _ h3 1 1 (tileS (Q 1 1) (kT i arg4 X4 k) (ckT1 i arg6 X6 k) (cT arg11 X11 1 1)) (rdM arg9 f9 1 1) (rdM arg10 f10 1 1)
    (halfW v3 (vT i arg5 X5 k)) (fun r l => (rdM_ix arg9 f9 1 1 r l).trans (hg 1 1 r l).1) (fun r l => (rdM_ix arg10 f10 1 1 r l).trans (hg 1 1 r l).2)
    (fun r c => hS1 1 r c) (fun c l => hW1 c l)
  have h5 := good_step arg9 arg10 t w _ _ _ _ _ h4 2 0 (tileS (Q 2 0) (kT i arg4 X4 k) (ckT0 i arg6 X6 k) (cT arg11 X11 2 0)) (rdM arg9 f9 2 0) (rdM arg10 f10 2 0)
    (halfW v2 (vT i arg5 X5 k)) (fun r l => (rdM_ix arg9 f9 2 0 r l).trans (hg 2 0 r l).1) (fun r l => (rdM_ix arg10 f10 2 0 r l).trans (hg 2 0 r l).2)
    (fun r c => hS0 2 r c) (fun c l => hW0 c l)
  have h6 := good_step arg9 arg10 t w _ _ _ _ _ h5 2 1 (tileS (Q 2 1) (kT i arg4 X4 k) (ckT1 i arg6 X6 k) (cT arg11 X11 2 1)) (rdM arg9 f9 2 1) (rdM arg10 f10 2 1)
    (halfW v3 (vT i arg5 X5 k)) (fun r l => (rdM_ix arg9 f9 2 1 r l).trans (hg 2 1 r l).1) (fun r l => (rdM_ix arg10 f10 2 1 r l).trans (hg 2 1 r l).2)
    (fun r c => hS1 2 r c) (fun c l => hW1 c l)
  have h7 := good_step arg9 arg10 t w _ _ _ _ _ h6 3 0 (tileS (Q 3 0) (kT i arg4 X4 k) (ckT0 i arg6 X6 k) (cT arg11 X11 3 0)) (rdM arg9 f9 3 0) (rdM arg10 f10 3 0)
    (halfW v2 (vT i arg5 X5 k)) (fun r l => (rdM_ix arg9 f9 3 0 r l).trans (hg 3 0 r l).1) (fun r l => (rdM_ix arg10 f10 3 0 r l).trans (hg 3 0 r l).2)
    (fun r c => hS0 3 r c) (fun c l => hW0 c l)
  have h8 := good_step arg9 arg10 t w _ _ _ _ _ h7 3 1 (tileS (Q 3 1) (kT i arg4 X4 k) (ckT1 i arg6 X6 k) (cT arg11 X11 3 1)) (rdM arg9 f9 3 1) (rdM arg10 f10 3 1)
    (halfW v3 (vT i arg5 X5 k)) (fun r l => (rdM_ix arg9 f9 3 1 r l).trans (hg 3 1 r l).1) (fun r l => (rdM_ix arg10 f10 3 1 r l).trans (hg 3 1 r l).2)
    (fun r c => hS1 3 r c) (fun c l => hW1 c l)
  have hN : (fun (_ : Fin 4) (_ : Fin 2) => n + 512) = upd (upd (upd (upd (upd (upd (upd (upd (fun _ _ => n) 0 0) 0 1) 1 0) 1 1) 2 0) 2 1) 3 0) 3 1 := by
    funext u a
    fin_cases u <;> fin_cases a <;> rfl
  rw [hN]
  exact h8

theorem loop_good (t : Fin 4 → Fin 2 → Fin 512 → ℕ → EReal) (w : Fin 2 → Fin 128 → ℕ → EReal)
    (g9 : arg9.view.ty.Contents (Elt Ideal)) (g10 : arg10.view.ty.Contents (Elt Ideal))
    (hS0 : ∀ (k : Fin (k0_t1_loop i).trips) (u : Fin 4) (r c : Fin 512), (tileS (Q u 0) (kT i arg4 X4 k) (ckT0 i arg6 X6 k) (cT arg11 X11 u 0) (ix2 r c) : EReal) = t u 0 r (512 * k.val + c.val))
    (hS1 : ∀ (k : Fin (k0_t1_loop i).trips) (u : Fin 4) (r c : Fin 512), (tileS (Q u 1) (kT i arg4 X4 k) (ckT1 i arg6 X6 k) (cT arg11 X11 u 1) (ix2 r c) : EReal) = t u 1 r (512 * k.val + c.val))
    (hW0 : ∀ (k : Fin (k0_t1_loop i).trips) (c : Fin 512) (l : Fin 128), (halfW v2 (vT i arg5 X5 k) (ix2 c l) : EReal) = w 0 l (512 * k.val + c.val))
    (hW1 : ∀ (k : Fin (k0_t1_loop i).trips) (c : Fin 512) (l : Fin 128), (halfW v3 (vT i arg5 X5 k) (ix2 c l) : EReal) = w 1 l (512 * k.val + c.val))
    (hg : Good arg9 arg10 t w (fun _ _ => 0) g9 g10) :
    ∀ k : ℕ, k ≤ (k0_t1_loop i).trips →
    Good arg9 arg10 t w (fun _ _ => 512 * k)
      (arg9.view.writes (Elt Ideal) g9 (pb_k0_t1 (F := Ideal) Variants.none c none i arg3 harg3 arg4 harg4 arg5 harg5 arg6 harg6 arg7 harg7 arg8 harg8 arg9 harg9 arg10 harg10 arg11 harg11 arg2 v2 v3 (Q 0 0) (Q 0 1) (Q 1 0) (Q 1 1) (Q 2 0) (Q 2 1) (Q 3 0) (Q 3 1) c0 v125 c1 X4 X5 X6 X11 g9 g10 k).1)
      (arg10.view.writes (Elt Ideal) g10 (pb_k0_t1 (F := Ideal) Variants.none c none i arg3 harg3 arg4 harg4 arg5 harg5 arg6 harg6 arg7 harg7 arg8 harg8 arg9 harg9 arg10 harg10 arg11 harg11 arg2 v2 v3 (Q 0 0) (Q 0 1) (Q 1 0) (Q 1 1) (Q 2 0) (Q 2 1) (Q 3 0) (Q 3 1) c0 v125 c1 X4 X5 X6 X11 g9 g10 k).2) := by
  intro k
  induction k with
  | zero => intro _; exact hg
  | succ k ih =>
    intro hk
    have hk' : k < (k0_t1_loop i).trips := hk
    have h := trip_good c i arg3 harg3 arg4 harg4 arg5 harg5 arg6 harg6 arg7 harg7 arg8 harg8 arg9 harg9 arg10 harg10 arg11 harg11 arg2 v2 v3 Q c0 v125 c1 X4 X5 X6 X11 ⟨k, hk'⟩ t w (512 * k) g9 g10 _ _ (hS0 ⟨k, hk'⟩) (hS1 ⟨k, hk'⟩) (hW0 ⟨k, hk'⟩) (hW1 ⟨k, hk'⟩) (ih (by omega))
    rw [show 512 * (k + 1) = 512 * k + 512 by omega]
    rw [pb_k0_t1_succ Variants.none c none i arg3 harg3 arg4 harg4 arg5 harg5 arg6 harg6 arg7 harg7 arg8 harg8 arg9 harg9 arg10 harg10 arg11 harg11 arg2 v2 v3 (Q 0 0) (Q 0 1) (Q 1 0) (Q 1 1) (Q 2 0) (Q 2 1) (Q 3 0) (Q 3 1) c0 v125 c1 X4 X5 X6 X11 g9 g10 ⟨k, hk'⟩]
    exact h

end

end Cert.FoxI
-- ==== Proof.FoxDiag.lean ====
module

public import proofs.«01_k».proof.Proof.FoxLoop

@[expose] public section

set_option maxRecDepth 16384

noncomputable section

/-! The running maxima and weighted sums through the four tiles at the queries' own positions. -/

namespace Cert.FoxI

open Cert.Attn Cert.Kernel12Ideal Cert.Kernel12Ideal.Gen Idealize.ShloMosaic Idealize.ShloMosaic.TcCoe

theorem qR_inb (u : Fin 4) : ∀ x, (![0, (![0, 512, 1024, 1536] : Fin 4 → ℕ) u, 0] : Fin 3 → ℕ) x + S1x512x128.size x ≤ S1x2048x128.size x := by
  revert u; decide

/-- A block of queries. -/
abbrev qR (v : Memref sig .tc .vmem S1x2048x128 .bf16) (hv : v.IsWhole) (x0 : Vec Ideal S1x2048x128 .bf16) (u : Fin 4) : Vec Ideal S1x512x128 .bf16 :=
  v.view.readAt (Elt Ideal) (Rect.unit (s := S1x2048x128) ![0, (![0, 512, 1024, 1536] : Fin 4 → ℕ) u, 0] S1x512x128.size (qR_inb u)).toLoadRect (hv.unread x0)
/-- A block of queries of one head, scaled, with zeros in the other head's lanes. -/
abbrev qQ (v : Memref sig .tc .vmem S1x2048x128 .bf16) (hv : v.IsWhole) (x0 : Vec Ideal S1x2048x128 .bf16) (u : Fin 4) (a : Fin 2) : FVec Ideal S512x128 .bf16 :=
  (![k0_pay122 (qR v hv x0 u), k0_pay123 (qR v hv x0 u)] : Fin 2 → FVec Ideal S512x128 .bf16) a

abbrev kD (i : grid0.Coords) (v : Memref sig .tc .vmem S1x4096x128 .bf16) (f : v.view.ty.Contents (Elt Ideal)) (d : Fin 4) : FVec Ideal S1x512x128 .bf16 :=
  v.view.readAt (Elt Ideal) (Rect.unit (s := S1x4096x128) (k0_off7 i (BitVec.ofNat 32 d.val)) S1x512x128.size (k0_off7_inb i d)).toLoadRect f
abbrev vD (i : grid0.Coords) (v : Memref sig .tc .vmem S1x4096x128 .bf16) (f : v.view.ty.Contents (Elt Ideal)) (d : Fin 4) : FVec Ideal S1x512x128 .bf16 :=
  v.view.readAt (Elt Ideal) (Rect.unit (s := S1x4096x128) (k0_off7 i (BitVec.ofNat 32 d.val)) S1x512x128.size (k0_off7_inb i d)).toLoadRect f
abbrev ckD0 (i : grid0.Coords) (v : Memref sig .tc .vmem S1x1x8x2x512 .f32) (f : v.view.ty.Contents (Elt Ideal)) (d : Fin 4) : Vec Ideal S1x1x1x1x512 .f32 :=
  v.view.readAt (Elt Ideal) (Rect.unit (s := S1x1x8x2x512) (k0_off8 i (BitVec.ofNat 32 d.val)) S1x1x1x1x512.size (k0_off8_inb i d)).toLoadRect f
abbrev ckD1 (i : grid0.Coords) (v : Memref sig .tc .vmem S1x1x8x2x512 .f32) (f : v.view.ty.Contents (Elt Ideal)) (d : Fin 4) : Vec Ideal S1x1x1x1x512 .f32 :=
  v.view.readAt (Elt Ideal) (Rect.unit (s := S1x1x8x2x512) (k0_off9 i (BitVec.ofNat 32 d.val)) S1x1x1x1x512.size (k0_off9_inb i d)).toLoadRect f

/-- The queries' gates, spread along the lanes. -/
abbrev X11 (c : Dev nD) (arg7 : Memref sig .tc .vmem S1x1x2048x2 .f32) (harg7 : arg7.IsWhole) (arg11 : Memref sig .tc .vmem S4x2x512x512 .f32) (x4 : Vec Ideal S1x1x2048x2 .f32) :
    arg11.view.ty.Contents (Elt Ideal) :=
  arg11.view.writes (Elt Ideal) arg11.view.junk (kernelRun0_A.sl.HS2_8 (F := Ideal) c arg7 harg7 x4)

/-- How many of the four tiles each block has taken. -/
def cn : ℕ → Fin 4 → Fin 2 → ℕ
  | 0 => ![![0, 0], ![0, 0], ![0, 0], ![0, 0]]
  | 1 => ![![1, 0], ![0, 0], ![0, 0], ![0, 0]]
  | 2 => ![![1, 1], ![0, 0], ![0, 0], ![0, 0]]
  | 3 => ![![1, 1], ![1, 0], ![0, 0], ![0, 0]]
  | 4 => ![![1, 1], ![1, 1], ![0, 0], ![0, 0]]
  | 5 => ![![1, 1], ![1, 1], ![1, 0], ![0, 0]]
  | 6 => ![![1, 1], ![1, 1], ![1, 1], ![0, 0]]
  | 7 => ![![1, 1], ![1, 1], ![1, 1], ![1, 0]]
  | 8 => ![![1, 1], ![1, 1], ![1, 1], ![1, 1]]
  | 9 => ![![1, 1], ![2, 1], ![1, 1], ![1, 1]]
  | 10 => ![![1, 1], ![2, 2], ![1, 1], ![1, 1]]
  | 11 => ![![1, 1], ![2, 2], ![2, 1], ![1, 1]]
  | 12 => ![![1, 1], ![2, 2], ![2, 2], ![1, 1]]
  | 13 => ![![1, 1], ![2, 2], ![2, 2], ![2, 1]]
  | 14 => ![![1, 1], ![2, 2], ![2, 2], ![2, 2]]
  | 15 => ![![1, 1], ![2, 2], ![3, 2], ![2, 2]]
  | 16 => ![![1, 1], ![2, 2], ![3, 3], ![2, 2]]
  | 17 => ![![1, 1], ![2, 2], ![3, 3], ![3, 2]]
  | 18 => ![![1, 1], ![2, 2], ![3, 3], ![3, 3]]
  | 19 => ![![1, 1], ![2, 2], ![3, 3], ![4, 3]]
  | _ => ![![1, 1], ![2, 2], ![3, 3], ![4, 4]]

/-- One block taking one tile more. -/
def cup (n : Fin 4 → Fin 2 → ℕ) (u : Fin 4) (a : Fin 2) (u' : Fin 4) (a' : Fin 2) : ℕ := if u' = u ∧ a' = a then n u' a' + 1 else n u' a'

theorem good_cnt (arg9 arg10 : Memref sig .tc .vmem S4x2x512x128 .f32) (t : Fin 4 → Fin 2 → Fin 512 → ℕ → EReal) (w : Fin 2 → Fin 128 → ℕ → EReal)
    (n0 : ℕ) (n : Fin 4 → Fin 2 → ℕ) (g9 : arg9.view.ty.Contents (Elt Ideal)) (g10 : arg10.view.ty.Contents (Elt Ideal))
    (L9 L10 : List (View.Piece (Elt Ideal) S4x2x512x128 .f32))
    (h : Good arg9 arg10 t w (fun u a => n0 + 512 * n u a) (arg9.view.writes (Elt Ideal) g9 L9) (arg10.view.writes (Elt Ideal) g10 L10))
    (d : Fin 4) (u : Fin 4) (a : Fin 2) (hn : n u a = d.val) (s : FVec Ideal S512x512 .f32) (m A : Vec Ideal S1x1x512x128 .f32) (W : FVec Ideal S512x128 .bf16)
    (hm : ∀ (r : Fin 512) (l : Fin 128), (m (ix4 0 0 r l) : EReal) = top (t u a r) (n0 + 512 * n u a))
    (hA : ∀ (r : Fin 512) (l : Fin 128), (A (ix4 0 0 r l) : EReal) = wsum (t u a r) (w a l) (n0 + 512 * n u a))
    (hs : ∀ r c : Fin 512, (s (ix2 r c) : EReal) = t u a r (n0 + 512 * d.val + c.val))
    (hw : ∀ (c : Fin 512) (l : Fin 128), (W (ix2 c l) : EReal) = w a l (n0 + 512 * d.val + c.val)) :
    Good arg9 arg10 t w (fun u' a' => n0 + 512 * cup n u a u' a') (arg9.view.writes (Elt Ideal) g9 (⟨rectM u a, putM s m⟩ :: L9))
      (arg10.view.writes (Elt Ideal) g10 (⟨rectM u a, putA s m A W⟩ :: L10)) := by
  have e : (fun u' a' => n0 + 512 * cup n u a u' a') = upd (fun u a => n0 + 512 * n u a) u a := by
    funext u' a'
    unfold cup upd
    dsimp only
    split <;> omega
  rw [e]
  refine good_step arg9 arg10 t w _ g9 g10 L9 L10 h u a s m A W hm hA ?_ ?_
  · intro r c; rw [hn]; exact hs r c
  · intro c l; rw [hn]; exact hw c l

section

variable (c : Dev nD) (i : grid0.Coords) (arg3 : Memref sig .tc .vmem S1x2048x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x1x2048x2 .f32) (harg7 : arg7.IsWhole) (arg8 : Memref sig .tc .vmem S1x2048x128 .bf16) (harg8 : arg8.IsWhole) (arg9 : Memref sig .tc .vmem S4x2x512x128 .f32) (harg9 : arg9.IsWhole) (arg10 : Memref sig .tc .vmem S4x2x512x128 .f32) (harg10 : arg10.IsWhole) (arg11 : Memref sig .tc .vmem S4x2x512x512 .f32) (harg11 : arg11.IsWhole)
  (x0 : Vec Ideal S1x2048x128 .bf16) (x1 : Vec Ideal S1x4096x128 .bf16) (x2 : Vec Ideal S1x4096x128 .bf16) (x3 : Vec Ideal S1x1x8x2x512 .f32) (x4 : Vec Ideal S1x1x2048x2 .f32)
  (t : Fin 4 → Fin 2 → Fin 512 → ℕ → EReal) (w : Fin 2 → Fin 128 → ℕ → EReal) (n0 : ℕ)
  (hd0 : ∀ (d u : Fin 4), d < u → ∀ (r c' : Fin 512), (tileS (qQ arg3 harg3 x0 u 0) (kD i arg4 (harg4.unread x1) d) (ckD0 i arg6 (harg6.unread x3) d) (cT arg11 (X11 c arg7 harg7 arg11 x4) u 0) (ix2 r c') : EReal) = t u 0 r (n0 + 512 * d.val + c'.val))
  (hd1 : ∀ (d u : Fin 4), d < u → ∀ (r c' : Fin 512), (tileS (qQ arg3 harg3 x0 u 1) (kD i arg4 (harg4.unread x1) d) (ckD1 i arg6 (harg6.unread x3) d) (cT arg11 (X11 c arg7 harg7 arg11 x4) u 1) (ix2 r c') : EReal) = t u 1 r (n0 + 512 * d.val + c'.val))
  (hm0 : ∀ (u : Fin 4) (r c' : Fin 512), (maskS (tileS (qQ arg3 harg3 x0 u 0) (kD i arg4 (harg4.unread x1) u) (ckD0 i arg6 (harg6.unread x3) u) (cT arg11 (X11 c arg7 harg7 arg11 x4) u 0)) (ix2 r c') : EReal) = t u 0 r (n0 + 512 * u.val + c'.val))
  (hm1 : ∀ (u : Fin 4) (r c' : Fin 512), (maskS (tileS (qQ arg3 harg3 x0 u 1) (kD i arg4 (harg4.unread x1) u) (ckD1 i arg6 (harg6.unread x3) u) (cT arg11 (X11 c arg7 harg7 arg11 x4) u 1)) (ix2 r c') : EReal) = t u 1 r (n0 + 512 * u.val + c'.val))
  (hw0 : ∀ (d : Fin 4) (c' : Fin 512) (l : Fin 128), (halfW k0_pay118 (vD i arg5 (harg5.unread x2) d) (ix2 c' l) : EReal) = w 0 l (n0 + 512 * d.val + c'.val))
  (hw1 : ∀ (d : Fin 4) (c' : Fin 512) (l : Fin 128), (halfW k0_pay119 (vD i arg5 (harg5.unread x2) d) (ix2 c' l) : EReal) = w 1 l (n0 + 512 * d.val + c'.val))
include hd0 hd1 hm0 hm1 hw0 hw1

theorem diag_1 (h : Good arg9 arg10 t w (fun u a => n0 + 512 * cn 0 u a) (arg9.view.writes (Elt Ideal) arg9.view.junk ((pb_k0_t1 (F := Ideal) Variants.none c none i arg3 harg3 arg4 harg4 arg5 harg5 arg6 harg6 arg7 harg7 arg8 harg8 arg9 harg9 arg10 harg10 arg11 harg11 0#32 k0_pay118 k0_pay119 (qQ arg3 harg3 x0 0 0) (qQ arg3 harg3 x0 0 1) (qQ arg3 harg3 x0 1 0) (qQ arg3 harg3 x0 1 1) (qQ arg3 harg3 x0 2 0) (qQ arg3 harg3 x0 2 1) (qQ arg3 harg3 x0 3 0) (qQ arg3 harg3 x0 3 1) 0#32 0#32 1#32 (harg4.unread x1) (harg5.unread x2) (harg6.unread x3) (X11 c arg7 harg7 arg11 x4) (arg9.view.writes (Elt Ideal) arg9.view.junk (kernelRun0_A.sl.HS0_1 (F := Ideal))) (arg10.view.writes (Elt Ideal) arg10.view.junk (kernelRun0_A.sl.HS1_1 (F := Ideal))) (k0_t1_loop i).trips).1 ++ kernelRun0_A.sl.HS0_1 (F := Ideal))) (arg10.view.writes (Elt Ideal) arg10.view.junk ((pb_k0_t1 (F := Ideal) Variants.none c none i arg3 harg3 arg4 harg4 arg5 harg5 arg6 harg6 arg7 harg7 arg8 harg8 arg9 harg9 arg10 harg10 arg11 harg11 0#32 k0_pay118 k0_pay119 (qQ arg3 harg3 x0 0 0) (qQ arg3 harg3 x0 0 1) (qQ arg3 harg3 x0 1 0) (qQ arg3 harg3 x0 1 1) (qQ arg3 harg3 x0 2 0) (qQ arg3 harg3 x0 2 1) (qQ arg3 harg3 x0 3 0) (qQ arg3 harg3 x0 3 1) 0#32 0#32 1#32 (harg4.unread x1) (harg5.unread x2) (harg6.unread x3) (X11 c arg7 harg7 arg11 x4) (arg9.view.writes (Elt Ideal) arg9.view.junk (kernelRun0_A.sl.HS0_1 (F := Ideal))) (arg10.view.writes (Elt Ideal) arg10.view.junk (kernelRun0_A.sl.HS1_1 (F := Ideal))) (k0_t1_loop i).trips).2 ++ kernelRun0_A.sl.HS1_1 (F := Ideal)))) :
    Good arg9 arg10 t w (fun u a => n0 + 512 * cn 1 u a) (arg9.view.writes (Elt Ideal) arg9.view.junk (kernelRun0_A.sl.HS0_1_1 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_1_1 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 0) _ _ _ _ h 0 0 0 (by decide) (maskS (tileS (qQ arg3 harg3 x0 0 0) (kD i arg4 (harg4.unread x1) 0) (ckD0 i arg6 (harg6.unread x3) 0) (cT arg11 (X11 c arg7 harg7 arg11 x4) 0 0)))
    (rdM arg9 (arg9.view.writes (Elt Ideal) arg9.view.junk ((pb_k0_t1 (F := Ideal) Variants.none c none i arg3 harg3 arg4 harg4 arg5 harg5 arg6 harg6 arg7 harg7 arg8 harg8 arg9 harg9 arg10 harg10 arg11 harg11 0#32 k0_pay118 k0_pay119 (qQ arg3 harg3 x0 0 0) (qQ arg3 harg3 x0 0 1) (qQ arg3 harg3 x0 1 0) (qQ arg3 harg3 x0 1 1) (qQ arg3 harg3 x0 2 0) (qQ arg3 harg3 x0 2 1) (qQ arg3 harg3 x0 3 0) (qQ arg3 harg3 x0 3 1) 0#32 0#32 1#32 (harg4.unread x1) (harg5.unread x2) (harg6.unread x3) (X11 c arg7 harg7 arg11 x4) (arg9.view.writes (Elt Ideal) arg9.view.junk (kernelRun0_A.sl.HS0_1 (F := Ideal))) (arg10.view.writes (Elt Ideal) arg10.view.junk (kernelRun0_A.sl.HS1_1 (F := Ideal))) (k0_t1_loop i).trips).1 ++ kernelRun0_A.sl.HS0_1 (F := Ideal))) 0 0) (rdM arg10 (arg10.view.writes (Elt Ideal) arg10.view.junk ((pb_k0_t1 (F := Ideal) Variants.none c none i arg3 harg3 arg4 harg4 arg5 harg5 arg6 harg6 arg7 harg7 arg8 harg8 arg9 harg9 arg10 harg10 arg11 harg11 0#32 k0_pay118 k0_pay119 (qQ arg3 harg3 x0 0 0) (qQ arg3 harg3 x0 0 1) (qQ arg3 harg3 x0 1 0) (qQ arg3 harg3 x0 1 1) (qQ arg3 harg3 x0 2 0) (qQ arg3 harg3 x0 2 1) (qQ arg3 harg3 x0 3 0) (qQ arg3 harg3 x0 3 1) 0#32 0#32 1#32 (harg4.unread x1) (harg5.unread x2) (harg6.unread x3) (X11 c arg7 harg7 arg11 x4) (arg9.view.writes (Elt Ideal) arg9.view.junk (kernelRun0_A.sl.HS0_1 (F := Ideal))) (arg10.view.writes (Elt Ideal) arg10.view.junk (kernelRun0_A.sl.HS1_1 (F := Ideal))) (k0_t1_loop i).trips).2 ++ kernelRun0_A.sl.HS1_1 (F := Ideal))) 0 0)
    (halfW k0_pay118 (vD i arg5 (harg5.unread x2) 0)) (fun r l => (rdM_ix arg9 _ 0 0 r l).trans (h 0 0 r l).1) (fun r l => (rdM_ix arg10 _ 0 0 r l).trans (h 0 0 r l).2)
    (hm0 0) (hw0 0)
  have e : cup (cn 0) 0 0 = cn 1 := by decide
  rw [e] at h'
  exact h'

theorem diag_2 (h : Good arg9 arg10 t w (fun u a => n0 + 512 * cn 1 u a) (arg9.view.writes (Elt Ideal) arg9.view.junk (kernelRun0_A.sl.HS0_1_1 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_1_1 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 2 u a) (arg9.view.writes (Elt Ideal) arg9.view.junk (kernelRun0_A.sl.HS0_2 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_2 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 1) _ _ _ _ h 0 0 1 (by decide) (maskS (tileS (qQ arg3 harg3 x0 0 1) (kD i arg4 (harg4.unread x1) 0) (ckD1 i arg6 (harg6.unread x3) 0) (cT arg11 (X11 c arg7 harg7 arg11 x4) 0 1)))
    (rdM arg9 (arg9.view.writes (Elt Ideal) arg9.view.junk (kernelRun0_A.sl.HS0_1_1 (F := Ideal) c i arg3 harg3 arg4 harg4 arg5 harg5 arg6 harg6 arg7 harg7 arg8 harg8 arg9 harg9 arg10 harg10 arg11 harg11 x0 x1 x2 x3 x4)) 0 1) (rdM arg10 (arg10.view.writes (Elt Ideal) arg10.view.junk (kernelRun0_A.sl.HS1_1_1 (F := Ideal) c i arg3 harg3 arg4 harg4 arg5 harg5 arg6 harg6 arg7 harg7 arg8 harg8 arg9 harg9 arg10 harg10 arg11 harg11 x0 x1 x2 x3 x4)) 0 1)
    (halfW k0_pay119 (vD i arg5 (harg5.unread x2) 0)) (fun r l => (rdM_ix arg9 _ 0 1 r l).trans (h 0 1 r l).1) (fun r l => (rdM_ix arg10 _ 0 1 r l).trans (h 0 1 r l).2)
    (hm1 0) (hw1 0)
  have e : cup (cn 1) 0 1 = cn 2 := by decide
  rw [e] at h'
  exact h'

theorem diag_3 (h : Good arg9 arg10 t w (fun u a => n0 + 512 * cn 2 u a) (arg9.view.writes (Elt Ideal) arg9.view.junk (kernelRun0_A.sl.HS0_2 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_2 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 3 u a) (arg9.view.writes (Elt Ideal) arg9.view.junk (kernelRun0_A.sl.HS0_3 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_3 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 2) _ _ _ _ h 0 1 0 (by decide) (tileS (qQ arg3 harg3 x0 1 0) (kD i arg4 (harg4.unread x1) 0) (ckD0 i arg6 (harg6.unread x3) 0) (cT arg11 (X11 c arg7 harg7 arg11 x4) 1 0))
    (rdM arg9 (arg9.view.writes (Elt Ideal) arg9.view.junk (kernelRun0_A.sl.HS0_2 (F := Ideal) c i arg3 harg3 arg4 harg4 arg5 harg5 arg6 harg6 arg7 harg7 arg8 harg8 arg9 harg9 arg10 harg10 arg11 harg11 x0 x1 x2 x3 x4)) 1 0) (rdM arg10 (arg10.view.writes (Elt Ideal) arg10.view.junk (kernelRun0_A.sl.HS1_2 (F := Ideal) c i arg3 harg3 arg4 harg4 arg5 harg5 arg6 harg6 arg7 harg7 arg8 harg8 arg9 harg9 arg10 harg10 arg11 harg11 x0 x1 x2 x3 x4)) 1 0)
    (halfW k0_pay118 (vD i arg5 (harg5.unread x2) 0)) (fun r l => (rdM_ix arg9 _ 1 0 r l).trans (h 1 0 r l).1) (fun r l => (rdM_ix arg10 _ 1 0 r l).trans (h 1 0 r l).2)
    (hd0 0 1 (by decide)) (hw0 0)
  have e : cup (cn 2) 1 0 = cn 3 := by decide
  rw [e] at h'
  exact h'

theorem diag_4 (h : Good arg9 arg10 t w (fun u a => n0 + 512 * cn 3 u a) (arg9.view.writes (Elt Ideal) arg9.view.junk (kernelRun0_A.sl.HS0_3 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_3 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 4 u a) (arg9.view.writes (Elt Ideal) arg9.view.junk (kernelRun0_A.sl.HS0_4 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_4 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 3) _ _ _ _ h 0 1 1 (by decide) (tileS (qQ arg3 harg3 x0 1 1) (kD i arg4 (harg4.unread x1) 0) (ckD1 i arg6 (harg6.unread x3) 0) (cT arg11 (X11 c arg7 harg7 arg11 x4) 1 1))
    (rdM arg9 (arg9.view.writes (Elt Ideal) arg9.view.junk (kernelRun0_A.sl.HS0_3 (F := Ideal) c i arg3 harg3 arg4 harg4 arg5 harg5 arg6 harg6 arg7 harg7 arg8 harg8 arg9 harg9 arg10 harg10 arg11 harg11 x0 x1 x2 x3 x4)) 1 1) (rdM arg10 (arg10.view.writes (Elt Ideal) arg10.view.junk (kernelRun0_A.sl.HS1_3 (F := Ideal) c i arg3 harg3 arg4 harg4 arg5 harg5 arg6 harg6 arg7 harg7 arg8 harg8 arg9 harg9 arg10 harg10 arg11 harg11 x0 x1 x2 x3 x4)) 1 1)
    (halfW k0_pay119 (vD i arg5 (harg5.unread x2) 0)) (fun r l => (rdM_ix arg9 _ 1 1 r l).trans (h 1 1 r l).1) (fun r l => (rdM_ix arg10 _ 1 1 r l).trans (h 1 1 r l).2)
    (hd1 0 1 (by decide)) (hw1 0)
  have e : cup (cn 3) 1 1 = cn 4 := by decide
  rw [e] at h'
  exact h'

theorem diag_5 (h : Good arg9 arg10 t w (fun u a => n0 + 512 * cn 4 u a) (arg9.view.writes (Elt Ideal) arg9.view.junk (kernelRun0_A.sl.HS0_4 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_4 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 5 u a) (arg9.view.writes (Elt Ideal) arg9.view.junk (kernelRun0_A.sl.HS0_5 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_5 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 4) _ _ _ _ h 0 2 0 (by decide) (tileS (qQ arg3 harg3 x0 2 0) (kD i arg4 (harg4.unread x1) 0) (ckD0 i arg6 (harg6.unread x3) 0) (cT arg11 (X11 c arg7 harg7 arg11 x4) 2 0))
    (rdM arg9 (arg9.view.writes (Elt Ideal) arg9.view.junk (kernelRun0_A.sl.HS0_4 (F := Ideal) c i arg3 harg3 arg4 harg4 arg5 harg5 arg6 harg6 arg7 harg7 arg8 harg8 arg9 harg9 arg10 harg10 arg11 harg11 x0 x1 x2 x3 x4)) 2 0) (rdM arg10 (arg10.view.writes (Elt Ideal) arg10.view.junk (kernelRun0_A.sl.HS1_4 (F := Ideal) c i arg3 harg3 arg4 harg4 arg5 harg5 arg6 harg6 arg7 harg7 arg8 harg8 arg9 harg9 arg10 harg10 arg11 harg11 x0 x1 x2 x3 x4)) 2 0)
    (halfW k0_pay118 (vD i arg5 (harg5.unread x2) 0)) (fun r l => (rdM_ix arg9 _ 2 0 r l).trans (h 2 0 r l).1) (fun r l => (rdM_ix arg10 _ 2 0 r l).trans (h 2 0 r l).2)
    (hd0 0 2 (by decide)) (hw0 0)
  have e : cup (cn 4) 2 0 = cn 5 := by decide
  rw [e] at h'
  exact h'

theorem diag_6 (h : Good arg9 arg10 t w (fun u a => n0 + 512 * cn 5 u a) (arg9.view.writes (Elt Ideal) arg9.view.junk (kernelRun0_A.sl.HS0_5 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_5 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 6 u a) (arg9.view.writes (Elt Ideal) arg9.view.junk (kernelRun0_A.sl.HS0_6 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_6 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 5) _ _ _ _ h 0 2 1 (by decide) (tileS (qQ arg3 harg3 x0 2 1) (kD i arg4 (harg4.unread x1) 0) (ckD1 i arg6 (harg6.unread x3) 0) (cT arg11 (X11 c arg7 harg7 arg11 x4) 2 1))
    (rdM arg9 (arg9.view.writes (Elt Ideal) arg9.view.junk (kernelRun0_A.sl.HS0_5 (F := Ideal) c i arg3 harg3 arg4 harg4 arg5 harg5 arg6 harg6 arg7 harg7 arg8 harg8 arg9 harg9 arg10 harg10 arg11 harg11 x0 x1 x2 x3 x4)) 2 1) (rdM arg10 (arg10.view.writes (Elt Ideal) arg10.view.junk (kernelRun0_A.sl.HS1_5 (F := Ideal) c i arg3 harg3 arg4 harg4 arg5 harg5 arg6 harg6 arg7 harg7 arg8 harg8 arg9 harg9 arg10 harg10 arg11 harg11 x0 x1 x2 x3 x4)) 2 1)
    (halfW k0_pay119 (vD i arg5 (harg5.unread x2) 0)) (fun r l => (rdM_ix arg9 _ 2 1 r l).trans (h 2 1 r l).1) (fun r l => (rdM_ix arg10 _ 2 1 r l).trans (h 2 1 r l).2)
    (hd1 0 2 (by decide)) (hw1 0)
  have e : cup (cn 5) 2 1 = cn 6 := by decide
  rw [e] at h'
  exact h'

theorem diag_7 (h : Good arg9 arg10 t w (fun u a => n0 + 512 * cn 6 u a) (arg9.view.writes (Elt Ideal) arg9.view.junk (kernelRun0_A.sl.HS0_6 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_6 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 7 u a) (arg9.view.writes (Elt Ideal) arg9.view.junk (kernelRun0_A.sl.HS0_7 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_7 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 6) _ _ _ _ h 0 3 0 (by decide) (tileS (qQ arg3 harg3 x0 3 0) (kD i arg4 (harg4.unread x1) 0) (ckD0 i arg6 (harg6.unread x3) 0) (cT arg11 (X11 c arg7 harg7 arg11 x4) 3 0))
    (rdM arg9 (arg9.view.writes (Elt Ideal) arg9.view.junk (kernelRun0_A.sl.HS0_6 (F := Ideal) c i arg3 harg3 arg4 harg4 arg5 harg5 arg6 harg6 arg7 harg7 arg8 harg8 arg9 harg9 arg10 harg10 arg11 harg11 x0 x1 x2 x3 x4)) 3 0) (rdM arg10 (arg10.view.writes (Elt Ideal) arg10.view.junk (kernelRun0_A.sl.HS1_6 (F := Ideal) c i arg3 harg3 arg4 harg4 arg5 harg5 arg6 harg6 arg7 harg7 arg8 harg8 arg9 harg9 arg10 harg10 arg11 harg11 x0 x1 x2 x3 x4)) 3 0)
    (halfW k0_pay118 (vD i arg5 (harg5.unread x2) 0)) (fun r l => (rdM_ix arg9 _ 3 0 r l).trans (h 3 0 r l).1) (fun r l => (rdM_ix arg10 _ 3 0 r l).trans (h 3 0 r l).2)
    (hd0 0 3 (by decide)) (hw0 0)
  have e : cup (cn 6) 3 0 = cn 7 := by decide
  rw [e] at h'
  exact h'

theorem diag_8 (h : Good arg9 arg10 t w (fun u a => n0 + 512 * cn 7 u a) (arg9.view.writes (Elt Ideal) arg9.view.junk (kernelRun0_A.sl.HS0_7 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_7 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 8 u a) (arg9.view.writes (Elt Ideal) arg9.view.junk (kernelRun0_A.sl.HS0_8 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_8 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 7) _ _ _ _ h 0 3 1 (by decide) (tileS (qQ arg3 harg3 x0 3 1) (kD i arg4 (harg4.unread x1) 0) (ckD1 i arg6 (harg6.unread x3) 0) (cT arg11 (X11 c arg7 harg7 arg11 x4) 3 1))
    (rdM arg9 (arg9.view.writes (Elt Ideal) arg9.view.junk (kernelRun0_A.sl.HS0_7 (F := Ideal) c i arg3 harg3 arg4 harg4 arg5 harg5 arg6 harg6 arg7 harg7 arg8 harg8 arg9 harg9 arg10 harg10 arg11 harg11 x0 x1 x2 x3 x4)) 3 1) (rdM arg10 (arg10.view.writes (Elt Ideal) arg10.view.junk (kernelRun0_A.sl.HS1_7 (F := Ideal) c i arg3 harg3 arg4 harg4 arg5 harg5 arg6 harg6 arg7 harg7 arg8 harg8 arg9 harg9 arg10 harg10 arg11 harg11 x0 x1 x2 x3 x4)) 3 1)
    (halfW k0_pay119 (vD i arg5 (harg5.unread x2) 0)) (fun r l => (rdM_ix arg9 _ 3 1 r l).trans (h 3 1 r l).1) (fun r l => (rdM_ix arg10 _ 3 1 r l).trans (h 3 1 r l).2)
    (hd1 0 3 (by decide)) (hw1 0)
  have e : cup (cn 7) 3 1 = cn 8 := by decide
  rw [e] at h'
  exact h'

theorem diag_9 (h : Good arg9 arg10 t w (fun u a => n0 + 512 * cn 8 u a) (arg9.view.writes (Elt Ideal) arg9.view.junk (kernelRun0_A.sl.HS0_8 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_8 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 9 u a) (arg9.view.writes (Elt Ideal) arg9.view.junk (kernelRun0_A.sl.HS0_9 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_9 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 8) _ _ _ _ h 1 1 0 (by decide) (maskS (tileS (qQ arg3 harg3 x0 1 0) (kD i arg4 (harg4.unread x1) 1) (ckD0 i arg6 (harg6.unread x3) 1) (cT arg11 (X11 c arg7 harg7 arg11 x4) 1 0)))
    (rdM arg9 (arg9.view.writes (Elt Ideal) arg9.view.junk (kernelRun0_A.sl.HS0_8 (F := Ideal) c i arg3 harg3 arg4 harg4 arg5 harg5 arg6 harg6 arg7 harg7 arg8 harg8 arg9 harg9 arg10 harg10 arg11 harg11 x0 x1 x2 x3 x4)) 1 0) (rdM arg10 (arg10.view.writes (Elt Ideal) arg10.view.junk (kernelRun0_A.sl.HS1_8 (F := Ideal) c i arg3 harg3 arg4 harg4 arg5 harg5 arg6 harg6 arg7 harg7 arg8 harg8 arg9 harg9 arg10 harg10 arg11 harg11 x0 x1 x2 x3 x4)) 1 0)
    (halfW k0_pay118 (vD i arg5 (harg5.unread x2) 1)) (fun r l => (rdM_ix arg9 _ 1 0 r l).trans (h 1 0 r l).1) (fun r l => (rdM_ix arg10 _ 1 0 r l).trans (h 1 0 r l).2)
    (hm0 1) (hw0 1)
  have e : cup (cn 8) 1 0 = cn 9 := by decide
  rw [e] at h'
  exact h'

theorem diag_10 (h : Good arg9 arg10 t w (fun u a => n0 + 512 * cn 9 u a) (arg9.view.writes (Elt Ideal) arg9.view.junk (kernelRun0_A.sl.HS0_9 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_9 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 10 u a) (arg9.view.writes (Elt Ideal) arg9.view.junk (kernelRun0_A.sl.HS0_10 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_10 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 9) _ _ _ _ h 1 1 1 (by decide) (maskS (tileS (qQ arg3 harg3 x0 1 1) (kD i arg4 (harg4.unread x1) 1) (ckD1 i arg6 (harg6.unread x3) 1) (cT arg11 (X11 c arg7 harg7 arg11 x4) 1 1)))
    (rdM arg9 (arg9.view.writes (Elt Ideal) arg9.view.junk (kernelRun0_A.sl.HS0_9 (F := Ideal) c i arg3 harg3 arg4 harg4 arg5 harg5 arg6 harg6 arg7 harg7 arg8 harg8 arg9 harg9 arg10 harg10 arg11 harg11 x0 x1 x2 x3 x4)) 1 1) (rdM arg10 (arg10.view.writes (Elt Ideal) arg10.view.junk (kernelRun0_A.sl.HS1_9 (F := Ideal) c i arg3 harg3 arg4 harg4 arg5 harg5 arg6 harg6 arg7 harg7 arg8 harg8 arg9 harg9 arg10 harg10 arg11 harg11 x0 x1 x2 x3 x4)) 1 1)
    (halfW k0_pay119 (vD i arg5 (harg5.unread x2) 1)) (fun r l => (rdM_ix arg9 _ 1 1 r l).trans (h 1 1 r l).1) (fun r l => (rdM_ix arg10 _ 1 1 r l).trans (h 1 1 r l).2)
    (hm1 1) (hw1 1)
  have e : cup (cn 9) 1 1 = cn 10 := by decide
  rw [e] at h'
  exact h'

theorem diag_11 (h : Good arg9 arg10 t w (fun u a => n0 + 512 * cn 10 u a) (arg9.view.writes (Elt Ideal) arg9.view.junk (kernelRun0_A.sl.HS0_10 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_10 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 11 u a) (arg9.view.writes (Elt Ideal) arg9.view.junk (kernelRun0_A.sl.HS0_11 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_11 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 10) _ _ _ _ h 1 2 0 (by decide) (tileS (qQ arg3 harg3 x0 2 0) (kD i arg4 (harg4.unread x1) 1) (ckD0 i arg6 (harg6.unread x3) 1) (cT arg11 (X11 c arg7 harg7 arg11 x4) 2 0))
    (rdM arg9 (arg9.view.writes (Elt Ideal) arg9.view.junk (kernelRun0_A.sl.HS0_10 (F := Ideal) c i arg3 harg3 arg4 harg4 arg5 harg5 arg6 harg6 arg7 harg7 arg8 harg8 arg9 harg9 arg10 harg10 arg11 harg11 x0 x1 x2 x3 x4)) 2 0) (rdM arg10 (arg10.view.writes (Elt Ideal) arg10.view.junk (kernelRun0_A.sl.HS1_10 (F := Ideal) c i arg3 harg3 arg4 harg4 arg5 harg5 arg6 harg6 arg7 harg7 arg8 harg8 arg9 harg9 arg10 harg10 arg11 harg11 x0 x1 x2 x3 x4)) 2 0)
    (halfW k0_pay118 (vD i arg5 (harg5.unread x2) 1)) (fun r l => (rdM_ix arg9 _ 2 0 r l).trans (h 2 0 r l).1) (fun r l => (rdM_ix arg10 _ 2 0 r l).trans (h 2 0 r l).2)
    (hd0 1 2 (by decide)) (hw0 1)
  have e : cup (cn 10) 2 0 = cn 11 := by decide
  rw [e] at h'
  exact h'

theorem diag_12 (h : Good arg9 arg10 t w (fun u a => n0 + 512 * cn 11 u a) (arg9.view.writes (Elt Ideal) arg9.view.junk (kernelRun0_A.sl.HS0_11 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_11 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 12 u a) (arg9.view.writes (Elt Ideal) arg9.view.junk (kernelRun0_A.sl.HS0_12 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_12 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 11) _ _ _ _ h 1 2 1 (by decide) (tileS (qQ arg3 harg3 x0 2 1) (kD i arg4 (harg4.unread x1) 1) (ckD1 i arg6 (harg6.unread x3) 1) (cT arg11 (X11 c arg7 harg7 arg11 x4) 2 1))
    (rdM arg9 (arg9.view.writes (Elt Ideal) arg9.view.junk (kernelRun0_A.sl.HS0_11 (F := Ideal) c i arg3 harg3 arg4 harg4 arg5 harg5 arg6 harg6 arg7 harg7 arg8 harg8 arg9 harg9 arg10 harg10 arg11 harg11 x0 x1 x2 x3 x4)) 2 1) (rdM arg10 (arg10.view.writes (Elt Ideal) arg10.view.junk (kernelRun0_A.sl.HS1_11 (F := Ideal) c i arg3 harg3 arg4 harg4 arg5 harg5 arg6 harg6 arg7 harg7 arg8 harg8 arg9 harg9 arg10 harg10 arg11 harg11 x0 x1 x2 x3 x4)) 2 1)
    (halfW k0_pay119 (vD i arg5 (harg5.unread x2) 1)) (fun r l => (rdM_ix arg9 _ 2 1 r l).trans (h 2 1 r l).1) (fun r l => (rdM_ix arg10 _ 2 1 r l).trans (h 2 1 r l).2)
    (hd1 1 2 (by decide)) (hw1 1)
  have e : cup (cn 11) 2 1 = cn 12 := by decide
  rw [e] at h'
  exact h'

theorem diag_13 (h : Good arg9 arg10 t w (fun u a => n0 + 512 * cn 12 u a) (arg9.view.writes (Elt Ideal) arg9.view.junk (kernelRun0_A.sl.HS0_12 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_12 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 13 u a) (arg9.view.writes (Elt Ideal) arg9.view.junk (kernelRun0_A.sl.HS0_13 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_13 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 12) _ _ _ _ h 1 3 0 (by decide) (tileS (qQ arg3 harg3 x0 3 0) (kD i arg4 (harg4.unread x1) 1) (ckD0 i arg6 (harg6.unread x3) 1) (cT arg11 (X11 c arg7 harg7 arg11 x4) 3 0))
    (rdM arg9 (arg9.view.writes (Elt Ideal) arg9.view.junk (kernelRun0_A.sl.HS0_12 (F := Ideal) c i arg3 harg3 arg4 harg4 arg5 harg5 arg6 harg6 arg7 harg7 arg8 harg8 arg9 harg9 arg10 harg10 arg11 harg11 x0 x1 x2 x3 x4)) 3 0) (rdM arg10 (arg10.view.writes (Elt Ideal) arg10.view.junk (kernelRun0_A.sl.HS1_12 (F := Ideal) c i arg3 harg3 arg4 harg4 arg5 harg5 arg6 harg6 arg7 harg7 arg8 harg8 arg9 harg9 arg10 harg10 arg11 harg11 x0 x1 x2 x3 x4)) 3 0)
    (halfW k0_pay118 (vD i arg5 (harg5.unread x2) 1)) (fun r l => (rdM_ix arg9 _ 3 0 r l).trans (h 3 0 r l).1) (fun r l => (rdM_ix arg10 _ 3 0 r l).trans (h 3 0 r l).2)
    (hd0 1 3 (by decide)) (hw0 1)
  have e : cup (cn 12) 3 0 = cn 13 := by decide
  rw [e] at h'
  exact h'

theorem diag_14 (h : Good arg9 arg10 t w (fun u a => n0 + 512 * cn 13 u a) (arg9.view.writes (Elt Ideal) arg9.view.junk (kernelRun0_A.sl.HS0_13 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_13 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 14 u a) (arg9.view.writes (Elt Ideal) arg9.view.junk (kernelRun0_A.sl.HS0_14 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_14 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 13) _ _ _ _ h 1 3 1 (by decide) (tileS (qQ arg3 harg3 x0 3 1) (kD i arg4 (harg4.unread x1) 1) (ckD1 i arg6 (harg6.unread x3) 1) (cT arg11 (X11 c arg7 harg7 arg11 x4) 3 1))
    (rdM arg9 (arg9.view.writes (Elt Ideal) arg9.view.junk (kernelRun0_A.sl.HS0_13 (F := Ideal) c i arg3 harg3 arg4 harg4 arg5 harg5 arg6 harg6 arg7 harg7 arg8 harg8 arg9 harg9 arg10 harg10 arg11 harg11 x0 x1 x2 x3 x4)) 3 1) (rdM arg10 (arg10.view.writes (Elt Ideal) arg10.view.junk (kernelRun0_A.sl.HS1_13 (F := Ideal) c i arg3 harg3 arg4 harg4 arg5 harg5 arg6 harg6 arg7 harg7 arg8 harg8 arg9 harg9 arg10 harg10 arg11 harg11 x0 x1 x2 x3 x4)) 3 1)
    (halfW k0_pay119 (vD i arg5 (harg5.unread x2) 1)) (fun r l => (rdM_ix arg9 _ 3 1 r l).trans (h 3 1 r l).1) (fun r l => (rdM_ix arg10 _ 3 1 r l).trans (h 3 1 r l).2)
    (hd1 1 3 (by decide)) (hw1 1)
  have e : cup (cn 13) 3 1 = cn 14 := by decide
  rw [e] at h'
  exact h'

theorem diag_15 (h : Good arg9 arg10 t w (fun u a => n0 + 512 * cn 14 u a) (arg9.view.writes (Elt Ideal) arg9.view.junk (kernelRun0_A.sl.HS0_14 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_14 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 15 u a) (arg9.view.writes (Elt Ideal) arg9.view.junk (kernelRun0_A.sl.HS0_15 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_15 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 14) _ _ _ _ h 2 2 0 (by decide) (maskS (tileS (qQ arg3 harg3 x0 2 0) (kD i arg4 (harg4.unread x1) 2) (ckD0 i arg6 (harg6.unread x3) 2) (cT arg11 (X11 c arg7 harg7 arg11 x4) 2 0)))
    (rdM arg9 (arg9.view.writes (Elt Ideal) arg9.view.junk (kernelRun0_A.sl.HS0_14 (F := Ideal) c i arg3 harg3 arg4 harg4 arg5 harg5 arg6 harg6 arg7 harg7 arg8 harg8 arg9 harg9 arg10 harg10 arg11 harg11 x0 x1 x2 x3 x4)) 2 0) (rdM arg10 (arg10.view.writes (Elt Ideal) arg10.view.junk (kernelRun0_A.sl.HS1_14 (F := Ideal) c i arg3 harg3 arg4 harg4 arg5 harg5 arg6 harg6 arg7 harg7 arg8 harg8 arg9 harg9 arg10 harg10 arg11 harg11 x0 x1 x2 x3 x4)) 2 0)
    (halfW k0_pay118 (vD i arg5 (harg5.unread x2) 2)) (fun r l => (rdM_ix arg9 _ 2 0 r l).trans (h 2 0 r l).1) (fun r l => (rdM_ix arg10 _ 2 0 r l).trans (h 2 0 r l).2)
    (hm0 2) (hw0 2)
  have e : cup (cn 14) 2 0 = cn 15 := by decide
  rw [e] at h'
  exact h'

theorem diag_16 (h : Good arg9 arg10 t w (fun u a => n0 + 512 * cn 15 u a) (arg9.view.writes (Elt Ideal) arg9.view.junk (kernelRun0_A.sl.HS0_15 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_15 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 16 u a) (arg9.view.writes (Elt Ideal) arg9.view.junk (kernelRun0_A.sl.HS0_16 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_16 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 15) _ _ _ _ h 2 2 1 (by decide) (maskS (tileS (qQ arg3 harg3 x0 2 1) (kD i arg4 (harg4.unread x1) 2) (ckD1 i arg6 (harg6.unread x3) 2) (cT arg11 (X11 c arg7 harg7 arg11 x4) 2 1)))
    (rdM arg9 (arg9.view.writes (Elt Ideal) arg9.view.junk (kernelRun0_A.sl.HS0_15 (F := Ideal) c i arg3 harg3 arg4 harg4 arg5 harg5 arg6 harg6 arg7 harg7 arg8 harg8 arg9 harg9 arg10 harg10 arg11 harg11 x0 x1 x2 x3 x4)) 2 1) (rdM arg10 (arg10.view.writes (Elt Ideal) arg10.view.junk (kernelRun0_A.sl.HS1_15 (F := Ideal) c i arg3 harg3 arg4 harg4 arg5 harg5 arg6 harg6 arg7 harg7 arg8 harg8 arg9 harg9 arg10 harg10 arg11 harg11 x0 x1 x2 x3 x4)) 2 1)
    (halfW k0_pay119 (vD i arg5 (harg5.unread x2) 2)) (fun r l => (rdM_ix arg9 _ 2 1 r l).trans (h 2 1 r l).1) (fun r l => (rdM_ix arg10 _ 2 1 r l).trans (h 2 1 r l).2)
    (hm1 2) (hw1 2)
  have e : cup (cn 15) 2 1 = cn 16 := by decide
  rw [e] at h'
  exact h'

theorem diag_17 (h : Good arg9 arg10 t w (fun u a => n0 + 512 * cn 16 u a) (arg9.view.writes (Elt Ideal) arg9.view.junk (kernelRun0_A.sl.HS0_16 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_16 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 17 u a) (arg9.view.writes (Elt Ideal) arg9.view.junk (kernelRun0_A.sl.HS0_17 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_17 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 16) _ _ _ _ h 2 3 0 (by decide) (tileS (qQ arg3 harg3 x0 3 0) (kD i arg4 (harg4.unread x1) 2) (ckD0 i arg6 (harg6.unread x3) 2) (cT arg11 (X11 c arg7 harg7 arg11 x4) 3 0))
    (rdM arg9 (arg9.view.writes (Elt Ideal) arg9.view.junk (kernelRun0_A.sl.HS0_16 (F := Ideal) c i arg3 harg3 arg4 harg4 arg5 harg5 arg6 harg6 arg7 harg7 arg8 harg8 arg9 harg9 arg10 harg10 arg11 harg11 x0 x1 x2 x3 x4)) 3 0) (rdM arg10 (arg10.view.writes (Elt Ideal) arg10.view.junk (kernelRun0_A.sl.HS1_16 (F := Ideal) c i arg3 harg3 arg4 harg4 arg5 harg5 arg6 harg6 arg7 harg7 arg8 harg8 arg9 harg9 arg10 harg10 arg11 harg11 x0 x1 x2 x3 x4)) 3 0)
    (halfW k0_pay118 (vD i arg5 (harg5.unread x2) 2)) (fun r l => (rdM_ix arg9 _ 3 0 r l).trans (h 3 0 r l).1) (fun r l => (rdM_ix arg10 _ 3 0 r l).trans (h 3 0 r l).2)
    (hd0 2 3 (by decide)) (hw0 2)
  have e : cup (cn 16) 3 0 = cn 17 := by decide
  rw [e] at h'
  exact h'

theorem diag_18 (h : Good arg9 arg10 t w (fun u a => n0 + 512 * cn 17 u a) (arg9.view.writes (Elt Ideal) arg9.view.junk (kernelRun0_A.sl.HS0_17 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_17 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 18 u a) (arg9.view.writes (Elt Ideal) arg9.view.junk (kernelRun0_A.sl.HS0_18 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_18 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 17) _ _ _ _ h 2 3 1 (by decide) (tileS (qQ arg3 harg3 x0 3 1) (kD i arg4 (harg4.unread x1) 2) (ckD1 i arg6 (harg6.unread x3) 2) (cT arg11 (X11 c arg7 harg7 arg11 x4) 3 1))
    (rdM arg9 (arg9.view.writes (Elt Ideal) arg9.view.junk (kernelRun0_A.sl.HS0_17 (F := Ideal) c i arg3 harg3 arg4 harg4 arg5 harg5 arg6 harg6 arg7 harg7 arg8 harg8 arg9 harg9 arg10 harg10 arg11 harg11 x0 x1 x2 x3 x4)) 3 1) (rdM arg10 (arg10.view.writes (Elt Ideal) arg10.view.junk (kernelRun0_A.sl.HS1_17 (F := Ideal) c i arg3 harg3 arg4 harg4 arg5 harg5 arg6 harg6 arg7 harg7 arg8 harg8 arg9 harg9 arg10 harg10 arg11 harg11 x0 x1 x2 x3 x4)) 3 1)
    (halfW k0_pay119 (vD i arg5 (harg5.unread x2) 2)) (fun r l => (rdM_ix arg9 _ 3 1 r l).trans (h 3 1 r l).1) (fun r l => (rdM_ix arg10 _ 3 1 r l).trans (h 3 1 r l).2)
    (hd1 2 3 (by decide)) (hw1 2)
  have e : cup (cn 17) 3 1 = cn 18 := by decide
  rw [e] at h'
  exact h'

theorem diag_19 (h : Good arg9 arg10 t w (fun u a => n0 + 512 * cn 18 u a) (arg9.view.writes (Elt Ideal) arg9.view.junk (kernelRun0_A.sl.HS0_18 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_18 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 19 u a) (arg9.view.writes (Elt Ideal) arg9.view.junk (kernelRun0_A.sl.HS0_19 (F := Ideal) c i arg3 harg3 arg4 harg4 arg5 harg5 arg6 harg6 arg7 harg7 arg8 harg8 arg9 harg9 arg10 harg10 arg11 harg11 x0 x1 x2 x3 x4))
      (arg10.view.writes (Elt Ideal) arg10.view.junk (kernelRun0_A.sl.HS1_19 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 18) _ _ _ _ h 3 3 0 (by decide) (maskS (tileS (qQ arg3 harg3 x0 3 0) (kD i arg4 (harg4.unread x1) 3) (ckD0 i arg6 (harg6.unread x3) 3) (cT arg11 (X11 c arg7 harg7 arg11 x4) 3 0)))
    (rdM arg9 (arg9.view.writes (Elt Ideal) arg9.view.junk (kernelRun0_A.sl.HS0_18 (F := Ideal) c i arg3 harg3 arg4 harg4 arg5 harg5 arg6 harg6 arg7 harg7 arg8 harg8 arg9 harg9 arg10 harg10 arg11 harg11 x0 x1 x2 x3 x4)) 3 0) (rdM arg10 (arg10.view.writes (Elt Ideal) arg10.view.junk (kernelRun0_A.sl.HS1_18 (F := Ideal) c i arg3 harg3 arg4 harg4 arg5 harg5 arg6 harg6 arg7 harg7 arg8 harg8 arg9 harg9 arg10 harg10 arg11 harg11 x0 x1 x2 x3 x4)) 3 0)
    (halfW k0_pay118 (vD i arg5 (harg5.unread x2) 3)) (fun r l => (rdM_ix arg9 _ 3 0 r l).trans (h 3 0 r l).1) (fun r l => (rdM_ix arg10 _ 3 0 r l).trans (h 3 0 r l).2)
    (hm0 3) (hw0 3)
  have e : cup (cn 18) 3 0 = cn 19 := by decide
  rw [e] at h'
  exact h'

theorem diag_20 (h : Good arg9 arg10 t w (fun u a => n0 + 512 * cn 19 u a) (arg9.view.writes (Elt Ideal) arg9.view.junk (kernelRun0_A.sl.HS0_19 (F := Ideal) c i arg3 harg3 arg4 harg4 arg5 harg5 arg6 harg6 arg7 harg7 arg8 harg8 arg9 harg9 arg10 harg10 arg11 harg11 x0 x1 x2 x3 x4)) (arg10.view.writes (Elt Ideal) arg10.view.junk (kernelRun0_A.sl.HS1_19 (F := Ideal) c i arg3 harg3 arg4 harg4 arg5 harg5 arg6 harg6 arg7 harg7 arg8 harg8 arg9 harg9 arg10 harg10 arg11 harg11 x0 x1 x2 x3 x4))) :
    Good arg9 arg10 t w (fun u a => n0 + 512 * cn 20 u a) (arg9.view.writes (Elt Ideal) arg9.view.junk (⟨rectM 3 1, putM (maskS (tileS (qQ arg3 harg3 x0 3 1) (kD i arg4 (harg4.unread x1) 3) (ckD1 i arg6 (harg6.unread x3) 3) (cT arg11 (X11 c arg7 harg7 arg11 x4) 3 1))) (rdM arg9 (arg9.view.writes (Elt Ideal) arg9.view.junk (kernelRun0_A.sl.HS0_19 (F := Ideal) c i arg3 harg3 arg4 harg4 arg5 harg5 arg6 harg6 arg7 harg7 arg8 harg8 arg9 harg9 arg10 harg10 arg11 harg11 x0 x1 x2 x3 x4)) 3 1)⟩ :: (kernelRun0_A.sl.HS0_19 (F := Ideal) c i arg3 harg3 arg4 harg4 arg5 harg5 arg6 harg6 arg7 harg7 arg8 harg8 arg9 harg9 arg10 harg10 arg11 harg11 x0 x1 x2 x3 x4)))
      (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) := by
  have h' := good_cnt arg9 arg10 t w n0 (cn 19) _ _ _ _ h 3 3 1 (by decide) (maskS (tileS (qQ arg3 harg3 x0 3 1) (kD i arg4 (harg4.unread x1) 3) (ckD1 i arg6 (harg6.unread x3) 3) (cT arg11 (X11 c arg7 harg7 arg11 x4) 3 1)))
    (rdM arg9 (arg9.view.writes (Elt Ideal) arg9.view.junk (kernelRun0_A.sl.HS0_19 (F := Ideal) c i arg3 harg3 arg4 harg4 arg5 harg5 arg6 harg6 arg7 harg7 arg8 harg8 arg9 harg9 arg10 harg10 arg11 harg11 x0 x1 x2 x3 x4)) 3 1) (rdM arg10 (arg10.view.writes (Elt Ideal) arg10.view.junk (kernelRun0_A.sl.HS1_19 (F := Ideal) c i arg3 harg3 arg4 harg4 arg5 harg5 arg6 harg6 arg7 harg7 arg8 harg8 arg9 harg9 arg10 harg10 arg11 harg11 x0 x1 x2 x3 x4)) 3 1)
    (halfW k0_pay119 (vD i arg5 (harg5.unread x2) 3)) (fun r l => (rdM_ix arg9 _ 3 1 r l).trans (h 3 1 r l).1) (fun r l => (rdM_ix arg10 _ 3 1 r l).trans (h 3 1 r l).2)
    (hm1 3) (hw1 3)
  have e : cup (cn 19) 3 1 = cn 20 := by decide
  rw [e] at h'
  exact h'

end

end Cert.FoxI
-- ==== Proof.FoxBase.lean ====
module

public import proofs.«01_k».proof.Proof.FoxDiag

@[expose] public section

set_option maxRecDepth 16384

noncomputable section

/-! The scores and weights of a program of the grid, from its blocks of the arrays. -/

namespace Cert.FoxI

open Cert.Attn Cert.Kernel12Ideal Cert.Kernel12Ideal.Gen Idealize.ShloMosaic Idealize.ShloMosaic.TcCoe

theorem trips_eq (i : grid0.Coords) : (k0_t1_loop i).trips = 4 * (i 2).val := by
  have h : ∀ j : Fin 2, ∀ i : grid0.Coords, i 2 = j → (k0_t1_loop i).trips = 4 * j.val := by
    intro j i hi
    unfold k0_t1_loop
    rw [hi]
    clear hi
    revert j
    decide
  exact h (i 2) i rfl

theorem trips_le (i : grid0.Coords) : (k0_t1_loop i).trips ≤ 4 := by
  rw [trips_eq]
  have : (i 2).val < 2 := (i 2).isLt
  omega

theorem off1_eq (i : grid0.Coords) (k : Fin (k0_t1_loop i).trips) : k0_off1 i k = ![0, 512 * k.val, 0] := by
  have hk : k.val < 4 := lt_of_lt_of_le k.isLt (trips_le i)
  unfold k0_off1
  dsimp only
  generalize k.val = n at hk
  interval_cases n <;> rfl
theorem off2_eq (i : grid0.Coords) (k : Fin (k0_t1_loop i).trips) : k0_off2 i k = ![0, 0, k.val, 0, 0] := by
  have hk : k.val < 4 := lt_of_lt_of_le k.isLt (trips_le i)
  unfold k0_off2
  dsimp only
  generalize k.val = n at hk
  interval_cases n <;> rfl
theorem off3_eq (i : grid0.Coords) (k : Fin (k0_t1_loop i).trips) : k0_off3 i k = ![0, 0, k.val, 1, 0] := by
  have hk : k.val < 4 := lt_of_lt_of_le k.isLt (trips_le i)
  unfold k0_off3
  dsimp only
  generalize k.val = n at hk
  interval_cases n <;> rfl
theorem off7_eq (i : grid0.Coords) (d : Fin 4) : k0_off7 i (BitVec.ofNat 32 d.val) = ![0, 512 * (4 * (i 2).val + d.val), 0] := by
  have h : ∀ j : Fin 2, ∀ i : grid0.Coords, i 2 = j → k0_off7 i (BitVec.ofNat 32 d.val) = ![0, 512 * (4 * j.val + d.val), 0] := by
    intro j i hi
    unfold k0_off7
    rw [hi]
    clear hi
    fin_cases j <;> fin_cases d <;> rfl
  exact h (i 2) i rfl
theorem off8_eq (i : grid0.Coords) (d : Fin 4) : k0_off8 i (BitVec.ofNat 32 d.val) = ![0, 0, 4 * (i 2).val + d.val, 0, 0] := by
  have h : ∀ j : Fin 2, ∀ i : grid0.Coords, i 2 = j → k0_off8 i (BitVec.ofNat 32 d.val) = ![0, 0, 4 * j.val + d.val, 0, 0] := by
    intro j i hi
    unfold k0_off8
    rw [hi]
    clear hi
    fin_cases j <;> fin_cases d <;> rfl
  exact h (i 2) i rfl
theorem off9_eq (i : grid0.Coords) (d : Fin 4) : k0_off9 i (BitVec.ofNat 32 d.val) = ![0, 0, 4 * (i 2).val + d.val, 1, 0] := by
  have h : ∀ j : Fin 2, ∀ i : grid0.Coords, i 2 = j → k0_off9 i (BitVec.ofNat 32 d.val) = ![0, 0, 4 * j.val + d.val, 1, 0] := by
    intro j i hi
    unfold k0_off9
    rw [hi]
    clear hi
    fin_cases j <;> fin_cases d <;> rfl
  exact h (i 2) i rfl

/-- A tile of the keys or values, at an index. -/
theorem tile3_ix (v : Memref sig .tc .vmem S1x4096x128 .bf16) (hv : v.IsWhole) (x : Vec Ideal S1x4096x128 .bf16) (off : Fin 3 → ℕ)
    (inb : ∀ a, off a + S1x512x128.size a ≤ S1x4096x128.size a) (n : ℕ) (hn : n + 512 ≤ 4096) (h : off = ![0, n, 0]) (c : Fin 512) (d : Fin 128) :
    (v.view.readAt (Elt Ideal) (Rect.unit (s := S1x4096x128) off S1x512x128.size inb).toLoadRect (hv.unread x) (ix3 0 c d) : EReal)
      = x (ix3 0 ⟨n + c.val, by omega⟩ d) := by
  subst h
  show v.view.read (Elt Ideal) (hv.unread x) _ = _
  rw [hv.read_unread]
  congr 1
  funext a
  apply Fin.ext
  fin_cases a
  · rfl
  · show n + 1 * c.val = n + c.val; omega
  · show 0 + 1 * d.val = d.val; omega

/-- A tile of the keys' gates, at an index. -/
theorem tile5_ix (v : Memref sig .tc .vmem S1x1x8x2x512 .f32) (hv : v.IsWhole) (x : Vec Ideal S1x1x8x2x512 .f32) (off : Fin 5 → ℕ)
    (inb : ∀ a, off a + S1x1x1x1x512.size a ≤ S1x1x8x2x512.size a) (j : Fin 8) (b : Fin 2) (h : off = ![0, 0, j.val, b.val, 0]) (c : Fin 512) :
    (v.view.readAt (Elt Ideal) (Rect.unit (s := S1x1x8x2x512) off S1x1x1x1x512.size inb).toLoadRect (hv.unread x) (ix5 0 0 0 0 c) : EReal)
      = x (ix5 0 0 j b c) := by
  subst h
  show v.view.read (Elt Ideal) (hv.unread x) _ = _
  rw [hv.read_unread]
  congr 1
  funext a
  apply Fin.ext
  fin_cases a
  · rfl
  · rfl
  · show j.val + 1 * 0 = j.val; omega
  · show b.val + 1 * 0 = b.val; omega
  · show 0 + 1 * c.val = c.val; omega

theorem qR_ix (v : Memref sig .tc .vmem S1x2048x128 .bf16) (hv : v.IsWhole) (x : Vec Ideal S1x2048x128 .bf16) (u : Fin 4) (r : Fin 512) (d : Fin 128) :
    (qR v hv x u (ix3 0 r d) : EReal) = x (ix3 0 ⟨512 * u.val + r.val, by omega⟩ d) := by
  show v.view.read (Elt Ideal) (hv.unread x) _ = _
  rw [hv.read_unread]
  congr 1
  funext a
  apply Fin.ext
  fin_cases a
  · rfl
  · show (![0, 512, 1024, 1536] : Fin 4 → ℕ) u + 1 * r.val = 512 * u.val + r.val
    fin_cases u <;> simp
  · show 0 + 1 * d.val = d.val; omega

/-- The scale of the queries. -/
def κs : EReal := (((1/8) * (Real.log 2)⁻¹ : ℝ) : EReal)

theorem named_eq : (Named.named (F := Ideal) κ (φ := FTy.f32) "log2e_over_8" 0x3E38AA3B#32 : EReal) = κs :=
  IdealRules.named_const.ideal_named_scalar _ _ _ _ rfl

theorem p0_ix (l : Fin 128) : k0_pay118 (ix2 0 l) = if l.val < 64 then 1#1 else 0#1 := by
  unfold k0_pay118
  pointwise
  revert l
  decide
theorem p1_ix (l : Fin 128) : k0_pay119 (ix2 0 l) = if l.val < 64 then 0#1 else 1#1 := by
  have h := p0_ix l
  unfold k0_pay119
  generalize k0_pay118 = p at h
  pointwise
  rw [h]
  split <;> rfl

theorem q0_ix (x : Vec Ideal S1x512x128 .bf16) (r : Fin 512) (d : Fin 128) :
    (k0_pay122 (F := Ideal) x (ix2 r d) : EReal) = if d.val < 64 then (x (ix3 0 r d) : EReal) * κs else 0 := by
  have h := p0_ix d
  unfold k0_pay122 k0_pay120 k0_pay121
  generalize k0_pay118 = p at h
  pointwise
  rw [h, named_eq]
  split <;> rfl
theorem q1_ix (x : Vec Ideal S1x512x128 .bf16) (r : Fin 512) (d : Fin 128) :
    (k0_pay123 (F := Ideal) x (ix2 r d) : EReal) = if d.val < 64 then 0 else (x (ix3 0 r d) : EReal) * κs := by
  have h := p0_ix d
  unfold k0_pay123 k0_pay120 k0_pay121
  generalize k0_pay118 = p at h
  pointwise
  rw [h, named_eq]
  split <;> rfl

/-- A query's scaled entry of one head, zero in the other head's lanes. -/
def qv (x0 : Vec Ideal S1x2048x128 .bf16) (u : Fin 4) (a : Fin 2) (r : Fin 512) (d : Fin 128) : EReal :=
  if d.val / 64 = a.val then (x0 (ix3 0 ⟨512 * u.val + r.val, by omega⟩ d) : EReal) * κs else 0

theorem qQ_ix (v : Memref sig .tc .vmem S1x2048x128 .bf16) (hv : v.IsWhole) (x : Vec Ideal S1x2048x128 .bf16) (u : Fin 4) (a : Fin 2) (r : Fin 512) (d : Fin 128) :
    (qQ v hv x u a (ix2 r d) : EReal) = qv x u a r d := by
  unfold qv
  rw [← qR_ix v hv x u r d]
  have hd := d.isLt
  fin_cases a
  · refine (q0_ix _ r d).trans ?_
    by_cases h : d.val < 64
    · rw [if_pos h, if_pos (show d.val / 64 = 0 by omega)]
    · rw [if_neg h, if_neg (show ¬d.val / 64 = 0 by omega)]
  · refine (q1_ix _ r d).trans ?_
    by_cases h : d.val < 64
    · rw [if_pos h, if_neg (show ¬d.val / 64 = 1 by omega)]
    · rw [if_neg h, if_pos (show d.val / 64 = 1 by omega)]

end Cert.FoxI
-- ==== Proof.FoxDiagAll.lean ====
module

public import proofs.«01_k».proof.Proof.FoxDiag

@[expose] public section

set_option maxRecDepth 16384

noncomputable section

/-! The running maxima and weighted sums through the four tiles at the queries' own positions. -/

namespace Cert.FoxI

open Cert.Attn Cert.Kernel12Ideal Cert.Kernel12Ideal.Gen Idealize.ShloMosaic Idealize.ShloMosaic.TcCoe

section

variable (c : Dev nD) (i : grid0.Coords) (arg3 : Memref sig .tc .vmem S1x2048x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x1x2048x2 .f32) (harg7 : arg7.IsWhole) (arg8 : Memref sig .tc .vmem S1x2048x128 .bf16) (harg8 : arg8.IsWhole) (arg9 : Memref sig .tc .vmem S4x2x512x128 .f32) (harg9 : arg9.IsWhole) (arg10 : Memref sig .tc .vmem S4x2x512x128 .f32) (harg10 : arg10.IsWhole) (arg11 : Memref sig .tc .vmem S4x2x512x512 .f32) (harg11 : arg11.IsWhole)
  (x0 : Vec Ideal S1x2048x128 .bf16) (x1 : Vec Ideal S1x4096x128 .bf16) (x2 : Vec Ideal S1x4096x128 .bf16) (x3 : Vec Ideal S1x1x8x2x512 .f32) (x4 : Vec Ideal S1x1x2048x2 .f32)
  (t : Fin 4 → Fin 2 → Fin 512 → ℕ → EReal) (w : Fin 2 → Fin 128 → ℕ → EReal) (n0 : ℕ)
  (hd0 : ∀ (d u : Fin 4), d < u → ∀ (r c' : Fin 512), (tileS (qQ arg3 harg3 x0 u 0) (kD i arg4 (harg4.unread x1) d) (ckD0 i arg6 (harg6.unread x3) d) (cT arg11 (X11 c arg7 harg7 arg11 x4) u 0) (ix2 r c') : EReal) = t u 0 r (n0 + 512 * d.val + c'.val))
  (hd1 : ∀ (d u : Fin 4), d < u → ∀ (r c' : Fin 512), (tileS (qQ arg3 harg3 x0 u 1) (kD i arg4 (harg4.unread x1) d) (ckD1 i arg6 (harg6.unread x3) d) (cT arg11 (X11 c arg7 harg7 arg11 x4) u 1) (ix2 r c') : EReal) = t u 1 r (n0 + 512 * d.val + c'.val))
  (hm0 : ∀ (u : Fin 4) (r c' : Fin 512), (maskS (tileS (qQ arg3 harg3 x0 u 0) (kD i arg4 (harg4.unread x1) u) (ckD0 i arg6 (harg6.unread x3) u) (cT arg11 (X11 c arg7 harg7 arg11 x4) u 0)) (ix2 r c') : EReal) = t u 0 r (n0 + 512 * u.val + c'.val))
  (hm1 : ∀ (u : Fin 4) (r c' : Fin 512), (maskS (tileS (qQ arg3 harg3 x0 u 1) (kD i arg4 (harg4.unread x1) u) (ckD1 i arg6 (harg6.unread x3) u) (cT arg11 (X11 c arg7 harg7 arg11 x4) u 1)) (ix2 r c') : EReal) = t u 1 r (n0 + 512 * u.val + c'.val))
  (hw0 : ∀ (d : Fin 4) (c' : Fin 512) (l : Fin 128), (halfW k0_pay118 (vD i arg5 (harg5.unread x2) d) (ix2 c' l) : EReal) = w 0 l (n0 + 512 * d.val + c'.val))
  (hw1 : ∀ (d : Fin 4) (c' : Fin 512) (l : Fin 128), (halfW k0_pay119 (vD i arg5 (harg5.unread x2) d) (ix2 c' l) : EReal) = w 1 l (n0 + 512 * d.val + c'.val))
include hd0 hd1 hm0 hm1 hw0 hw1

/-- The sums after all the tiles. -/
theorem diag_good (h : Good arg9 arg10 t w (fun _ _ => n0) (arg9.view.writes (Elt Ideal) arg9.view.junk ((pb_k0_t1 (F := Ideal) Variants.none c none i arg3 harg3 arg4 harg4 arg5 harg5 arg6 harg6 arg7 harg7 arg8 harg8 arg9 harg9 arg10 harg10 arg11 harg11 0#32 k0_pay118 k0_pay119 (qQ arg3 harg3 x0 0 0) (qQ arg3 harg3 x0 0 1) (qQ arg3 harg3 x0 1 0) (qQ arg3 harg3 x0 1 1) (qQ arg3 harg3 x0 2 0) (qQ arg3 harg3 x0 2 1) (qQ arg3 harg3 x0 3 0) (qQ arg3 harg3 x0 3 1) 0#32 0#32 1#32 (harg4.unread x1) (harg5.unread x2) (harg6.unread x3) (X11 c arg7 harg7 arg11 x4) (arg9.view.writes (Elt Ideal) arg9.view.junk (kernelRun0_A.sl.HS0_1 (F := Ideal))) (arg10.view.writes (Elt Ideal) arg10.view.junk (kernelRun0_A.sl.HS1_1 (F := Ideal))) (k0_t1_loop i).trips).1 ++ kernelRun0_A.sl.HS0_1 (F := Ideal))) (arg10.view.writes (Elt Ideal) arg10.view.junk ((pb_k0_t1 (F := Ideal) Variants.none c none i arg3 harg3 arg4 harg4 arg5 harg5 arg6 harg6 arg7 harg7 arg8 harg8 arg9 harg9 arg10 harg10 arg11 harg11 0#32 k0_pay118 k0_pay119 (qQ arg3 harg3 x0 0 0) (qQ arg3 harg3 x0 0 1) (qQ arg3 harg3 x0 1 0) (qQ arg3 harg3 x0 1 1) (qQ arg3 harg3 x0 2 0) (qQ arg3 harg3 x0 2 1) (qQ arg3 harg3 x0 3 0) (qQ arg3 harg3 x0 3 1) 0#32 0#32 1#32 (harg4.unread x1) (harg5.unread x2) (harg6.unread x3) (X11 c arg7 harg7 arg11 x4) (arg9.view.writes (Elt Ideal) arg9.view.junk (kernelRun0_A.sl.HS0_1 (F := Ideal))) (arg10.view.writes (Elt Ideal) arg10.view.junk (kernelRun0_A.sl.HS1_1 (F := Ideal))) (k0_t1_loop i).trips).2 ++ kernelRun0_A.sl.HS1_1 (F := Ideal)))) :
    ∀ (u : Fin 4) (a : Fin 2) (r : Fin 512) (l : Fin 128),
      (arg10.view.read (Elt Ideal) (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) (ix4 u a r l) : EReal) = wsum (t u a r) (w a l) (n0 + 512 * (u.val + 1)) := by
  have h0 : Good arg9 arg10 t w (fun u a => n0 + 512 * cn 0 u a) (arg9.view.writes (Elt Ideal) arg9.view.junk ((pb_k0_t1 (F := Ideal) Variants.none c none i arg3 harg3 arg4 harg4 arg5 harg5 arg6 harg6 arg7 harg7 arg8 harg8 arg9 harg9 arg10 harg10 arg11 harg11 0#32 k0_pay118 k0_pay119 (qQ arg3 harg3 x0 0 0) (qQ arg3 harg3 x0 0 1) (qQ arg3 harg3 x0 1 0) (qQ arg3 harg3 x0 1 1) (qQ arg3 harg3 x0 2 0) (qQ arg3 harg3 x0 2 1) (qQ arg3 harg3 x0 3 0) (qQ arg3 harg3 x0 3 1) 0#32 0#32 1#32 (harg4.unread x1) (harg5.unread x2) (harg6.unread x3) (X11 c arg7 harg7 arg11 x4) (arg9.view.writes (Elt Ideal) arg9.view.junk (kernelRun0_A.sl.HS0_1 (F := Ideal))) (arg10.view.writes (Elt Ideal) arg10.view.junk (kernelRun0_A.sl.HS1_1 (F := Ideal))) (k0_t1_loop i).trips).1 ++ kernelRun0_A.sl.HS0_1 (F := Ideal))) (arg10.view.writes (Elt Ideal) arg10.view.junk ((pb_k0_t1 (F := Ideal) Variants.none c none i arg3 harg3 arg4 harg4 arg5 harg5 arg6 harg6 arg7 harg7 arg8 harg8 arg9 harg9 arg10 harg10 arg11 harg11 0#32 k0_pay118 k0_pay119 (qQ arg3 harg3 x0 0 0) (qQ arg3 harg3 x0 0 1) (qQ arg3 harg3 x0 1 0) (qQ arg3 harg3 x0 1 1) (qQ arg3 harg3 x0 2 0) (qQ arg3 harg3 x0 2 1) (qQ arg3 harg3 x0 3 0) (qQ arg3 harg3 x0 3 1) 0#32 0#32 1#32 (harg4.unread x1) (harg5.unread x2) (harg6.unread x3) (X11 c arg7 harg7 arg11 x4) (arg9.view.writes (Elt Ideal) arg9.view.junk (kernelRun0_A.sl.HS0_1 (F := Ideal))) (arg10.view.writes (Elt Ideal) arg10.view.junk (kernelRun0_A.sl.HS1_1 (F := Ideal))) (k0_t1_loop i).trips).2 ++ kernelRun0_A.sl.HS1_1 (F := Ideal))) := by
    have e : (fun (u : Fin 4) (a : Fin 2) => n0 + 512 * cn 0 u a) = fun _ _ => n0 := by
      funext u a
      fin_cases u <;> fin_cases a <;> rfl
    rw [e]; exact h
  have h1 := diag_1 c i arg3 harg3 arg4 harg4 arg5 harg5 arg6 harg6 arg7 harg7 arg8 harg8 arg9 harg9 arg10 harg10 arg11 harg11 x0 x1 x2 x3 x4 t w n0 hd0 hd1 hm0 hm1 hw0 hw1 h0
  have h2 := diag_2 c i arg3 harg3 arg4 harg4 arg5 harg5 arg6 harg6 arg7 harg7 arg8 harg8 arg9 harg9 arg10 harg10 arg11 harg11 x0 x1 x2 x3 x4 t w n0 hd0 hd1 hm0 hm1 hw0 hw1 h1
  have h3 := diag_3 c i arg3 harg3 arg4 harg4 arg5 harg5 arg6 harg6 arg7 harg7 arg8 harg8 arg9 harg9 arg10 harg10 arg11 harg11 x0 x1 x2 x3 x4 t w n0 hd0 hd1 hm0 hm1 hw0 hw1 h2
  have h4 := diag_4 c i arg3 harg3 arg4 harg4 arg5 harg5 arg6 harg6 arg7 harg7 arg8 harg8 arg9 harg9 arg10 harg10 arg11 harg11 x0 x1 x2 x3 x4 t w n0 hd0 hd1 hm0 hm1 hw0 hw1 h3
  have h5 := diag_5 c i arg3 harg3 arg4 harg4 arg5 harg5 arg6 harg6 arg7 harg7 arg8 harg8 arg9 harg9 arg10 harg10 arg11 harg11 x0 x1 x2 x3 x4 t w n0 hd0 hd1 hm0 hm1 hw0 hw1 h4
  have h6 := diag_6 c i arg3 harg3 arg4 harg4 arg5 harg5 arg6 harg6 arg7 harg7 arg8 harg8 arg9 harg9 arg10 harg10 arg11 harg11 x0 x1 x2 x3 x4 t w n0 hd0 hd1 hm0 hm1 hw0 hw1 h5
  have h7 := diag_7 c i arg3 harg3 arg4 harg4 arg5 harg5 arg6 harg6 arg7 harg7 arg8 harg8 arg9 harg9 arg10 harg10 arg11 harg11 x0 x1 x2 x3 x4 t w n0 hd0 hd1 hm0 hm1 hw0 hw1 h6
  have h8 := diag_8 c i arg3 harg3 arg4 harg4 arg5 harg5 arg6 harg6 arg7 harg7 arg8 harg8 arg9 harg9 arg10 harg10 arg11 harg11 x0 x1 x2 x3 x4 t w n0 hd0 hd1 hm0 hm1 hw0 hw1 h7
  have h9 := diag_9 c i arg3 harg3 arg4 harg4 arg5 harg5 arg6 harg6 arg7 harg7 arg8 harg8 arg9 harg9 arg10 harg10 arg11 harg11 x0 x1 x2 x3 x4 t w n0 hd0 hd1 hm0 hm1 hw0 hw1 h8
  have h10 := diag_10 c i arg3 harg3 arg4 harg4 arg5 harg5 arg6 harg6 arg7 harg7 arg8 harg8 arg9 harg9 arg10 harg10 arg11 harg11 x0 x1 x2 x3 x4 t w n0 hd0 hd1 hm0 hm1 hw0 hw1 h9
  have h11 := diag_11 c i arg3 harg3 arg4 harg4 arg5 harg5 arg6 harg6 arg7 harg7 arg8 harg8 arg9 harg9 arg10 harg10 arg11 harg11 x0 x1 x2 x3 x4 t w n0 hd0 hd1 hm0 hm1 hw0 hw1 h10
  have h12 := diag_12 c i arg3 harg3 arg4 harg4 arg5 harg5 arg6 harg6 arg7 harg7 arg8 harg8 arg9 harg9 arg10 harg10 arg11 harg11 x0 x1 x2 x3 x4 t w n0 hd0 hd1 hm0 hm1 hw0 hw1 h11
  have h13 := diag_13 c i arg3 harg3 arg4 harg4 arg5 harg5 arg6 harg6 arg7 harg7 arg8 harg8 arg9 harg9 arg10 harg10 arg11 harg11 x0 x1 x2 x3 x4 t w n0 hd0 hd1 hm0 hm1 hw0 hw1 h12
  have h14 := diag_14 c i arg3 harg3 arg4 harg4 arg5 harg5 arg6 harg6 arg7 harg7 arg8 harg8 arg9 harg9 arg10 harg10 arg11 harg11 x0 x1 x2 x3 x4 t w n0 hd0 hd1 hm0 hm1 hw0 hw1 h13
  have h15 := diag_15 c i arg3 harg3 arg4 harg4 arg5 harg5 arg6 harg6 arg7 harg7 arg8 harg8 arg9 harg9 arg10 harg10 arg11 harg11 x0 x1 x2 x3 x4 t w n0 hd0 hd1 hm0 hm1 hw0 hw1 h14
  have h16 := diag_16 c i arg3 harg3 arg4 harg4 arg5 harg5 arg6 harg6 arg7 harg7 arg8 harg8 arg9 harg9 arg10 harg10 arg11 harg11 x0 x1 x2 x3 x4 t w n0 hd0 hd1 hm0 hm1 hw0 hw1 h15
  have h17 := diag_17 c i arg3 harg3 arg4 harg4 arg5 harg5 arg6 harg6 arg7 harg7 arg8 harg8 arg9 harg9 arg10 harg10 arg11 harg11 x0 x1 x2 x3 x4 t w n0 hd0 hd1 hm0 hm1 hw0 hw1 h16
  have h18 := diag_18 c i arg3 harg3 arg4 harg4 arg5 harg5 arg6 harg6 arg7 harg7 arg8 harg8 arg9 harg9 arg10 harg10 arg11 harg11 x0 x1 x2 x3 x4 t w n0 hd0 hd1 hm0 hm1 hw0 hw1 h17
  have h19 := diag_19 c i arg3 harg3 arg4 harg4 arg5 harg5 arg6 harg6 arg7 harg7 arg8 harg8 arg9 harg9 arg10 harg10 arg11 harg11 x0 x1 x2 x3 x4 t w n0 hd0 hd1 hm0 hm1 hw0 hw1 h18
  have h20 := diag_20 c i arg3 harg3 arg4 harg4 arg5 harg5 arg6 harg6 arg7 harg7 arg8 harg8 arg9 harg9 arg10 harg10 arg11 harg11 x0 x1 x2 x3 x4 t w n0 hd0 hd1 hm0 hm1 hw0 hw1 h19
  intro u a r l
  have e : cn 20 u a = u.val + 1 := by revert u a; decide
  exact (h20 u a r l).2.trans (congrArg (fun x => wsum (t u a r) (w a l) (n0 + 512 * x)) e)

end

end Cert.FoxI
-- ==== Proof.FoxOut.lean ====
module

public import proofs.«01_k».proof.Proof.FoxBase
public import proofs.«01_k».proof.Proof.FoxDiagAll

@[expose] public section

set_option maxRecDepth 16384

noncomputable section

/-! A program of the grid's output block, from its blocks of the arrays. -/

namespace Cert.FoxI

open Cert.Attn Cert.Kernel12Ideal Cert.Kernel12Ideal.Gen Idealize.ShloMosaic Idealize.ShloMosaic.TcCoe

theorem gR_inb (u : Fin 4) (a : Fin 2) : ∀ x, (![0, 0, (![0, 512, 1024, 1536] : Fin 4 → ℕ) u, a.val] : Fin 4 → ℕ) x + S1x1x512x1.size x ≤ S1x1x2048x2.size x := by
  revert u a; decide

/-- A block of the queries' gates of one head. -/
abbrev gR (v : Memref sig .tc .vmem S1x1x2048x2 .f32) (hv : v.IsWhole) (x4 : Vec Ideal S1x1x2048x2 .f32) (u : Fin 4) (a : Fin 2) : Vec Ideal S1x1x512x1 .f32 :=
  v.view.readAt (Elt Ideal) (Rect.unit (s := S1x1x2048x2) ![0, 0, (![0, 512, 1024, 1536] : Fin 4 → ℕ) u, a.val] S1x1x512x1.size (gR_inb u a)).toLoadRect (hv.unread x4)

theorem gR_ix (v : Memref sig .tc .vmem S1x1x2048x2 .f32) (hv : v.IsWhole) (x4 : Vec Ideal S1x1x2048x2 .f32) (u : Fin 4) (a : Fin 2) (r : Fin 512) :
    (gR v hv x4 u a (ix4 0 0 r 0) : EReal) = x4 (ix4 0 0 ⟨512 * u.val + r.val, by omega⟩ a) := by
  show v.view.read (Elt Ideal) (hv.unread x4) _ = _
  rw [hv.read_unread]
  congr 1
  funext x
  apply Fin.ext
  fin_cases x
  · rfl
  · rfl
  · show (![0, 512, 1024, 1536] : Fin 4 → ℕ) u + 1 * r.val = 512 * u.val + r.val
    fin_cases u <;> simp
  · show a.val + 1 * 0 = a.val; omega

theorem spread_ix (y : Vec Ideal S1x1x512x1 .f32) (r c : Fin 512) : (k0_pay138 (F := Ideal) y (ix4 0 0 r c) : EReal) = y (ix4 0 0 r 0) := by
  unfold k0_pay138
  pointwise

theorem hitC (v : Memref sig .tc .vmem S4x2x512x512 .f32) (g : v.view.ty.Contents (Elt Ideal)) (L : List (View.Piece (Elt Ideal) S4x2x512x512 .f32))
    (u : Fin 4) (a : Fin 2) (p : Vec Ideal S1x1x512x512 .f32) (r l : Fin 512) :
    (v.view.read (Elt Ideal) (v.view.writes (Elt Ideal) g (⟨rectC u a, p⟩ :: L)) (ix4 u a r l) : EReal) = p (ix4 0 0 r l) := by
  refine View.read_writes_cons_unit_of_mem v.view g (rectC_inb u a) p L (ix4 u a r l) (ix4 0 0 r l) rfl fun x => ?_
  fin_cases x
  · show u.val = u.val + 0; omega
  · show a.val = a.val + 0; omega
  · show r.val = 0 + r.val; omega
  · show l.val = 0 + l.val; omega

theorem missC (v : Memref sig .tc .vmem S4x2x512x512 .f32) (g : v.view.ty.Contents (Elt Ideal)) (L : List (View.Piece (Elt Ideal) S4x2x512x512 .f32))
    (u : Fin 4) (a : Fin 2) (p : Vec Ideal S1x1x512x512 .f32) (u' : Fin 4) (a' : Fin 2) (h : ¬(u' = u ∧ a' = a)) (r l : Fin 512) :
    (v.view.read (Elt Ideal) (v.view.writes (Elt Ideal) g (⟨rectC u a, p⟩ :: L)) (ix4 u' a' r l) : EReal)
      = v.view.read (Elt Ideal) (v.view.writes (Elt Ideal) g L) (ix4 u' a' r l) := by
  by_cases hu : u' = u
  · have ha : a'.val ≠ a.val := fun e => h ⟨hu, Fin.ext e⟩
    refine View.read_writes_cons_unit_of_not_mem v.view g (rectC_inb u a) p L (ix4 u' a' r l) rfl (1 : Fin 4) ?_
    show a'.val < a.val ∨ a.val + 1 ≤ a'.val
    omega
  · have hu' : u'.val ≠ u.val := fun e => hu (Fin.ext e)
    refine View.read_writes_cons_unit_of_not_mem v.view g (rectC_inb u a) p L (ix4 u' a' r l) rfl (0 : Fin 4) ?_
    show u'.val < u.val ∨ u.val + 1 ≤ u'.val
    omega

theorem hitO (g : VO0_5.ty.Contents (Elt Ideal)) (L : List (View.Piece (Elt Ideal) S1x2048x128 .bf16))
    (u : Fin 4) (p : Vec Ideal S1x512x128 .bf16) (r : Fin 512) (l : Fin 128) :
    (VO0_5.read (Elt Ideal) (VO0_5.writes (Elt Ideal) g (⟨Rect.unit (s := S1x2048x128) ![0, (![0, 512, 1024, 1536] : Fin 4 → ℕ) u, 0] S1x512x128.size (qR_inb u), p⟩ :: L)) (ix3 0 ⟨512 * u.val + r.val, by omega⟩ l) : EReal) = p (ix3 0 r l) := by
  refine View.read_writes_cons_unit_of_mem VO0_5 g (qR_inb u) p L (ix3 0 ⟨512 * u.val + r.val, by omega⟩ l) (ix3 0 r l) rfl fun x => ?_
  fin_cases x
  · rfl
  · show 512 * u.val + r.val = (![0, 512, 1024, 1536] : Fin 4 → ℕ) u + r.val
    fin_cases u <;> simp
  · show l.val = 0 + l.val; omega

theorem missO (g : VO0_5.ty.Contents (Elt Ideal)) (L : List (View.Piece (Elt Ideal) S1x2048x128 .bf16))
    (u : Fin 4) (p : Vec Ideal S1x512x128 .bf16) (u' : Fin 4) (h : u' ≠ u) (r : Fin 512) (l : Fin 128) :
    (VO0_5.read (Elt Ideal) (VO0_5.writes (Elt Ideal) g (⟨Rect.unit (s := S1x2048x128) ![0, (![0, 512, 1024, 1536] : Fin 4 → ℕ) u, 0] S1x512x128.size (qR_inb u), p⟩ :: L)) (ix3 0 ⟨512 * u'.val + r.val, by omega⟩ l) : EReal)
      = VO0_5.read (Elt Ideal) (VO0_5.writes (Elt Ideal) g L) (ix3 0 ⟨512 * u'.val + r.val, by omega⟩ l) := by
  have hu' : u'.val ≠ u.val := fun e => h (Fin.ext e)
  refine View.read_writes_cons_unit_of_not_mem VO0_5 g (qR_inb u) p L (ix3 0 ⟨512 * u'.val + r.val, by omega⟩ l) rfl (1 : Fin 3) ?_
  have e : (![0, 512, 1024, 1536] : Fin 4 → ℕ) u = 512 * u.val := by fin_cases u <;> rfl
  show 512 * u'.val + r.val < (![0, 512, 1024, 1536] : Fin 4 → ℕ) u ∨ (![0, 512, 1024, 1536] : Fin 4 → ℕ) u + 512 ≤ 512 * u'.val + r.val
  rw [e]
  omega

/-- The quotients of the sums by the sums of weights, which lie half the lanes away. -/
def outT (A0 A1 : Vec Ideal S1x1x512x128 .f32) : FVec Ideal S1x512x128 .bf16 := shapeCast S1x512x128 (k0_pay299 k0_pay118 A0 A1) shapeCasts_S512x128_S1x512x128

theorem outT_ix (A0 A1 : Vec Ideal S1x1x512x128 .f32) (r : Fin 512) (l : Fin 128) :
    (outT A0 A1 (ix3 0 r l) : EReal) = if l.val < 64 then Ideal.div (A0 (ix4 0 0 r l)) (A0 (ix4 0 0 r ⟨(l.val + 64) % 128, by omega⟩))
      else Ideal.div (A1 (ix4 0 0 r l)) (A1 (ix4 0 0 r ⟨(l.val + 64) % 128, by omega⟩)) := by
  have h := p0_ix l
  unfold outT k0_pay299
  generalize k0_pay118 = p at h
  pointwise
  rw [h]
  have e : (⟨(l.val + 128 - 64) % 128, by omega⟩ : Fin 128) = ⟨(l.val + 64) % 128, by omega⟩ := Fin.ext (by show (l.val + 128 - 64) % 128 = (l.val + 64) % 128; omega)
  rw [e]
  by_cases h : l.val < 64
  · rw [if_pos h, if_pos h]; rfl
  · rw [if_neg h, if_neg h]; rfl

section

variable (c : Dev nD) (i : grid0.Coords) (arg3 : Memref sig .tc .vmem S1x2048x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x8x2x512 .f32) (harg6 : arg6.IsWhole) (arg7 : Memref sig .tc .vmem S1x1x2048x2 .f32) (harg7 : arg7.IsWhole) (arg8 : Memref sig .tc .vmem S1x2048x128 .bf16) (harg8 : arg8.IsWhole) (arg9 : Memref sig .tc .vmem S4x2x512x128 .f32) (harg9 : arg9.IsWhole) (arg10 : Memref sig .tc .vmem S4x2x512x128 .f32) (harg10 : arg10.IsWhole) (arg11 : Memref sig .tc .vmem S4x2x512x512 .f32) (harg11 : arg11.IsWhole)
  (x0 : Vec Ideal S1x2048x128 .bf16) (x1 : Vec Ideal S1x4096x128 .bf16) (x2 : Vec Ideal S1x4096x128 .bf16) (x3 : Vec Ideal S1x1x8x2x512 .f32) (x4 : Vec Ideal S1x1x2048x2 .f32)

theorem gates_eq : kernelRun0_A.sl.HS2_8 (F := Ideal) c arg7 harg7 x4
    = [⟨rectC 3 1, k0_pay138 (gR arg7 harg7 x4 3 1)⟩, ⟨rectC 3 0, k0_pay138 (gR arg7 harg7 x4 3 0)⟩, ⟨rectC 2 1, k0_pay138 (gR arg7 harg7 x4 2 1)⟩, ⟨rectC 2 0, k0_pay138 (gR arg7 harg7 x4 2 0)⟩, ⟨rectC 1 1, k0_pay138 (gR arg7 harg7 x4 1 1)⟩, ⟨rectC 1 0, k0_pay138 (gR arg7 harg7 x4 1 0)⟩, ⟨rectC 0 1, k0_pay138 (gR arg7 harg7 x4 0 1)⟩, ⟨rectC 0 0, k0_pay138 (gR arg7 harg7 x4 0 0)⟩] := rfl

theorem cT_ix (u : Fin 4) (a : Fin 2) (r c' : Fin 512) :
    (cT arg11 (X11 c arg7 harg7 arg11 x4) u a (ix4 0 0 r c') : EReal) = x4 (ix4 0 0 ⟨512 * u.val + r.val, by omega⟩ a) := by
  have e : (cT arg11 (X11 c arg7 harg7 arg11 x4) u a (ix4 0 0 r c') : EReal)
      = arg11.view.read (Elt Ideal) (X11 c arg7 harg7 arg11 x4) (ix4 u a r c') := by
    show arg11.view.read (Elt Ideal) (X11 c arg7 harg7 arg11 x4) ((rectC u a).toLoadRect.idx (ix4 0 0 r c')) = _
    congr 1
    funext x
    apply Fin.ext
    fin_cases x
    · show u.val + 1 * 0 = u.val; omega
    · show a.val + 1 * 0 = a.val; omega
    · show 0 + 1 * r.val = r.val; omega
    · show 0 + 1 * c'.val = c'.val; omega
  rw [e, ← gR_ix arg7 harg7 x4 u a r, ← spread_ix (gR arg7 harg7 x4 u a) r c']
  unfold X11
  rw [gates_eq]
  fin_cases u <;> fin_cases a
  · exact (missC arg11 _ _ 3 1 _ 0 0 (by decide) r c').trans ((missC arg11 _ _ 3 0 _ 0 0 (by decide) r c').trans ((missC arg11 _ _ 2 1 _ 0 0 (by decide) r c').trans ((missC arg11 _ _ 2 0 _ 0 0 (by decide) r c').trans ((missC arg11 _ _ 1 1 _ 0 0 (by decide) r c').trans ((missC arg11 _ _ 1 0 _ 0 0 (by decide) r c').trans ((missC arg11 _ _ 0 1 _ 0 0 (by decide) r c').trans ((hitC arg11 _ _ 0 0 _ r c'))))))))
  · exact (missC arg11 _ _ 3 1 _ 0 1 (by decide) r c').trans ((missC arg11 _ _ 3 0 _ 0 1 (by decide) r c').trans ((missC arg11 _ _ 2 1 _ 0 1 (by decide) r c').trans ((missC arg11 _ _ 2 0 _ 0 1 (by decide) r c').trans ((missC arg11 _ _ 1 1 _ 0 1 (by decide) r c').trans ((missC arg11 _ _ 1 0 _ 0 1 (by decide) r c').trans ((hitC arg11 _ _ 0 1 _ r c')))))))
  · exact (missC arg11 _ _ 3 1 _ 1 0 (by decide) r c').trans ((missC arg11 _ _ 3 0 _ 1 0 (by decide) r c').trans ((missC arg11 _ _ 2 1 _ 1 0 (by decide) r c').trans ((missC arg11 _ _ 2 0 _ 1 0 (by decide) r c').trans ((missC arg11 _ _ 1 1 _ 1 0 (by decide) r c').trans ((hitC arg11 _ _ 1 0 _ r c'))))))
  · exact (missC arg11 _ _ 3 1 _ 1 1 (by decide) r c').trans ((missC arg11 _ _ 3 0 _ 1 1 (by decide) r c').trans ((missC arg11 _ _ 2 1 _ 1 1 (by decide) r c').trans ((missC arg11 _ _ 2 0 _ 1 1 (by decide) r c').trans ((hitC arg11 _ _ 1 1 _ r c')))))
  · exact (missC arg11 _ _ 3 1 _ 2 0 (by decide) r c').trans ((missC arg11 _ _ 3 0 _ 2 0 (by decide) r c').trans ((missC arg11 _ _ 2 1 _ 2 0 (by decide) r c').trans ((hitC arg11 _ _ 2 0 _ r c'))))
  · exact (missC arg11 _ _ 3 1 _ 2 1 (by decide) r c').trans ((missC arg11 _ _ 3 0 _ 2 1 (by decide) r c').trans ((hitC arg11 _ _ 2 1 _ r c')))
  · exact (missC arg11 _ _ 3 1 _ 3 0 (by decide) r c').trans ((hitC arg11 _ _ 3 0 _ r c'))
  · exact (hitC arg11 _ _ 3 1 _ r c')

/-- A key's score for a query, to base two. -/
def sc (u : Fin 4) (a : Fin 2) (r : Fin 512) (k : ℕ) : EReal :=
  if h : k < 4096 then (∑ d : Fin 128, qv x0 u a r d * (x1 (ix3 0 ⟨k, h⟩ d) : EReal)) - x3 (ix5 0 0 ⟨k / 512, by omega⟩ a ⟨k % 512, by omega⟩) + x4 (ix4 0 0 ⟨512 * u.val + r.val, by omega⟩ a)
  else ⊥
/-- The same with the later keys hidden. -/
def tt (b : ℕ) (u : Fin 4) (a : Fin 2) (r : Fin 512) (k : ℕ) : EReal := if k ≤ b + (512 * u.val + r.val) then sc x0 x1 x3 x4 u a r k else ⊥
/-- A key's value, or one in the other head's lanes. -/
def ww (a : Fin 2) (l : Fin 128) (k : ℕ) : EReal := if h : k < 4096 then (if l.val / 64 = a.val then (x2 (ix3 0 ⟨k, h⟩ l) : EReal) else 1) else 1

theorem tile_sc (u : Fin 4) (a : Fin 2) (j : ℕ) (hj : j < 8) (kt : FVec Ideal S1x512x128 .bf16) (ck : Vec Ideal S1x1x1x1x512 .f32)
    (hk : ∀ (c : Fin 512) (d : Fin 128), (kt (ix3 0 c d) : EReal) = x1 (ix3 0 ⟨512 * j + c.val, by omega⟩ d))
    (hc : ∀ c : Fin 512, (ck (ix5 0 0 0 0 c) : EReal) = x3 (ix5 0 0 ⟨j, hj⟩ a c)) (r c' : Fin 512) :
    (tileS (qQ arg3 harg3 x0 u a) kt ck (cT arg11 (X11 c arg7 harg7 arg11 x4) u a) (ix2 r c') : EReal) = sc x0 x1 x3 x4 u a r (512 * j + c'.val) := by
  rw [tileS_ix, cT_ix, hc]
  unfold sc
  rw [dif_pos (by omega)]
  have e1 : (⟨(512 * j + c'.val) / 512, by omega⟩ : Fin 8) = ⟨j, hj⟩ := Fin.ext (by show (512 * j + c'.val) / 512 = j; omega)
  have e2 : (⟨(512 * j + c'.val) % 512, by omega⟩ : Fin 512) = c' := Fin.ext (by show (512 * j + c'.val) % 512 = c'.val; omega)
  rw [e1, e2]
  congr 2
  exact Finset.sum_congr rfl fun d _ => by rw [qQ_ix, hk]

theorem half0_ww (j : ℕ) (hj : j < 8) (vt : FVec Ideal S1x512x128 .bf16) (hv : ∀ (c : Fin 512) (d : Fin 128), (vt (ix3 0 c d) : EReal) = x2 (ix3 0 ⟨512 * j + c.val, by omega⟩ d))
    (c' : Fin 512) (l : Fin 128) : (halfW k0_pay118 vt (ix2 c' l) : EReal) = ww x2 0 l (512 * j + c'.val) := by
  rw [halfW_ix, p0_ix, hv]
  unfold ww
  rw [dif_pos (by omega)]
  have := l.isLt
  by_cases h : l.val < 64
  · rw [if_pos h, if_pos rfl, if_pos (show l.val / 64 = (0 : Fin 2).val by show l.val / 64 = 0; omega)]
  · rw [if_neg h, if_neg (by decide), if_neg (show ¬l.val / 64 = (0 : Fin 2).val by show ¬l.val / 64 = 0; omega)]
theorem half1_ww (j : ℕ) (hj : j < 8) (vt : FVec Ideal S1x512x128 .bf16) (hv : ∀ (c : Fin 512) (d : Fin 128), (vt (ix3 0 c d) : EReal) = x2 (ix3 0 ⟨512 * j + c.val, by omega⟩ d))
    (c' : Fin 512) (l : Fin 128) : (halfW k0_pay119 vt (ix2 c' l) : EReal) = ww x2 1 l (512 * j + c'.val) := by
  rw [halfW_ix, p1_ix, hv]
  unfold ww
  rw [dif_pos (by omega)]
  have := l.isLt
  by_cases h : l.val < 64
  · rw [if_pos h, if_neg (by decide), if_neg (show ¬l.val / 64 = (1 : Fin 2).val by show ¬l.val / 64 = 1; omega)]
  · rw [if_neg h, if_pos rfl, if_pos (show l.val / 64 = (1 : Fin 2).val by show l.val / 64 = 1; omega)]

theorem init_good (t : Fin 4 → Fin 2 → Fin 512 → ℕ → EReal) (w : Fin 2 → Fin 128 → ℕ → EReal) :
    Good arg9 arg10 t w (fun _ _ => 0) (arg9.view.writes (Elt Ideal) arg9.view.junk (kernelRun0_A.sl.HS0_1 (F := Ideal)))
      (arg10.view.writes (Elt Ideal) arg10.view.junk (kernelRun0_A.sl.HS1_1 (F := Ideal))) := by
  intro u a r l
  have hx : ∀ x : Fin 4, ((ix4 u a r l : S4x2x512x128.Idx) x).val = (![0, 0, 0, 0] : Fin 4 → ℕ) x + ((ix4 u a r l : S4x2x512x128.Idx) x).val := by
    intro x
    fin_cases x <;> exact (Nat.zero_add _).symm
  constructor
  · refine (View.read_writes_cons_unit_of_mem (Val := Elt Ideal) arg9.view arg9.view.junk inb_S4x2x512x128_S4x2x512x128_0_0_0_0 (k0_pay136 (F := Ideal)) [] (ix4 u a r l) (ix4 u a r l) rfl hx).trans ?_
    show (k0_pay136 (F := Ideal) (ix4 u a r l) : EReal) = ⊥
    unfold k0_pay136
    pointwise
    exact negInf
  · refine (View.read_writes_cons_unit_of_mem (Val := Elt Ideal) arg10.view arg10.view.junk inb_S4x2x512x128_S4x2x512x128_0_0_0_0 (k0_pay137 (F := Ideal)) [] (ix4 u a r l) (ix4 u a r l) rfl hx).trans ?_
    show (k0_pay137 (F := Ideal) (ix4 u a r l) : EReal) = 0
    unfold k0_pay137
    pointwise

theorem sums_good (u : Fin 4) (a : Fin 2) (r : Fin 512) (l : Fin 128) :
    (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) u a (ix4 0 0 r l) : EReal)
      = wsum (tt x0 x1 x3 x4 (2048 * (i 2).val) u a r) (ww x2 a l) (2048 * (i 2).val + 512 * (u.val + 1)) := by
  have hi : (i 2).val < 2 := (i 2).isLt
  have ht := trips_eq i
  have hn : 512 * (k0_t1_loop i).trips = 2048 * (i 2).val := by rw [ht]; omega
  have hK : ∀ (k : Fin (k0_t1_loop i).trips) (c : Fin 512) (d : Fin 128), (kT i arg4 (harg4.unread x1) k (ix3 0 c d) : EReal) = x1 (ix3 0 ⟨512 * k.val + c.val, by have := k.isLt; omega⟩ d) :=
    fun k c d => tile3_ix arg4 harg4 x1 _ _ (512 * k.val) (by have := k.isLt; omega) (off1_eq i k) c d
  have hV : ∀ (k : Fin (k0_t1_loop i).trips) (c : Fin 512) (d : Fin 128), (vT i arg5 (harg5.unread x2) k (ix3 0 c d) : EReal) = x2 (ix3 0 ⟨512 * k.val + c.val, by have := k.isLt; omega⟩ d) :=
    fun k c d => tile3_ix arg5 harg5 x2 _ _ (512 * k.val) (by have := k.isLt; omega) (off1_eq i k) c d
  have hKD : ∀ (d : Fin 4) (c : Fin 512) (e : Fin 128), (kD i arg4 (harg4.unread x1) d (ix3 0 c e) : EReal) = x1 (ix3 0 ⟨512 * (4 * (i 2).val + d.val) + c.val, by omega⟩ e) :=
    fun d c e => tile3_ix arg4 harg4 x1 _ _ (512 * (4 * (i 2).val + d.val)) (by omega) (off7_eq i d) c e
  have hVD : ∀ (d : Fin 4) (c : Fin 512) (e : Fin 128), (vD i arg5 (harg5.unread x2) d (ix3 0 c e) : EReal) = x2 (ix3 0 ⟨512 * (4 * (i 2).val + d.val) + c.val, by omega⟩ e) :=
    fun d c e => tile3_ix arg5 harg5 x2 _ _ (512 * (4 * (i 2).val + d.val)) (by omega) (off7_eq i d) c e
  have hn' : ∀ (d : Fin 4) (c : Fin 512), 2048 * (i 2).val + 512 * d.val + c.val = 512 * (4 * (i 2).val + d.val) + c.val := fun d c => by omega
  have hloop := loop_good c i arg3 harg3 arg4 harg4 arg5 harg5 arg6 harg6 arg7 harg7 arg8 harg8 arg9 harg9 arg10 harg10 arg11 harg11 0#32 k0_pay118 k0_pay119 (qQ arg3 harg3 x0) 0#32 0#32 1#32 (harg4.unread x1) (harg5.unread x2) (harg6.unread x3) (X11 c arg7 harg7 arg11 x4)
    (tt x0 x1 x3 x4 (2048 * (i 2).val)) (ww x2) _ _
    (fun k u r c' => by
      have hk := k.isLt
      refine (tile_sc c arg3 harg3 arg7 harg7 arg11 x0 x1 x3 x4 u 0 k.val (by omega) _ _ (hK k) (fun c => tile5_ix arg6 harg6 x3 _ _ ⟨k.val, by omega⟩ 0 (off2_eq i k) c) r c').trans ?_
      unfold tt
      rw [if_pos (by omega)])
    (fun k u r c' => by
      have hk := k.isLt
      refine (tile_sc c arg3 harg3 arg7 harg7 arg11 x0 x1 x3 x4 u 1 k.val (by omega) _ _ (hK k) (fun c => tile5_ix arg6 harg6 x3 _ _ ⟨k.val, by omega⟩ 1 (off3_eq i k) c) r c').trans ?_
      unfold tt
      rw [if_pos (by omega)])
    (fun k c' l => half0_ww x2 k.val (by have := k.isLt; omega) _ (hV k) c' l) (fun k c' l => half1_ww x2 k.val (by have := k.isLt; omega) _ (hV k) c' l)
    (init_good arg9 arg10 _ _) (k0_t1_loop i).trips le_rfl
  rw [hn, ← View.writes_append, ← View.writes_append] at hloop
  have hD0 : ∀ (d u : Fin 4) (r c' : Fin 512), (tileS (qQ arg3 harg3 x0 u 0) (kD i arg4 (harg4.unread x1) d) (ckD0 i arg6 (harg6.unread x3) d) (cT arg11 (X11 c arg7 harg7 arg11 x4) u 0) (ix2 r c') : EReal)
      = sc x0 x1 x3 x4 u 0 r (512 * (4 * (i 2).val + d.val) + c'.val) := fun d u r c' =>
    tile_sc c arg3 harg3 arg7 harg7 arg11 x0 x1 x3 x4 u 0 (4 * (i 2).val + d.val) (by omega) _ _ (hKD d) (fun c => tile5_ix arg6 harg6 x3 _ _ ⟨4 * (i 2).val + d.val, by omega⟩ 0 (off8_eq i d) c) r c'
  have hD1 : ∀ (d u : Fin 4) (r c' : Fin 512), (tileS (qQ arg3 harg3 x0 u 1) (kD i arg4 (harg4.unread x1) d) (ckD1 i arg6 (harg6.unread x3) d) (cT arg11 (X11 c arg7 harg7 arg11 x4) u 1) (ix2 r c') : EReal)
      = sc x0 x1 x3 x4 u 1 r (512 * (4 * (i 2).val + d.val) + c'.val) := fun d u r c' =>
    tile_sc c arg3 harg3 arg7 harg7 arg11 x0 x1 x3 x4 u 1 (4 * (i 2).val + d.val) (by omega) _ _ (hKD d) (fun c => tile5_ix arg6 harg6 x3 _ _ ⟨4 * (i 2).val + d.val, by omega⟩ 1 (off9_eq i d) c) r c'
  refine (rdM_ix arg10 _ u a r l).trans ?_
  refine diag_good c i arg3 harg3 arg4 harg4 arg5 harg5 arg6 harg6 arg7 harg7 arg8 harg8 arg9 harg9 arg10 harg10 arg11 harg11 x0 x1 x2 x3 x4 (tt x0 x1 x3 x4 (2048 * (i 2).val)) (ww x2) (2048 * (i 2).val) ?_ ?_ ?_ ?_ ?_ ?_ hloop u a r l
  · intro d u hdu r c'
    have hdu' : d.val < u.val := hdu
    rw [hD0, hn']; unfold tt; rw [if_pos (by omega)]
  · intro d u hdu r c'
    have hdu' : d.val < u.val := hdu
    rw [hD1, hn']; unfold tt; rw [if_pos (by omega)]
  · intro u r c'
    rw [maskS_ix, hD0, hn']; unfold tt
    by_cases h : c'.val ≤ r.val
    · rw [if_pos h, if_pos (by omega)]
    · rw [if_neg h, if_neg (by omega)]
  · intro u r c'
    rw [maskS_ix, hD1, hn']; unfold tt
    by_cases h : c'.val ≤ r.val
    · rw [if_pos h, if_pos (by omega)]
    · rw [if_neg h, if_neg (by omega)]
  · intro d c' l
    rw [hn']; exact half0_ww x2 _ (by omega) _ (hVD d) c' l
  · intro d c' l
    rw [hn']; exact half1_ww x2 _ (by omega) _ (hVD d) c' l

theorem outs_eq : (kernelRun0_A (F := Ideal) c i arg3 harg3 arg4 harg4 arg5 harg5 arg6 harg6 arg7 harg7 arg8 harg8 arg9 harg9 arg10 harg10 arg11 harg11 x0 x1 x2 x3 x4).1
    = [⟨Rect.unit (s := S1x2048x128) ![0, (![0, 512, 1024, 1536] : Fin 4 → ℕ) 3, 0] S1x512x128.size (qR_inb 3), outT (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) 3 0) (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) 3 1)⟩, ⟨Rect.unit (s := S1x2048x128) ![0, (![0, 512, 1024, 1536] : Fin 4 → ℕ) 2, 0] S1x512x128.size (qR_inb 2), outT (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) 2 0) (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) 2 1)⟩, ⟨Rect.unit (s := S1x2048x128) ![0, (![0, 512, 1024, 1536] : Fin 4 → ℕ) 1, 0] S1x512x128.size (qR_inb 1), outT (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) 1 0) (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) 1 1)⟩, ⟨Rect.unit (s := S1x2048x128) ![0, (![0, 512, 1024, 1536] : Fin 4 → ℕ) 0, 0] S1x512x128.size (qR_inb 0), outT (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) 0 0) (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) 0 1)⟩] := by
  unfold kernelRun0_A
  rfl

theorem ww_one (a : Fin 2) (l : Fin 128) (h : ¬l.val / 64 = a.val) : ww x2 a l = fun _ => 1 := by
  funext k
  unfold ww
  simp [h]

theorem block_ix (u : Fin 4) (r : Fin 512) (l : Fin 128) :
    (out0_A_5 (F := Ideal) c i arg3 harg3 arg4 harg4 arg5 harg5 arg6 harg6 arg7 harg7 arg8 harg8 arg9 harg9 arg10 harg10 arg11 harg11 x0 x1 x2 x3 x4 (ix3 0 ⟨512 * u.val + r.val, by omega⟩ l) : EReal)
      = Ideal.div (wsum (tt x0 x1 x3 x4 (2048 * (i 2).val) u ⟨l.val / 64, by omega⟩ r) (ww x2 ⟨l.val / 64, by omega⟩ l) (2048 * (i 2).val + 512 * (u.val + 1)))
          (wsum (tt x0 x1 x3 x4 (2048 * (i 2).val) u ⟨l.val / 64, by omega⟩ r) (fun _ => 1) (2048 * (i 2).val + 512 * (u.val + 1))) := by
  have e : (out0_A_5 (F := Ideal) c i arg3 harg3 arg4 harg4 arg5 harg5 arg6 harg6 arg7 harg7 arg8 harg8 arg9 harg9 arg10 harg10 arg11 harg11 x0 x1 x2 x3 x4 (ix3 0 ⟨512 * u.val + r.val, by omega⟩ l) : EReal)
      = outT (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) u 0)
        (rdM arg10 (arg10.view.writes (Elt Ideal) arg10.view.junk (kernelRun0_A.sl.HS1_20 (F := Ideal) c i arg3 harg3 arg4 harg4 arg5 harg5 arg6 harg6 arg7 harg7 arg8 harg8 arg9 harg9 arg10 harg10 arg11 harg11 x0 x1 x2 x3 x4)) u 1) (ix3 0 r l) := by
    unfold out0_A_5
    rw [outs_eq]
    fin_cases u
    · exact (missO _ _ 3 _ 0 (by decide) r l).trans ((missO _ _ 2 _ 0 (by decide) r l).trans ((missO _ _ 1 _ 0 (by decide) r l).trans ((hitO _ _ 0 _ r l))))
    · exact (missO _ _ 3 _ 1 (by decide) r l).trans ((missO _ _ 2 _ 1 (by decide) r l).trans ((hitO _ _ 1 _ r l)))
    · exact (missO _ _ 3 _ 2 (by decide) r l).trans ((hitO _ _ 2 _ r l))
    · exact (hitO _ _ 3 _ r l)
  rw [e, outT_ix]
  have hl := l.isLt
  by_cases h : l.val < 64
  · have e0 : (⟨l.val / 64, by omega⟩ : Fin 2) = 0 := Fin.ext (by show l.val / 64 = 0; omega)
    rw [if_pos h, e0, sums_good, sums_good, ww_one x2 0 ⟨(l.val + 64) % 128, _⟩ (by show ¬((l.val + 64) % 128) / 64 = 0; omega)]
  · have e0 : (⟨l.val / 64, by omega⟩ : Fin 2) = 1 := Fin.ext (by show l.val / 64 = 1; omega)
    rw [if_neg h, e0, sums_good, sums_good, ww_one x2 1 ⟨(l.val + 64) % 128, _⟩ (by show ¬((l.val + 64) % 128) / 64 = 1; omega)]

end

end Cert.FoxI
-- ==== Proof.FoxBlk.lean ====
module

public import proofs.«01_k».proof.Proof.FoxRun
public import Idealize.ShloMosaic.Lib.Pipeline.Value
public import Idealize.ShloMosaic.Lib.Pipeline.ValueKit
public import Idealize.ShloMosaic.Lib.StableHlo.RunRead
public import Idealize.ShloMosaic.Lib.Pointwise

@[expose] public section

set_option maxRecDepth 16384

noncomputable section

/-! The blocks a program of the grid reads, from the arguments: point `16 b + 2 h + i` is the half `i` of the queries of the pair `h` of heads of sequence `b`. -/

namespace Cert.FoxI

open Cert.Kernel12Ideal Cert.Kernel12Ideal.Gen Idealize.ShloMosaic Idealize.ShloMosaic.TcCoe Idealize.SL.Sem

theorem lt_N (t : Fin cfg0.N) : t.val < 256 := lt_of_lt_of_eq t.isLt (show cfg0.N = 256 from N_0)

theorem idx : ∀ t : Fin cfg0.N,
    win0_0.index t = ![t.val / 16, t.val % 2, t.val / 2 % 8] ∧ win0_1.index t = ![t.val / 16, 0, t.val / 2 % 8 + 8] ∧
    win0_2.index t = ![t.val / 16, 0, t.val / 2 % 8 + 16] ∧ win0_3.index t = ![t.val / 16, t.val / 2 % 8, 0, 0, 0] ∧
    win0_4.index t = ![t.val / 16, t.val / 2 % 8, t.val % 2, 0] ∧ win0_5.index t = ![t.val / 16, t.val % 2, t.val / 2 % 8] :=
  (by decide +kernel : ∀ t : Fin grid0.N, _)

theorem half_eq : ∀ t : Fin cfg0.N, (grid0.coords t 2).val = t.val % 2 :=
  (by decide +kernel : ∀ t : Fin grid0.N, _)

variable (m : (ℓ : Loc nD τ sig) → Buf (Elt Ideal) ℓ) (ρ : Dev nD → PrngReg) (c : Dev nD)

theorem blk0 (t : Fin cfg0.N) (r : Fin 2048) (d : Fin 128) (s n : ℕ) (hs : s = 2048 * (t.val % 2) + r.val) (hn : n = 128 * (t.val / 2 % 8) + d.val) :
    iblk m c 0 t (ix3 0 r d) = m (c, Proc.tc.devRef main_arg0) (ix3 ⟨t.val / 16, by have := lt_N t; omega⟩ ⟨s, by omega⟩ ⟨n, by omega⟩) := by
  subst hs hn
  rw [← V_main_arg0 m c]
  blk_ext [iblk, (idx t).1]
theorem blk1 (t : Fin cfg0.N) (k : Fin 4096) (d : Fin 128) (n : ℕ) (hn : n = 1024 + (128 * (t.val / 2 % 8) + d.val)) :
    iblk m c 1 t (ix3 0 k d) = m (c, Proc.tc.devRef main_arg0) (ix3 ⟨t.val / 16, by have := lt_N t; omega⟩ k ⟨n, by omega⟩) := by
  subst hn
  rw [← V_main_arg0 m c]
  blk_ext [iblk, (idx t).2.1]
theorem blk2 (t : Fin cfg0.N) (k : Fin 4096) (d : Fin 128) (n : ℕ) (hn : n = 2048 + (128 * (t.val / 2 % 8) + d.val)) :
    iblk m c 2 t (ix3 0 k d) = m (c, Proc.tc.devRef main_arg0) (ix3 ⟨t.val / 16, by have := lt_N t; omega⟩ k ⟨n, by omega⟩) := by
  subst hn
  rw [← V_main_arg0 m c]
  blk_ext [iblk, (idx t).2.2.1]

theorem v2 (b : Fin 16) (h j : Fin 8) (a : Fin 2) (l : Fin 512) :
    (V m c main_v2 (ix5 b h j a l) : EReal) = m (c, Proc.tc.devRef main_arg1) (ix3 b ⟨512 * j.val + l.val, by omega⟩ ⟨2 * h.val + a.val, by omega⟩) := by
  unfold V
  after_reads_simp
  pointwise
  simp only [Nat.mul_comm]
theorem v4 (b : Fin 16) (h : Fin 8) (s : Fin 4096) (a : Fin 2) :
    (V m c main_v4 (ix4 b h s a) : EReal) = m (c, Proc.tc.devRef main_arg1) (ix3 b s ⟨2 * h.val + a.val, by omega⟩) := by
  unfold V
  after_reads_simp
  pointwise
  simp only [Nat.mul_comm]

theorem blk3 (t : Fin cfg0.N) (j : Fin 8) (a : Fin 2) (l : Fin 512) :
    iblk m c 3 t (ix5 0 0 j a l) = V m c main_v2 (ix5 ⟨t.val / 16, by have := lt_N t; omega⟩ ⟨t.val / 2 % 8, by omega⟩ j a l) := by
  blk_ext [iblk, (idx t).2.2.2.1]
theorem blk4 (t : Fin cfg0.N) (r : Fin 2048) (a : Fin 2) :
    iblk m c 4 t (ix4 0 0 r a) = V m c main_v4 (ix4 ⟨t.val / 16, by have := lt_N t; omega⟩ ⟨t.val / 2 % 8, by omega⟩ ⟨2048 * (t.val % 2) + r.val, by omega⟩ a) := by
  blk_ext [iblk, (idx t).2.2.2.2.1]

theorem run_blocks : θ_run defs (onTc (τ := τ) (main (F := Ideal))) ⟨m, fun _ => 0, ρ⟩ fun r => ∀ c : Dev nD,
      r.2.mem ((c.tc : Thread nD τ).loc main_v5) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1 5,
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c)⟩)
    (run_main m ρ)

end Cert.FoxI
-- ==== Proof.FoxSoft.lean ====
module

public import proofs.«01_k».proof.Proof.AttnMath

@[expose] public section

noncomputable section

/-! The softmax to base two over the keys seen so far is the softmax over all keys. -/

namespace Cert.Attn

open Idealize.ShloMosaic

theorem soft (σ : Fin 4096 → EReal) (s : ℕ) (hs : s < 4096) (S : ℕ → ℝ) (hσ : ∀ k, σ k = if k.val ≤ s then (S k.val : EReal) else ⊥)
    (t w : ℕ → EReal) (ht : ∀ k, t k = if k ≤ s then (((Real.log 2)⁻¹ * S k : ℝ) : EReal) else ⊥) (n : ℕ) (hsn : s < n) (hn : n ≤ 4096) :
    Ideal.div (wsum t w n) (wsum t (fun _ => 1) n)
      = ∑ k : Fin 4096, w k.val * Ideal.div (Ideal.exp (σ k - (Finset.univ : Finset (Fin 4096)).sup fun k => σ k))
          (∑ k : Fin 4096, Ideal.exp (σ k - (Finset.univ : Finset (Fin 4096)).sup fun k => σ k)) := by
  have hl : 0 < (Real.log 2)⁻¹ := inv_pos.mpr (Real.log_pos (by norm_num))
  have hb : ∀ k, n ≤ k → t k = ⊥ := fun k hk => by rw [ht, if_neg (by omega)]
  rw [← wsum_of_bot t w n 4096 hn hb, ← wsum_of_bot t (fun _ => 1) n 4096 hn hb]
  obtain ⟨k0, -, h0⟩ := Finset.exists_mem_eq_sup (Finset.univ : Finset (Fin 4096)) ⟨⟨0, by omega⟩, Finset.mem_univ _⟩ (fun k => σ k)
  have hle : ∀ k, σ k ≤ σ k0 := fun k => h0 ▸ Finset.le_sup (f := fun k => σ k) (Finset.mem_univ k)
  have hk0 : k0.val ≤ s := by
    by_contra h
    have h1 := hle ⟨s, hs⟩
    rw [hσ k0, if_neg h, hσ ⟨s, hs⟩, if_pos (show s ≤ s from le_rfl)] at h1
    exact absurd (le_bot_iff.mp h1) (EReal.coe_ne_bot _)
  have hM : ((Finset.univ : Finset (Fin 4096)).sup fun k => σ k) = (S k0.val : EReal) := by rw [h0, hσ k0, if_pos hk0]
  have hT : top t 4096 = (((Real.log 2)⁻¹ * S k0.val : ℝ) : EReal) := by
    refine le_antisymm (Finset.sup_le fun j hj => ?_) ?_
    · rw [ht]
      by_cases hjs : j ≤ s
      · rw [if_pos hjs]
        have h1 := hle ⟨j, by omega⟩
        rw [hσ k0, if_pos hk0, hσ ⟨j, by omega⟩, if_pos hjs] at h1
        have h2 : S j ≤ S k0.val := by exact_mod_cast h1
        exact_mod_cast mul_le_mul_of_nonneg_left h2 hl.le
      · rw [if_neg hjs]; exact bot_le
    · have h1 := le_top t 4096 k0.val k0.isLt
      rw [ht k0.val, if_pos hk0] at h1
      exact h1
  have key : ∀ k : Fin 4096, Ideal.exp2 (t k.val - top t 4096) = Ideal.exp (σ k - (Finset.univ : Finset (Fin 4096)).sup fun k => σ k) := by
    intro k
    rw [← exp2_eq_exp, hT, hM, ht, hσ]
    by_cases h : k.val ≤ s
    · rw [if_pos h, if_pos h, ← EReal.coe_sub, ← EReal.coe_sub, ← EReal.coe_mul, mul_sub]
    · rw [if_neg h, if_neg h, EReal.bot_sub, EReal.bot_sub, EReal.coe_mul_bot_of_pos hl]
  have hW : wsum t (fun _ => 1) 4096 = ∑ k : Fin 4096, Ideal.exp (σ k - (Finset.univ : Finset (Fin 4096)).sup fun k => σ k) := by
    unfold wsum
    rw [Finset.sum_range]
    exact Finset.sum_congr rfl fun k _ => by rw [mul_one, key]
  rw [div_eq t w 4096 (by omega) _ hT, Finset.sum_range]
  exact Finset.sum_congr rfl fun k _ => by rw [key, hW, mul_comm]

/-- A sum over the lanes of one head. -/
theorem halves (f : Fin 128 → ℝ) (a : Fin 2) : ∑ d : Fin 128, (if d.val / 64 = a.val then f d else 0) = ∑ d : Fin 64, f ⟨64 * a.val + d.val, by omega⟩ := by
  refine (Fin.sum_univ_add (fun d : Fin (64 + 64) => if d.val / 64 = a.val then f d else 0)).trans ?_
  by_cases ha : a.val = 0
  · have e2 : ∑ d : Fin 64, (if (Fin.natAdd 64 d).val / 64 = a.val then f (Fin.natAdd 64 d) else 0) = 0 :=
      Finset.sum_eq_zero fun d _ => if_neg (by show ¬(64 + d.val) / 64 = a.val; omega)
    rw [e2, add_zero]
    refine Finset.sum_congr rfl fun d _ => ?_
    rw [if_pos (by show d.val / 64 = a.val; omega)]
    exact congrArg f (Fin.ext (by show d.val = 64 * a.val + d.val; omega))
  · have e1 : ∑ d : Fin 64, (if (Fin.castAdd 64 d).val / 64 = a.val then f (Fin.castAdd 64 d) else 0) = 0 :=
      Finset.sum_eq_zero fun d _ => if_neg (by show ¬d.val / 64 = a.val; omega)
    rw [e1, zero_add]
    refine Finset.sum_congr rfl fun d _ => ?_
    rw [if_pos (by show (64 + d.val) / 64 = a.val; omega)]
    exact congrArg f (Fin.ext (by show 64 + d.val = 64 * a.val + d.val; omega))

end Cert.Attn
-- ==== Proof.FoxRef.lean ====
module

public import proofs.«01_k».proof.Proof.Gen.Reference12Ideal.Run
public import Idealize.ShloMosaic.Lib.Pipeline.ValueKit
public import Idealize.ShloMosaic.Lib.Pointwise
public import Idealize.ShloMosaic.Lib.KernelVsHost

@[expose] public section

set_option maxRecDepth 16384

noncomputable section

/-! The reference's result at an index. -/

namespace Cert.Reference12Ideal.FoxRef

open Cert.Reference12Ideal Cert.Reference12Ideal.Gen Cert.Reference12Ideal.Value Idealize.ShloMosaic Idealize.ShloMosaic.StableHlo Idealize.ShloMosaic.TcCoe

abbrev lifts : S16x16x4096x4096.Reduces [3] S16x16x4096 := by decide

theorem sle_ofNat (a b : ℕ) (ha : a < 4096) (hb : b < 4096) :
    IntOp.cmpi CmpIPredicate.sle (BitVec.ofNat 32 a) (BitVec.ofNat 32 b) = if a ≤ b then 1#1 else 0#1 := by
  have e : ∀ a : ℕ, a < 4096 → (BitVec.ofNat 32 a).toInt = (a : ℤ) := by
    intro a ha
    have h : (BitVec.ofNat 32 a).toNat = a := by
      rw [BitVec.toNat_ofNat]; exact Nat.mod_eq_of_lt (by omega)
    rw [BitVec.toInt_eq_toNat_of_lt (by rw [h]; omega), h]
  change BitVec.ofBool (decide ((BitVec.ofNat 32 a).toInt ≤ (BitVec.ofNat 32 b).toInt)) = _
  rw [e a ha, e b hb]
  by_cases h : a ≤ b <;> simp [h]

theorem negInf : Ideal.ofBits FTy.f32 4286578688#32 = ⊥ := by
  simp [Ideal.ofBits, Ideal.ieee]

/-- The masked scores. -/
def scores (P : FVec Ideal S16x4096x3072 .bf16) (C : FVec Ideal S16x4096x16 .f32) : FVec Ideal S16x16x4096x4096 .f32 :=
  (select (broadcastInDim S16x16x4096x4096 ![2, 3] bcast_S4096x4096_S16x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (subf (addf (mulf (Host.dotGeneral dot_S16x4096x16x64_S16x4096x16x64_S16x16x4096x4096_3_3_1_1_02_02 none (shapeCast _ (extf .f32 (extractStridedSlice S16x4096x1024 ![0, 0, 0] P slices_S16x4096x3072_S16x4096x1024_0_0_0) bitsLt_bf16_f32) shapeCasts_S16x4096x1024_S16x4096x16x64) (shapeCast _ (extf .f32 (extractStridedSlice S16x4096x1024 ![0, 0, 1024] P slices_S16x4096x3072_S16x4096x1024_0_0_1024) bitsLt_bf16_f32) shapeCasts_S16x4096x1024_S16x4096x16x64)) (broadcastInDim S16x16x4096x4096 ![] bcast_S_S16x16x4096x4096 (constant S_ .f32 0x3E000000#32))) (broadcastInDim S16x16x4096x4096 ![0, 1, 2, 3] bcast_S16x16x4096x1_S16x16x4096x4096_0_1_2_3 (broadcastInDim S16x16x4096x1 ![0, 1, 2] bcast_S16x16x4096_S16x16x4096x1_0_1_2 (transpose S16x16x4096 [0, 2, 1] (mulf C (broadcastInDim S16x4096x16 ![] bcast_S_S16x4096x16 (Host.log (constant S_ .f32 0x40000000#32)))) transposes_S16x4096x16_S16x16x4096_0_2_1)))) (broadcastInDim S16x16x4096x4096 ![0, 1, 2, 3] bcast_S16x16x1x4096_S16x16x4096x4096_0_1_2_3 (broadcastInDim S16x16x1x4096 ![0, 1, 3] bcast_S16x16x4096_S16x16x1x4096_0_1_3 (transpose S16x16x4096 [0, 2, 1] (mulf C (broadcastInDim S16x4096x16 ![] bcast_S_S16x4096x16 (Host.log (constant S_ .f32 0x40000000#32)))) transposes_S16x4096x16_S16x16x4096_0_2_1)))) (broadcastInDim S16x16x4096x4096 ![] bcast_S_S16x16x4096x4096 (id (constant S_ .f32 0xFF800000#32))))

theorem scores_ix (P : FVec Ideal S16x4096x3072 .bf16) (C : FVec Ideal S16x4096x16 .f32) (b : Fin 16) (h : Fin 16) (s k : Fin 4096) :
    (scores P C (ix4 b h s k) : EReal)
      = if k.val ≤ s.val then
          ((∑ d : Fin 64, (P (ix3 b s ⟨64 * h.val + d.val, by omega⟩) : EReal) * P (ix3 b k ⟨1024 + 64 * h.val + d.val, by omega⟩)) * Ideal.ofBits FTy.f32 0x3E000000#32
            + C (ix3 b s h) * Ideal.log (Ideal.ofBits FTy.f32 0x40000000#32)) - C (ix3 b k h) * Ideal.log (Ideal.ofBits FTy.f32 0x40000000#32)
        else Ideal.ofBits FTy.f32 0xFF800000#32 := by
  unfold scores
  pointwise
  rw [sle_ofNat _ _ (by omega) (by omega)]
  simp only [Nat.add_assoc, Nat.mul_comm h.val 64]
  split <;> rfl

/-- A row's largest score. -/
def rowMax (X : FVec Ideal S16x16x4096x4096 .f32) : FVec Ideal S16x16x4096 .f32 :=
  Host.reduce FloatOps.maximumf X (constant S_ .f32 0xFF800000#32) reducesTo_S16x16x4096x4096_S16x16x4096_d3 h_S_

theorem rowmax_ix (X : FVec Ideal S16x16x4096x4096 .f32) (b : Fin 16) (h : Fin 16) (s : Fin 4096) :
    (rowMax X (ix3 b h s) : EReal)
      = (Finset.univ : Finset (Fin 4096)).sup fun k => (X (ix4 b h s k) : EReal) := by
  refine (congrFun (hostReduce_maximumf_eq_multiReduction (F := Ideal) X 0xFF800000#32 reducesTo_S16x16x4096x4096_S16x16x4096_d3 h_S_ lifts (.inl rfl) rfl) (ix3 b h s)).trans ?_
  refine (Ideal.multiReduction_maximumf_single (a := 3) X 4286578688#32 lifts (.inl rfl) rfl (ix3 b h s)).trans ?_
  have hb : (FloatOps.ofBits (F := Ideal) FTy.f32 4286578688#32 : EReal) = ⊥ := negInf
  have hl : (X ∘ lifts.lift (ix3 b h s)) = fun c : Fin 4096 => (X (ix4 b h s c) : EReal) := by
    funext c
    exact congrArg X (funext fun a => by fin_cases a <;> rfl)
  rw [hl, hb]
  rfl

/-- The scores' exponentials relative to given maxima. -/
def exps (X : FVec Ideal S16x16x4096x4096 .f32) (M : FVec Ideal S16x16x4096 .f32) : FVec Ideal S16x16x4096x4096 .f32 :=
  Host.exp (subf X (broadcastInDim S16x16x4096x4096 ![0, 1, 2, 3] bcast_S16x16x4096x1_S16x16x4096x4096_0_1_2_3 (broadcastInDim S16x16x4096x1 ![0, 1, 2] bcast_S16x16x4096_S16x16x4096x1_0_1_2 (maximumf (broadcastInDim S16x16x4096 ![] bcast_S_S16x16x4096 (constant S_ .f32 0xFF800000#32)) M))))

/-- The weighted mean of the values. -/
def mean (E : FVec Ideal S16x16x4096x4096 .f32) (P : FVec Ideal S16x4096x3072 .bf16) : FVec Ideal S16x4096x1024 .bf16 :=
  truncf .bf16 (shapeCast _ (transpose S16x4096x16x64 [0, 3, 1, 2] (Host.dotGeneral dot_S16x4096x16x64_S16x16x4096x4096_S16x16x64x4096_1_3_3_2_02_01 none (shapeCast _ (extf .f32 (extractStridedSlice S16x4096x1024 ![0, 0, 2048] P slices_S16x4096x3072_S16x4096x1024_0_0_2048) bitsLt_bf16_f32) shapeCasts_S16x4096x1024_S16x4096x16x64) (Host.divf E (broadcastInDim S16x16x4096x4096 ![0, 1, 2, 3] bcast_S16x16x4096x1_S16x16x4096x4096_0_1_2_3 (broadcastInDim S16x16x4096x1 ![0, 1, 2] bcast_S16x16x4096_S16x16x4096x1_0_1_2 (Host.reduceAdd E (constant S_ .f32 0x00000000#32) reducesTo_S16x16x4096x4096_S16x16x4096_d3 h_S_))))) transposes_S16x16x64x4096_S16x4096x16x64_0_3_1_2) shapeCasts_S16x4096x16x64_S16x4096x1024) bitsLt_bf16_f32

theorem exps_ix (X : FVec Ideal S16x16x4096x4096 .f32) (M : FVec Ideal S16x16x4096 .f32) (b : Fin 16) (h : Fin 16) (s k : Fin 4096) :
    (exps X M (ix4 b h s k) : EReal) = Ideal.exp ((X (ix4 b h s k) : EReal) - M (ix3 b h s)) := by
  unfold exps
  pointwise
  rw [negInf]
  congr 2
  exact max_eq_right bot_le

theorem mean_ix (E : FVec Ideal S16x16x4096x4096 .f32) (P : FVec Ideal S16x4096x3072 .bf16) (b : Fin 16) (s : Fin 4096) (n : Fin 1024) :
    (mean E P (ix3 b s n) : EReal)
      = ∑ k : Fin 4096, (P (ix3 b k ⟨2048 + n.val, by omega⟩) : EReal)
          * Ideal.div (E (ix4 b ⟨n.val / 64, by omega⟩ s k)) (∑ c : Fin 4096, (E (ix4 b ⟨n.val / 64, by omega⟩ s c) : EReal)) := by
  unfold mean
  pointwise

theorem out_ix (m : (ℓ : Loc nD τ sig) → Buf (Elt Ideal) ℓ) (c : Dev nD) (P : FVec Ideal S16x4096x3072 .bf16) (C : FVec Ideal S16x4096x16 .f32)
    (hP : m ((c.tc : Thread nD τ).loc main_arg0) = P) (hC : m ((c.tc : Thread nD τ).loc main_arg1) = C) (b : Fin 16) (s : Fin 4096) (n : Fin 1024) :
    (res_out0 m c (ix3 b s n) : EReal)
      = ∑ k : Fin 4096, (P (ix3 b k ⟨2048 + n.val, by omega⟩) : EReal)
          * Ideal.div (Ideal.exp ((scores P C (ix4 b ⟨n.val / 64, by omega⟩ s k) : EReal)
              - (Finset.univ : Finset (Fin 4096)).sup fun k => (scores P C (ix4 b ⟨n.val / 64, by omega⟩ s k) : EReal)))
            (∑ k : Fin 4096, Ideal.exp ((scores P C (ix4 b ⟨n.val / 64, by omega⟩ s k) : EReal)
              - (Finset.univ : Finset (Fin 4096)).sup fun k => (scores P C (ix4 b ⟨n.val / 64, by omega⟩ s k) : EReal))) := by
  have e : res_out0 m c = mean (exps (scores P C) (rowMax (scores P C))) P := by
    subst hP hC; rfl
  rw [e]
  refine (mean_ix _ _ b s n).trans ?_
  simp only [exps_ix, rowmax_ix]

end Cert.Reference12Ideal.FoxRef
-- ==== Proof.FoxAlg.lean ====
module

public import proofs.«01_k».proof.Proof.FoxOut
public import proofs.«01_k».proof.Proof.FoxBlk
public import proofs.«01_k».proof.Proof.FoxSoft
public import proofs.«01_k».proof.Proof.FoxRef

@[expose] public section

set_option maxRecDepth 16384

noncomputable section

/-! The kernel's array is the reference's, where the arguments are real numbers. -/

namespace Cert.FoxI

open Cert.Attn Cert.Kernel12Ideal Cert.Kernel12Ideal.Gen Idealize.ShloMosaic Idealize.ShloMosaic.TcCoe
open Cert.Reference12Ideal.FoxRef (scores scores_ix)

theorem eighth : (Ideal.ofBits FTy.f32 0x3E000000#32 : EReal) = ((1 / 8 : ℝ) : EReal) := by
  simp [Ideal.ofBits, Ideal.ieee]
  rw [← EReal.coe_mul]
  congr 1
  norm_num
theorem two : (Ideal.ofBits FTy.f32 0x40000000#32 : EReal) = ((2 : ℝ) : EReal) := by
  simp [Ideal.ofBits, Ideal.ieee]
  rw [← EReal.coe_mul]
  congr 1
  norm_num
theorem log_two : (Ideal.log (Ideal.ofBits FTy.f32 0x40000000#32) : EReal) = ((Real.log 2 : ℝ) : EReal) := by
  rw [two, Ideal.log_coe]
  norm_num

theorem sc_real (x0 : Vec Ideal S1x2048x128 .bf16) (x1 : Vec Ideal S1x4096x128 .bf16) (x3 : Vec Ideal S1x1x8x2x512 .f32) (x4 : Vec Ideal S1x1x2048x2 .f32)
    (u : Fin 4) (a : Fin 2) (r : Fin 512) (q : Fin 128 → ℝ) (kk : ℕ → Fin 128 → ℝ) (ck : ℕ → ℝ) (cq : ℝ)
    (h0 : ∀ d, (x0 (ix3 0 ⟨512 * u.val + r.val, by omega⟩ d) : EReal) = (q d : EReal))
    (h1 : ∀ (k : Fin 4096) d, (x1 (ix3 0 k d) : EReal) = (kk k.val d : EReal))
    (h3 : ∀ (j : Fin 8) (l : Fin 512), (x3 (ix5 0 0 j a l) : EReal) = (ck (512 * j.val + l.val) : EReal))
    (h4 : (x4 (ix4 0 0 ⟨512 * u.val + r.val, by omega⟩ a) : EReal) = (cq : EReal)) (k : ℕ) (hk : k < 4096) :
    sc x0 x1 x3 x4 u a r k
      = (((Real.log 2)⁻¹ * ((∑ d : Fin 64, q ⟨64 * a.val + d.val, by omega⟩ * kk k ⟨64 * a.val + d.val, by omega⟩) * (1 / 8) + cq * Real.log 2 - ck k * Real.log 2) : ℝ) : EReal) := by
  unfold sc
  rw [dif_pos hk, h3, h4]
  have es : (∑ d : Fin 128, qv x0 u a r d * (x1 (ix3 0 ⟨k, hk⟩ d) : EReal))
      = ((∑ d : Fin 128, (if d.val / 64 = a.val then q d * ((1 / 8) * (Real.log 2)⁻¹) * kk k d else 0) : ℝ) : EReal) := by
    rw [coe_sum]
    refine Finset.sum_congr rfl fun d _ => ?_
    unfold qv κs
    rw [h1]
    by_cases h : d.val / 64 = a.val
    · rw [if_pos h, if_pos h, h0, ← EReal.coe_mul, ← EReal.coe_mul]
    · rw [if_neg h, if_neg h, zero_mul, EReal.coe_zero]
  have ek : (512 * (⟨k / 512, by omega⟩ : Fin 8).val + (⟨k % 512, by omega⟩ : Fin 512).val) = k := by
    show 512 * (k / 512) + k % 512 = k
    omega
  rw [es, ek, halves (fun d => q d * ((1 / 8) * (Real.log 2)⁻¹) * kk k d), ← EReal.coe_sub, ← EReal.coe_add]
  congr 1
  have e1 : (∑ d : Fin 64, q ⟨64 * a.val + d.val, by omega⟩ * ((1 / 8) * (Real.log 2)⁻¹) * kk k ⟨64 * a.val + d.val, by omega⟩)
      = (∑ d : Fin 64, q ⟨64 * a.val + d.val, by omega⟩ * kk k ⟨64 * a.val + d.val, by omega⟩) * ((1 / 8) * (Real.log 2)⁻¹) := by
    rw [Finset.sum_mul]
    exact Finset.sum_congr rfl fun d _ => by ring
  have hL : (Real.log 2)⁻¹ * Real.log 2 = 1 := inv_mul_cancel₀ (Real.log_pos (by norm_num)).ne'
  refine (congrArg (fun z : ℝ => z - ck k + cq) e1).trans ?_
  generalize (∑ d : Fin 64, q ⟨64 * a.val + d.val, _⟩ * kk k ⟨64 * a.val + d.val, _⟩) = A
  generalize Real.log 2 = L at hL
  have e2 : L⁻¹ * (A * (1 / 8) + cq * L - ck k * L) = A * ((1 / 8) * L⁻¹) + (cq - ck k) * (L⁻¹ * L) := by ring
  rw [e2, hL]
  ring

/-- The softmax's mean of the values at an index. -/
def att (X : FVec Ideal S16x4096x3072 .bf16) (G : FVec Ideal S16x4096x16 .f32) (b h : Fin 16) (s : Fin 4096) (n : Fin 1024) : EReal :=
  ∑ k : Fin 4096, (X (ix3 b k ⟨2048 + n.val, by omega⟩) : EReal)
    * Ideal.div (Ideal.exp ((scores X G (ix4 b h s k) : EReal) - (Finset.univ : Finset (Fin 4096)).sup fun k => (scores X G (ix4 b h s k) : EReal)))
      (∑ k : Fin 4096, Ideal.exp ((scores X G (ix4 b h s k) : EReal) - (Finset.univ : Finset (Fin 4096)).sup fun k => (scores X G (ix4 b h s k) : EReal)))

/-- The array both programs compute. -/
def result (X : FVec Ideal S16x4096x3072 .bf16) (G : FVec Ideal S16x4096x16 .f32) : FVec Ideal S16x4096x1024 .bf16 :=
  fun y => att X G (y 0) ⟨(y 2).val / 64, by have : (y 2).val < 1024 := (y 2).isLt; omega⟩ (y 1) (y 2)

variable (m : (ℓ : Loc nD τ sig) → Buf (Elt Ideal) ℓ) (c : Dev nD) (X : FVec Ideal S16x4096x3072 .bf16) (G : FVec Ideal S16x4096x16 .f32)
  (hX : m (c, Proc.tc.devRef main_arg0) = X) (hG : m (c, Proc.tc.devRef main_arg1) = G)
  (p : Fin 16 → Fin 4096 → Fin 3072 → ℝ) (g : Fin 16 → Fin 4096 → Fin 16 → ℝ)
  (hp : ∀ b s n, n.val < 2048 → (X (ix3 b s n) : EReal) = (p b s n : EReal)) (hg : ∀ b s n, (G (ix3 b s n) : EReal) = (g b s n : EReal))

include hX hG hp hg in
theorem point_ix (t : Fin cfg0.N) (u : Fin 4) (r : Fin 512) (l : Fin 128) (b h : Fin 16) (s : Fin 4096) (n : Fin 1024)
    (hb : b.val = t.val / 16) (hh : h.val = 2 * (t.val / 2 % 8) + l.val / 64) (hs : s.val = 2048 * (t.val % 2) + (512 * u.val + r.val))
    (hn : n.val = 128 * (t.val / 2 % 8) + l.val) :
    (outsAt0 m c t (ix3 0 ⟨512 * u.val + r.val, by omega⟩ l) : EReal) = att X G b h s n := by
  have ht := lt_N t
  have hbt : t.val / 16 < 16 := by clear hb hh hs hn; omega
  obtain rfl : b = ⟨t.val / 16, hbt⟩ := Fin.ext hb
  unfold outsAt0
  refine (block_ix _ _ _ _ _ _ _ _ _ _ _ _ _ _ _ _ _ _ _ _ _ _ _ _ _ u r l).trans ?_
  rw [half_eq t]
  have e0 : ∀ d : Fin 128, (iblk m c 0 t (ix3 0 ⟨512 * u.val + r.val, by omega⟩ d) : EReal) = (p ⟨t.val / 16, hbt⟩ s ⟨128 * (t.val / 2 % 8) + d.val, by omega⟩ : EReal) := by
    intro d
    rw [blk0 m c t ⟨512 * u.val + r.val, by omega⟩ d s.val (128 * (t.val / 2 % 8) + d.val) hs rfl, hX]
    exact hp _ _ _ (by show 128 * (t.val / 2 % 8) + d.val < 2048; omega)
  have e1 : ∀ (k : Fin 4096) (d : Fin 128), (iblk m c 1 t (ix3 0 k d) : EReal)
      = ((fun (k : ℕ) (d : Fin 128) => if hk : k < 4096 then p ⟨t.val / 16, hbt⟩ ⟨k, hk⟩ ⟨1024 + (128 * (t.val / 2 % 8) + d.val), by omega⟩ else 0) k.val d : EReal) := by
    intro k d
    rw [blk1 m c t k d _ rfl, hX]
    show _ = ((if hk : k.val < 4096 then _ else _ : ℝ) : EReal)
    rw [dif_pos k.isLt]
    exact hp _ _ _ (by show 1024 + (128 * (t.val / 2 % 8) + d.val) < 2048; omega)
  have e2 : ∀ (k : Fin 4096), (iblk m c 2 t (ix3 0 k l) : EReal) = X (ix3 ⟨t.val / 16, hbt⟩ k ⟨2048 + n.val, by omega⟩) := by
    intro k
    rw [blk2 m c t k l (2048 + n.val) (by omega), hX]
  have e3 : ∀ (j : Fin 8) (q : Fin 512), (iblk m c 3 t (ix5 0 0 j ⟨l.val / 64, by omega⟩ q) : EReal)
      = ((fun k : ℕ => if hk : k < 4096 then g ⟨t.val / 16, hbt⟩ ⟨k, hk⟩ h else 0) (512 * j.val + q.val) : EReal) := by
    intro j q
    have ha : (⟨2 * (t.val / 2 % 8) + l.val / 64, by omega⟩ : Fin 16) = h := Fin.ext hh.symm
    rw [blk3 m c t]
    refine (v2 m c _ _ _ _ _).trans ?_
    rw [hG]
    show _ = ((if hk : 512 * j.val + q.val < 4096 then _ else _ : ℝ) : EReal)
    rw [dif_pos (by omega), ← hg]
    exact congrArg (fun z => (G (ix3 _ _ z) : EReal)) ha
  have e4 : (iblk m c 4 t (ix4 0 0 ⟨512 * u.val + r.val, by omega⟩ ⟨l.val / 64, by omega⟩) : EReal) = (g ⟨t.val / 16, hbt⟩ s h : EReal) := by
    have ha : (⟨2 * (t.val / 2 % 8) + l.val / 64, by omega⟩ : Fin 16) = h := Fin.ext hh.symm
    have hse : (⟨2048 * (t.val % 2) + (512 * u.val + r.val), by omega⟩ : Fin 4096) = s := Fin.ext hs.symm
    rw [blk4 m c t]
    refine (v4 m c _ _ _ _).trans ?_
    rw [hG, ← hg]
    exact congrArg₂ (fun y z => (G (ix3 _ y z) : EReal)) hse ha
  have hsc := sc_real (iblk m c 0 t) (iblk m c 1 t) (iblk m c 3 t) (iblk m c 4 t) u ⟨l.val / 64, by omega⟩ r
    (fun d => p ⟨t.val / 16, hbt⟩ s ⟨128 * (t.val / 2 % 8) + d.val, by omega⟩)
    (fun (k : ℕ) (d : Fin 128) => if hk : k < 4096 then p ⟨t.val / 16, hbt⟩ ⟨k, hk⟩ ⟨1024 + (128 * (t.val / 2 % 8) + d.val), by omega⟩ else 0)
    (fun k : ℕ => if hk : k < 4096 then g ⟨t.val / 16, hbt⟩ ⟨k, hk⟩ h else 0) (g ⟨t.val / 16, hbt⟩ s h) e0 e1 e3 e4
  refine (soft (fun k => (scores X G (ix4 ⟨t.val / 16, hbt⟩ h s k) : EReal)) s.val s.isLt
    (fun k => (∑ d : Fin 64, p ⟨t.val / 16, hbt⟩ s ⟨128 * (t.val / 2 % 8) + (64 * (l.val / 64) + d.val), by omega⟩
        * (if hk : k < 4096 then p ⟨t.val / 16, hbt⟩ ⟨k, hk⟩ ⟨1024 + (128 * (t.val / 2 % 8) + (64 * (l.val / 64) + d.val)), by omega⟩ else 0)) * (1 / 8)
      + g ⟨t.val / 16, hbt⟩ s h * Real.log 2 - (if hk : k < 4096 then g ⟨t.val / 16, hbt⟩ ⟨k, hk⟩ h else 0) * Real.log 2) ?_ _ _ ?_ _ ?_ ?_).trans ?_
  · intro k
    refine (scores_ix X G ⟨t.val / 16, hbt⟩ h s k).trans ?_
    rw [Cert.Reference12Ideal.FoxRef.negInf, eighth, log_two]
    by_cases hks : k.val ≤ s.val
    · rw [if_pos hks, if_pos hks]
      have es : (∑ d : Fin 64, (X (ix3 ⟨t.val / 16, hbt⟩ s ⟨64 * h.val + d.val, by omega⟩) : EReal) * X (ix3 ⟨t.val / 16, hbt⟩ k ⟨1024 + 64 * h.val + d.val, by omega⟩))
          = ((∑ d : Fin 64, p ⟨t.val / 16, hbt⟩ s ⟨128 * (t.val / 2 % 8) + (64 * (l.val / 64) + d.val), by omega⟩
            * (if hk : k.val < 4096 then p ⟨t.val / 16, hbt⟩ ⟨k.val, hk⟩ ⟨1024 + (128 * (t.val / 2 % 8) + (64 * (l.val / 64) + d.val)), by omega⟩ else 0) : ℝ) : EReal) := by
        rw [coe_sum]
        refine Finset.sum_congr rfl fun d _ => ?_
        have i1 : (⟨64 * h.val + d.val, by omega⟩ : Fin 3072) = ⟨128 * (t.val / 2 % 8) + (64 * (l.val / 64) + d.val), by omega⟩ := Fin.ext (by show 64 * h.val + d.val = 128 * (t.val / 2 % 8) + (64 * (l.val / 64) + d.val); omega)
        have i2 : (⟨1024 + 64 * h.val + d.val, by omega⟩ : Fin 3072) = ⟨1024 + (128 * (t.val / 2 % 8) + (64 * (l.val / 64) + d.val)), by omega⟩ :=
          Fin.ext (by show 1024 + 64 * h.val + d.val = 1024 + (128 * (t.val / 2 % 8) + (64 * (l.val / 64) + d.val)); omega)
        rw [dif_pos k.isLt, EReal.coe_mul, hp _ _ ⟨64 * h.val + d.val, by omega⟩ (by show 64 * h.val + d.val < 2048; omega),
          hp _ _ ⟨1024 + 64 * h.val + d.val, by omega⟩ (by show 1024 + 64 * h.val + d.val < 2048; omega), i1, i2]
      rw [es, hg, hg, dif_pos k.isLt]
      simp only [EReal.coe_mul, EReal.coe_add, EReal.coe_sub]
    · rw [if_neg hks, if_neg hks]
  · intro k
    unfold tt
    rw [← hs]
    by_cases hks : k ≤ s.val
    · rw [if_pos hks, if_pos hks]
      exact hsc k (by omega)
    · rw [if_neg hks, if_neg hks]
  · omega
  · omega
  · unfold att
    refine Finset.sum_congr rfl fun k _ => ?_
    have hw : ww (iblk m c 2 t) ⟨l.val / 64, by omega⟩ l k.val = (X (ix3 ⟨t.val / 16, hbt⟩ k ⟨2048 + n.val, by omega⟩) : EReal) := by
      unfold ww
      rw [dif_pos k.isLt, if_pos rfl]
      exact e2 k
    rw [hw]

theorem result_at (y : S16x4096x1024.Idx) (b h : Fin 16) (s : Fin 4096) (n : Fin 1024) (h0 : (y 0).val = b.val) (h1 : (y 1).val = s.val) (h2 : (y 2).val = n.val)
    (hh : h.val = n.val / 64) : (result X G y : EReal) = att X G b h s n := by
  obtain ⟨y0, y1, y2, rfl⟩ : ∃ (y0 : Fin 16) (y1 : Fin 4096) (y2 : Fin 1024), y = ix3 y0 y1 y2 := ⟨y 0, y 1, y 2, eq_ix3 y⟩
  obtain rfl : y0 = b := Fin.ext h0
  obtain rfl : y1 = s := Fin.ext h1
  obtain rfl : y2 = n := Fin.ext h2
  exact congrArg (fun z => att X G y0 z y1 y2) (Fin.ext hh.symm)

include hX hG hp hg in
theorem final : (dats m 0 c).arrAt 5 cfg0.N = result X G := by
  refine (dats m 0 c).arrAt_eq_of_covers 5 _ (by decide +kernel) fun t hf y => ?_
  blk_simp
  rw [after0_5]
  have hlt := lt_N t
  obtain ⟨z, q, l, rfl⟩ : ∃ (z : Fin 1) (q : Fin 2048) (l : Fin 128), y = ix3 z q l := ⟨y 0, y 1, y 2, eq_ix3 y⟩
  obtain rfl : z = 0 := Subsingleton.elim _ _
  have hq : q = ⟨512 * (⟨q.val / 512, by omega⟩ : Fin 4).val + (⟨q.val % 512, by omega⟩ : Fin 512).val, by show 512 * (q.val / 512) + q.val % 512 < 2048; omega⟩ :=
    Fin.ext (by show q.val = 512 * (q.val / 512) + q.val % 512; omega)
  have e0 : (((win0_5.blk t).view.emb (ix3 0 q l)) 0).val = t.val / 16 := by blk_simp [(idx t).2.2.2.2.2]; simp
  have e1 : (((win0_5.blk t).view.emb (ix3 0 q l)) 1).val = 2048 * (t.val % 2) + q.val := by blk_simp [(idx t).2.2.2.2.2]; simp; omega
  have e2 : (((win0_5.blk t).view.emb (ix3 0 q l)) 2).val = 128 * (t.val / 2 % 8) + l.val := by blk_simp [(idx t).2.2.2.2.2]; simp; omega
  refine Eq.trans ?_ (result_at X G _ ⟨t.val / 16, by omega⟩ ⟨2 * (t.val / 2 % 8) + l.val / 64, by omega⟩ ⟨2048 * (t.val % 2) + q.val, by omega⟩
    ⟨128 * (t.val / 2 % 8) + l.val, by omega⟩ e0 e1 e2 (by show 2 * (t.val / 2 % 8) + l.val / 64 = (128 * (t.val / 2 % 8) + l.val) / 64; omega)).symm
  have hpt := point_ix m c X G hX hG p g hp hg t ⟨q.val / 512, by omega⟩ ⟨q.val % 512, by omega⟩ l ⟨t.val / 16, by omega⟩ ⟨2 * (t.val / 2 % 8) + l.val / 64, by omega⟩
    ⟨2048 * (t.val % 2) + q.val, by omega⟩ ⟨128 * (t.val / 2 % 8) + l.val, by omega⟩ rfl rfl (by show 2048 * (t.val % 2) + q.val = 2048 * (t.val % 2) + (512 * (q.val / 512) + q.val % 512); omega) rfl
  rw [← hq] at hpt
  exact hpt

end Cert.FoxI
-- ==== Proof.FoxClaim.lean ====
module

public import proofs.«01_k».proof.Defs
public import proofs.«01_k».proof.Proof.FoxAlg
public import proofs.«01_k».proof.Proof.FoxBits
public import proofs.«01_k».proof.Proof.RetClaim
public import Idealize.ShloMosaic.Lib.Quiescent

@[expose] public section

set_option maxRecDepth 16384

noncomputable section

/-! The claims about forgetting attention's core and its reference. -/

namespace Cert.Proof

open Idealize.ShloMosaic Idealize.ShloMosaic.TcCoe Idealize.SL.Sem

/-- The side conditions of the precondition. -/
theorem pre_facts12 : Cert.Pre_finite12.Facts where
  slices_S16x4096x3072_S16x4096x2048_0_0_0 := by decide
  bitsLt_bf16_f32 := by decide
  concatenates_S16x4096x2048_S16x4096x16_S16x4096x2064_d2 := by decide
  bcast_S_S16x4096x2064 := by decide

/-- Where the precondition holds, the queries and keys are real numbers. -/
theorem proj_real [Cert.Pre_finite12.Facts] (X : FVec Ideal Cert.Pre_finite12.S16x4096x3072 .bf16) (G : FVec Ideal Cert.Pre_finite12.S16x4096x16 .f32)
    (h : Cert.Pre_finite12.fn (F := Ideal) X G = fun _ => 1#1) (b : Fin 16) (s : Fin 4096) (n : Fin 3072) (hn : n.val < 2048) :
    ∃ r : ℝ, (X (ix3 b s n) : EReal) = (r : EReal) := by
  have e := congrFun h (ix3 b s ⟨n.val, by omega⟩)
  unfold Cert.Pre_finite12.fn at e
  pointwise at e
  rw [dif_pos hn] at e
  exact real_of_lt _ _ (of_bit _ e)

/-- And so are the sums of the gates. -/
theorem gate_real [Cert.Pre_finite12.Facts] (X : FVec Ideal Cert.Pre_finite12.S16x4096x3072 .bf16) (G : FVec Ideal Cert.Pre_finite12.S16x4096x16 .f32)
    (h : Cert.Pre_finite12.fn (F := Ideal) X G = fun _ => 1#1) (b : Fin 16) (s : Fin 4096) (n : Fin 16) :
    ∃ r : ℝ, (G (ix3 b s n) : EReal) = (r : EReal) := by
  have e := congrFun h (ix3 b s ⟨2048 + n.val, by omega⟩)
  unfold Cert.Pre_finite12.fn at e
  pointwise at e
  exact real_of_lt _ _ (of_bit _ e)

theorem frame_K12 : Cert.quiescent_Kernel12 (hKernel12 := Cert.Kernel12.Gen.facts) := fun m g _ => Cert.FoxB.frame m g
theorem frame_KI12 : Cert.quiescent_Kernel12Ideal (hKernel12Ideal := Cert.Kernel12Ideal.Gen.facts) := fun m g _ => Cert.FoxI.frame m g
theorem frame_KI12_pre : Cert.quiescent_Kernel12Ideal_pre_finite12 (hKernel12Ideal := Cert.Kernel12Ideal.Gen.facts) (hPre_finite12 := pre_facts12) :=
  fun m g _ => Cert.FoxI.frame m g
theorem frame_R12 : Cert.quiescent_Reference12Ideal (hReference12Ideal := Cert.Reference12Ideal.Gen.facts) := fun m g _ =>
  (θ_run _ _ _).mono (fun r h => ⟨fun c => (h c).2, sem_eq_zero_of_no_sems (by decide) r.2⟩) (Cert.Reference12Ideal.Value.run m g)
theorem frame_R12_pre : Cert.quiescent_Reference12Ideal_pre_finite12 (hReference12Ideal := Cert.Reference12Ideal.Gen.facts) (hPre_finite12 := pre_facts12) :=
  fun m g _ => frame_R12 m g trivial

theorem preserves12 : Cert.preserves_Kernel12_Kernel12Ideal :=
  IdealRules.named_const.statement Cert.Kernel12Ideal.κ "log2e_over_8" .f32 0x3E38AA3B#32 (((1/8) * (Real.log 2)⁻¹ : ℝ) : EReal) rfl

/-- The kernel and the reference compute the same array of extended reals. -/
theorem algebraic12 : Cert.algebraic_Kernel12Ideal_Reference12Ideal_pre_finite12 (hKernel12Ideal := Cert.Kernel12Ideal.Gen.facts)
    (hReference12Ideal := Cert.Reference12Ideal.Gen.facts) (hPre_finite12 := pre_facts12) := by
  intro m g m' g' hpre hargs
  have hP := pre_facts12
  refine ⟨fun c => Cert.FoxI.result (m (c, Proc.tc.devRef Cert.Kernel12Ideal.main_arg0)) (m (c, Proc.tc.devRef Cert.Kernel12Ideal.main_arg1)), ?_, ?_⟩
  · refine (θ_run _ _ _).mono (fun r h c => ⟨(h c).1.trans ?_, (h c).2⟩) (Cert.FoxI.run_blocks m g)
    choose q hq using gate_real _ _ (hpre c)
    refine Cert.FoxI.final m c _ _ rfl rfl (fun b s n => (m (c, Proc.tc.devRef Cert.Kernel12Ideal.main_arg0) (ix3 b s n) : EReal).toReal) q (fun b s n hn => ?_) hq
    obtain ⟨r, hr⟩ := proj_real _ _ (hpre c) b s n hn
    exact hr.trans (((congrArg EReal.toReal hr).trans (EReal.toReal_coe r)).symm ▸ rfl)
  · refine (θ_run _ _ _).mono (fun r h c => ⟨(h c).1.trans ?_, (h c).2⟩) (Cert.Reference12Ideal.Value.run m' g')
    have h0 : m' (c, Proc.tc.devRef Cert.Reference12Ideal.main_arg0) = m (c, Proc.tc.devRef Cert.Kernel12Ideal.main_arg0) := (hargs c).1
    have h1 : m' (c, Proc.tc.devRef Cert.Reference12Ideal.main_arg1) = m (c, Proc.tc.devRef Cert.Kernel12Ideal.main_arg1) := (hargs c).2
    refine funext fun i => ?_
    obtain ⟨b, s, n, rfl⟩ : ∃ (b : Fin 16) (s : Fin 4096) (n : Fin 1024), i = ix3 b s n := ⟨i 0, i 1, i 2, eq_ix3 i⟩
    exact Cert.Reference12Ideal.FoxRef.out_ix m' c _ _ h0 h1 b s n

end Cert.Proof
-- ==== Proof.lean ====
module

public import proofs.«01_k».proof.Defs
public import proofs.«01_k».proof.Proof.RetClaim
public import proofs.«01_k».proof.Proof.Proj2
public import proofs.«01_k».proof.Proof.Proj3
public import proofs.«01_k».proof.Proof.Proj4
public import proofs.«01_k».proof.Proof.Proj5
public import proofs.«01_k».proof.Proof.Proj6
public import proofs.«01_k».proof.Proof.Proj7
public import proofs.«01_k».proof.Proof.Proj8
public import proofs.«01_k».proof.Proof.Proj9
public import proofs.«01_k».proof.Proof.FoxClaim

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel12.Gen.facts, Cert.Kernel12Ideal.Gen.facts, Cert.Reference12Ideal.Gen.facts,
  pre_facts, pre_facts12,
  frame_K, frame_KI, frame_KI_pre, frame_R, frame_R_pre,
  frame_K2, frame_KI2, frame_R2, frame_K3, frame_KI3, frame_R3, frame_K4, frame_KI4, frame_R4, frame_K5, frame_KI5, frame_R5, frame_K6, frame_KI6, frame_R6, frame_K7, frame_KI7, frame_R7, frame_K8, frame_KI8, frame_R8, frame_K9, frame_KI9, frame_R9,
  frame_K12, frame_KI12, frame_KI12_pre, frame_R12, frame_R12_pre,
  trivial, algebraic_ret,
  trivial, algebraic2, trivial, algebraic3, trivial, algebraic4, trivial, algebraic5, trivial, algebraic6, trivial, algebraic7, trivial, algebraic8, trivial, algebraic9, preserves12, algebraic12⟩

end Cert.Proof

end
